-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def Pre_Stage1 (m : (ℓ : Loc Cert.Stage1.nD Cert.Stage1.τ Cert.Stage1.sig) → Buf (Elt Bits) ℓ) : Prop :=
  True

def Pre_Stage1Ideal (m : (ℓ : Loc Cert.Stage1Ideal.nD Cert.Stage1Ideal.τ Cert.Stage1Ideal.sig) → Buf (Elt Ideal) ℓ) : Prop :=
  True

def Pre_Stage1Ideal_finite_map [hPre_finite_map : Cert.Pre_finite_map.Facts] (m : (ℓ : Loc Cert.Stage1Ideal.nD Cert.Stage1Ideal.τ Cert.Stage1Ideal.sig) → Buf (Elt Ideal) ℓ) : Prop :=
  ∀ c : Dev Cert.Stage1Ideal.nD,
    (Cert.Pre_finite_map.fn (F := Ideal) (m ((c.tc : Thread Cert.Stage1Ideal.nD Cert.Stage1Ideal.τ).loc Cert.Stage1Ideal.main_arg0)) (m ((c.tc : Thread Cert.Stage1Ideal.nD Cert.Stage1Ideal.τ).loc Cert.Stage1Ideal.main_arg1)) (m ((c.tc : Thread Cert.Stage1Ideal.nD Cert.Stage1Ideal.τ).loc Cert.Stage1Ideal.main_arg2)) (m ((c.tc : Thread Cert.Stage1Ideal.nD Cert.Stage1Ideal.τ).loc Cert.Stage1Ideal.main_arg3)) (m ((c.tc : Thread Cert.Stage1Ideal.nD Cert.Stage1Ideal.τ).loc Cert.Stage1Ideal.main_arg4)) (m ((c.tc : Thread Cert.Stage1Ideal.nD Cert.Stage1Ideal.τ).loc Cert.Stage1Ideal.main_arg5))) = (fun _ => 1#1)

def Pre_FirstMapIdeal (m : (ℓ : Loc Cert.FirstMapIdeal.nD Cert.FirstMapIdeal.τ Cert.FirstMapIdeal.sig) → Buf (Elt Ideal) ℓ) : Prop :=
  True

def Pre_FirstMapIdeal_finite_map [hPre_finite_map : Cert.Pre_finite_map.Facts] (m : (ℓ : Loc Cert.FirstMapIdeal.nD Cert.FirstMapIdeal.τ Cert.FirstMapIdeal.sig) → Buf (Elt Ideal) ℓ) : Prop :=
  ∀ c : Dev Cert.FirstMapIdeal.nD,
    (Cert.Pre_finite_map.fn (F := Ideal) (m ((c.tc : Thread Cert.FirstMapIdeal.nD Cert.FirstMapIdeal.τ).loc Cert.FirstMapIdeal.main_arg0)) (m ((c.tc : Thread Cert.FirstMapIdeal.nD Cert.FirstMapIdeal.τ).loc Cert.FirstMapIdeal.main_arg1)) (m ((c.tc : Thread Cert.FirstMapIdeal.nD Cert.FirstMapIdeal.τ).loc Cert.FirstMapIdeal.main_arg2)) (m ((c.tc : Thread Cert.FirstMapIdeal.nD Cert.FirstMapIdeal.τ).loc Cert.FirstMapIdeal.main_arg3)) (m ((c.tc : Thread Cert.FirstMapIdeal.nD Cert.FirstMapIdeal.τ).loc Cert.FirstMapIdeal.main_arg4)) (m ((c.tc : Thread Cert.FirstMapIdeal.nD Cert.FirstMapIdeal.τ).loc Cert.FirstMapIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Stage1 [hStage1 : Cert.Stage1.Facts] : Prop :=
  ∀ (m : (ℓ : Loc Cert.Stage1.nD Cert.Stage1.τ Cert.Stage1.sig) → Buf (Elt Bits) ℓ) (g : Dev Cert.Stage1.nD → PrngReg), Pre_Stage1 m →
    θ_run (Cert.Stage1.defs (F := Bits)) (onTc (τ := Cert.Stage1.τ) (Cert.Stage1.main (F := Bits))) ⟨m, fun _ => 0, g⟩ (fun r => (∀ c : Dev Cert.Stage1.nD,
      r.2.mem ((c.tc : Thread Cert.Stage1.nD Cert.Stage1.τ).loc Cert.Stage1.main_arg0) = m ((c.tc : Thread Cert.Stage1.nD Cert.Stage1.τ).loc Cert.Stage1.main_arg0)
      ∧ r.2.mem ((c.tc : Thread Cert.Stage1.nD Cert.Stage1.τ).loc Cert.Stage1.main_arg1) = m ((c.tc : Thread Cert.Stage1.nD Cert.Stage1.τ).loc Cert.Stage1.main_arg1)
      ∧ r.2.mem ((c.tc : Thread Cert.Stage1.nD Cert.Stage1.τ).loc Cert.Stage1.main_arg2) = m ((c.tc : Thread Cert.Stage1.nD Cert.Stage1.τ).loc Cert.Stage1.main_arg2)
      ∧ r.2.mem ((c.tc : Thread Cert.Stage1.nD Cert.Stage1.τ).loc Cert.Stage1.main_arg3) = m ((c.tc : Thread Cert.Stage1.nD Cert.Stage1.τ).loc Cert.Stage1.main_arg3)
      ∧ r.2.mem ((c.tc : Thread Cert.Stage1.nD Cert.Stage1.τ).loc Cert.Stage1.main_arg4) = m ((c.tc : Thread Cert.Stage1.nD Cert.Stage1.τ).loc Cert.Stage1.main_arg4)
      ∧ r.2.mem ((c.tc : Thread Cert.Stage1.nD Cert.Stage1.τ).loc Cert.Stage1.main_arg5) = m ((c.tc : Thread Cert.Stage1.nD Cert.Stage1.τ).loc Cert.Stage1.main_arg5))
      ∧ r.2.sem = fun _ => 0)

def quiescent_Stage1Ideal [hStage1Ideal : Cert.Stage1Ideal.Facts] : Prop :=
  ∀ (m : (ℓ : Loc Cert.Stage1Ideal.nD Cert.Stage1Ideal.τ Cert.Stage1Ideal.sig) → Buf (Elt Ideal) ℓ) (g : Dev Cert.Stage1Ideal.nD → PrngReg), Pre_Stage1Ideal m →
    θ_run (Cert.Stage1Ideal.defs (F := Ideal)) (onTc (τ := Cert.Stage1Ideal.τ) (Cert.Stage1Ideal.main (F := Ideal))) ⟨m, fun _ => 0, g⟩ (fun r => (∀ c : Dev Cert.Stage1Ideal.nD,
      r.2.mem ((c.tc : Thread Cert.Stage1Ideal.nD Cert.Stage1Ideal.τ).loc Cert.Stage1Ideal.main_arg0) = m ((c.tc : Thread Cert.Stage1Ideal.nD Cert.Stage1Ideal.τ).loc Cert.Stage1Ideal.main_arg0)
      ∧ r.2.mem ((c.tc : Thread Cert.Stage1Ideal.nD Cert.Stage1Ideal.τ).loc Cert.Stage1Ideal.main_arg1) = m ((c.tc : Thread Cert.Stage1Ideal.nD Cert.Stage1Ideal.τ).loc Cert.Stage1Ideal.main_arg1)
      ∧ r.2.mem ((c.tc : Thread Cert.Stage1Ideal.nD Cert.Stage1Ideal.τ).loc Cert.Stage1Ideal.main_arg2) = m ((c.tc : Thread Cert.Stage1Ideal.nD Cert.Stage1Ideal.τ).loc Cert.Stage1Ideal.main_arg2)
      ∧ r.2.mem ((c.tc : Thread Cert.Stage1Ideal.nD Cert.Stage1Ideal.τ).loc Cert.Stage1Ideal.main_arg3) = m ((c.tc : Thread Cert.Stage1Ideal.nD Cert.Stage1Ideal.τ).loc Cert.Stage1Ideal.main_arg3)
      ∧ r.2.mem ((c.tc : Thread Cert.Stage1Ideal.nD Cert.Stage1Ideal.τ).loc Cert.Stage1Ideal.main_arg4) = m ((c.tc : Thread Cert.Stage1Ideal.nD Cert.Stage1Ideal.τ).loc Cert.Stage1Ideal.main_arg4)
      ∧ r.2.mem ((c.tc : Thread Cert.Stage1Ideal.nD Cert.Stage1Ideal.τ).loc Cert.Stage1Ideal.main_arg5) = m ((c.tc : Thread Cert.Stage1Ideal.nD Cert.Stage1Ideal.τ).loc Cert.Stage1Ideal.main_arg5))
      ∧ r.2.sem = fun _ => 0)

def quiescent_Stage1Ideal_pre_finite_map [hStage1Ideal : Cert.Stage1Ideal.Facts] [hPre_finite_map : Cert.Pre_finite_map.Facts] : Prop :=
  ∀ (m : (ℓ : Loc Cert.Stage1Ideal.nD Cert.Stage1Ideal.τ Cert.Stage1Ideal.sig) → Buf (Elt Ideal) ℓ) (g : Dev Cert.Stage1Ideal.nD → PrngReg), Pre_Stage1Ideal_finite_map m →
    θ_run (Cert.Stage1Ideal.defs (F := Ideal)) (onTc (τ := Cert.Stage1Ideal.τ) (Cert.Stage1Ideal.main (F := Ideal))) ⟨m, fun _ => 0, g⟩ (fun r => (∀ c : Dev Cert.Stage1Ideal.nD,
      r.2.mem ((c.tc : Thread Cert.Stage1Ideal.nD Cert.Stage1Ideal.τ).loc Cert.Stage1Ideal.main_arg0) = m ((c.tc : Thread Cert.Stage1Ideal.nD Cert.Stage1Ideal.τ).loc Cert.Stage1Ideal.main_arg0)
      ∧ r.2.mem ((c.tc : Thread Cert.Stage1Ideal.nD Cert.Stage1Ideal.τ).loc Cert.Stage1Ideal.main_arg1) = m ((c.tc : Thread Cert.Stage1Ideal.nD Cert.Stage1Ideal.τ).loc Cert.Stage1Ideal.main_arg1)
      ∧ r.2.mem ((c.tc : Thread Cert.Stage1Ideal.nD Cert.Stage1Ideal.τ).loc Cert.Stage1Ideal.main_arg2) = m ((c.tc : Thread Cert.Stage1Ideal.nD Cert.Stage1Ideal.τ).loc Cert.Stage1Ideal.main_arg2)
      ∧ r.2.mem ((c.tc : Thread Cert.Stage1Ideal.nD Cert.Stage1Ideal.τ).loc Cert.Stage1Ideal.main_arg3) = m ((c.tc : Thread Cert.Stage1Ideal.nD Cert.Stage1Ideal.τ).loc Cert.Stage1Ideal.main_arg3)
      ∧ r.2.mem ((c.tc : Thread Cert.Stage1Ideal.nD Cert.Stage1Ideal.τ).loc Cert.Stage1Ideal.main_arg4) = m ((c.tc : Thread Cert.Stage1Ideal.nD Cert.Stage1Ideal.τ).loc Cert.Stage1Ideal.main_arg4)
      ∧ r.2.mem ((c.tc : Thread Cert.Stage1Ideal.nD Cert.Stage1Ideal.τ).loc Cert.Stage1Ideal.main_arg5) = m ((c.tc : Thread Cert.Stage1Ideal.nD Cert.Stage1Ideal.τ).loc Cert.Stage1Ideal.main_arg5))
      ∧ r.2.sem = fun _ => 0)

def quiescent_FirstMapIdeal [hFirstMapIdeal : Cert.FirstMapIdeal.Facts] : Prop :=
  ∀ (m : (ℓ : Loc Cert.FirstMapIdeal.nD Cert.FirstMapIdeal.τ Cert.FirstMapIdeal.sig) → Buf (Elt Ideal) ℓ) (g : Dev Cert.FirstMapIdeal.nD → PrngReg), Pre_FirstMapIdeal m →
    θ_run (Cert.FirstMapIdeal.defs (F := Ideal)) (onTc (τ := Cert.FirstMapIdeal.τ) (Cert.FirstMapIdeal.main (F := Ideal))) ⟨m, fun _ => 0, g⟩ (fun r => (∀ c : Dev Cert.FirstMapIdeal.nD,
      r.2.mem ((c.tc : Thread Cert.FirstMapIdeal.nD Cert.FirstMapIdeal.τ).loc Cert.FirstMapIdeal.main_arg0) = m ((c.tc : Thread Cert.FirstMapIdeal.nD Cert.FirstMapIdeal.τ).loc Cert.FirstMapIdeal.main_arg0)
      ∧ r.2.mem ((c.tc : Thread Cert.FirstMapIdeal.nD Cert.FirstMapIdeal.τ).loc Cert.FirstMapIdeal.main_arg1) = m ((c.tc : Thread Cert.FirstMapIdeal.nD Cert.FirstMapIdeal.τ).loc Cert.FirstMapIdeal.main_arg1)
      ∧ r.2.mem ((c.tc : Thread Cert.FirstMapIdeal.nD Cert.FirstMapIdeal.τ).loc Cert.FirstMapIdeal.main_arg2) = m ((c.tc : Thread Cert.FirstMapIdeal.nD Cert.FirstMapIdeal.τ).loc Cert.FirstMapIdeal.main_arg2)
      ∧ r.2.mem ((c.tc : Thread Cert.FirstMapIdeal.nD Cert.FirstMapIdeal.τ).loc Cert.FirstMapIdeal.main_arg3) = m ((c.tc : Thread Cert.FirstMapIdeal.nD Cert.FirstMapIdeal.τ).loc Cert.FirstMapIdeal.main_arg3)
      ∧ r.2.mem ((c.tc : Thread Cert.FirstMapIdeal.nD Cert.FirstMapIdeal.τ).loc Cert.FirstMapIdeal.main_arg4) = m ((c.tc : Thread Cert.FirstMapIdeal.nD Cert.FirstMapIdeal.τ).loc Cert.FirstMapIdeal.main_arg4)
      ∧ r.2.mem ((c.tc : Thread Cert.FirstMapIdeal.nD Cert.FirstMapIdeal.τ).loc Cert.FirstMapIdeal.main_arg5) = m ((c.tc : Thread Cert.FirstMapIdeal.nD Cert.FirstMapIdeal.τ).loc Cert.FirstMapIdeal.main_arg5))
      ∧ r.2.sem = fun _ => 0)

def quiescent_FirstMapIdeal_pre_finite_map [hFirstMapIdeal : Cert.FirstMapIdeal.Facts] [hPre_finite_map : Cert.Pre_finite_map.Facts] : Prop :=
  ∀ (m : (ℓ : Loc Cert.FirstMapIdeal.nD Cert.FirstMapIdeal.τ Cert.FirstMapIdeal.sig) → Buf (Elt Ideal) ℓ) (g : Dev Cert.FirstMapIdeal.nD → PrngReg), Pre_FirstMapIdeal_finite_map m →
    θ_run (Cert.FirstMapIdeal.defs (F := Ideal)) (onTc (τ := Cert.FirstMapIdeal.τ) (Cert.FirstMapIdeal.main (F := Ideal))) ⟨m, fun _ => 0, g⟩ (fun r => (∀ c : Dev Cert.FirstMapIdeal.nD,
      r.2.mem ((c.tc : Thread Cert.FirstMapIdeal.nD Cert.FirstMapIdeal.τ).loc Cert.FirstMapIdeal.main_arg0) = m ((c.tc : Thread Cert.FirstMapIdeal.nD Cert.FirstMapIdeal.τ).loc Cert.FirstMapIdeal.main_arg0)
      ∧ r.2.mem ((c.tc : Thread Cert.FirstMapIdeal.nD Cert.FirstMapIdeal.τ).loc Cert.FirstMapIdeal.main_arg1) = m ((c.tc : Thread Cert.FirstMapIdeal.nD Cert.FirstMapIdeal.τ).loc Cert.FirstMapIdeal.main_arg1)
      ∧ r.2.mem ((c.tc : Thread Cert.FirstMapIdeal.nD Cert.FirstMapIdeal.τ).loc Cert.FirstMapIdeal.main_arg2) = m ((c.tc : Thread Cert.FirstMapIdeal.nD Cert.FirstMapIdeal.τ).loc Cert.FirstMapIdeal.main_arg2)
      ∧ r.2.mem ((c.tc : Thread Cert.FirstMapIdeal.nD Cert.FirstMapIdeal.τ).loc Cert.FirstMapIdeal.main_arg3) = m ((c.tc : Thread Cert.FirstMapIdeal.nD Cert.FirstMapIdeal.τ).loc Cert.FirstMapIdeal.main_arg3)
      ∧ r.2.mem ((c.tc : Thread Cert.FirstMapIdeal.nD Cert.FirstMapIdeal.τ).loc Cert.FirstMapIdeal.main_arg4) = m ((c.tc : Thread Cert.FirstMapIdeal.nD Cert.FirstMapIdeal.τ).loc Cert.FirstMapIdeal.main_arg4)
      ∧ r.2.mem ((c.tc : Thread Cert.FirstMapIdeal.nD Cert.FirstMapIdeal.τ).loc Cert.FirstMapIdeal.main_arg5) = m ((c.tc : Thread Cert.FirstMapIdeal.nD Cert.FirstMapIdeal.τ).loc Cert.FirstMapIdeal.main_arg5))
      ∧ r.2.sem = fun _ => 0)

def preserves_Kernel_KernelIdeal : Prop :=
  IdealRules.named_const.Statement Cert.KernelIdeal.κ "inv_p" .f32 0x398E155E#32 ((3690⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def preserves_Stage1_Stage1Ideal : Prop :=
  IdealRules.named_const.Statement Cert.Stage1Ideal.κ "inv_two_sigma_sq" .f32 0x3D638E39#32 ((18⁻¹ : ℝ) : EReal)

def algebraic_Stage1Ideal_FirstMapIdeal_pre_finite_map [hStage1Ideal : Cert.Stage1Ideal.Facts] [hFirstMapIdeal : Cert.FirstMapIdeal.Facts] [hPre_finite_map : Cert.Pre_finite_map.Facts] : Prop :=
  ∀ (m : (ℓ : Loc Cert.Stage1Ideal.nD Cert.Stage1Ideal.τ Cert.Stage1Ideal.sig) → Buf (Elt Ideal) ℓ) (g : Dev Cert.Stage1Ideal.nD → PrngReg)
    (m' : (ℓ : Loc Cert.FirstMapIdeal.nD Cert.FirstMapIdeal.τ Cert.FirstMapIdeal.sig) → Buf (Elt Ideal) ℓ) (g' : Dev Cert.FirstMapIdeal.nD → PrngReg), Pre_Stage1Ideal_finite_map m →
    (∀ c : Dev Cert.Stage1Ideal.nD,
      m' ((c.tc : Thread Cert.FirstMapIdeal.nD Cert.FirstMapIdeal.τ).loc Cert.FirstMapIdeal.main_arg0) = m ((c.tc : Thread Cert.Stage1Ideal.nD Cert.Stage1Ideal.τ).loc Cert.Stage1Ideal.main_arg0)
      ∧ m' ((c.tc : Thread Cert.FirstMapIdeal.nD Cert.FirstMapIdeal.τ).loc Cert.FirstMapIdeal.main_arg1) = m ((c.tc : Thread Cert.Stage1Ideal.nD Cert.Stage1Ideal.τ).loc Cert.Stage1Ideal.main_arg1)
      ∧ m' ((c.tc : Thread Cert.FirstMapIdeal.nD Cert.FirstMapIdeal.τ).loc Cert.FirstMapIdeal.main_arg2) = m ((c.tc : Thread Cert.Stage1Ideal.nD Cert.Stage1Ideal.τ).loc Cert.Stage1Ideal.main_arg2)
      ∧ m' ((c.tc : Thread Cert.FirstMapIdeal.nD Cert.FirstMapIdeal.τ).loc Cert.FirstMapIdeal.main_arg3) = m ((c.tc : Thread Cert.Stage1Ideal.nD Cert.Stage1Ideal.τ).loc Cert.Stage1Ideal.main_arg3)
      ∧ m' ((c.tc : Thread Cert.FirstMapIdeal.nD Cert.FirstMapIdeal.τ).loc Cert.FirstMapIdeal.main_arg4) = m ((c.tc : Thread Cert.Stage1Ideal.nD Cert.Stage1Ideal.τ).loc Cert.Stage1Ideal.main_arg4)
      ∧ m' ((c.tc : Thread Cert.FirstMapIdeal.nD Cert.FirstMapIdeal.τ).loc Cert.FirstMapIdeal.main_arg5) = m ((c.tc : Thread Cert.Stage1Ideal.nD Cert.Stage1Ideal.τ).loc Cert.Stage1Ideal.main_arg5)) →
    ∃ (v0 : (c : Dev Cert.Stage1Ideal.nD) → Buf (Elt Ideal) ((c.tc : Thread Cert.Stage1Ideal.nD Cert.Stage1Ideal.τ).loc Cert.Stage1Ideal.main_v8)),
      θ_run (Cert.Stage1Ideal.defs (F := Ideal)) (onTc (τ := Cert.Stage1Ideal.τ) (Cert.Stage1Ideal.main (F := Ideal))) ⟨m, fun _ => 0, g⟩ (fun r => ∀ c : Dev Cert.Stage1Ideal.nD,
          r.2.mem ((c.tc : Thread Cert.Stage1Ideal.nD Cert.Stage1Ideal.τ).loc Cert.Stage1Ideal.main_v8) = v0 c
          ∧ r.2.mem ((c.tc : Thread Cert.Stage1Ideal.nD Cert.Stage1Ideal.τ).loc Cert.Stage1Ideal.main_arg0) = m ((c.tc : Thread Cert.Stage1Ideal.nD Cert.Stage1Ideal.τ).loc Cert.Stage1Ideal.main_arg0)
          ∧ r.2.mem ((c.tc : Thread Cert.Stage1Ideal.nD Cert.Stage1Ideal.τ).loc Cert.Stage1Ideal.main_arg1) = m ((c.tc : Thread Cert.Stage1Ideal.nD Cert.Stage1Ideal.τ).loc Cert.Stage1Ideal.main_arg1)
          ∧ r.2.mem ((c.tc : Thread Cert.Stage1Ideal.nD Cert.Stage1Ideal.τ).loc Cert.Stage1Ideal.main_arg2) = m ((c.tc : Thread Cert.Stage1Ideal.nD Cert.Stage1Ideal.τ).loc Cert.Stage1Ideal.main_arg2)
          ∧ r.2.mem ((c.tc : Thread Cert.Stage1Ideal.nD Cert.Stage1Ideal.τ).loc Cert.Stage1Ideal.main_arg3) = m ((c.tc : Thread Cert.Stage1Ideal.nD Cert.Stage1Ideal.τ).loc Cert.Stage1Ideal.main_arg3)
          ∧ r.2.mem ((c.tc : Thread Cert.Stage1Ideal.nD Cert.Stage1Ideal.τ).loc Cert.Stage1Ideal.main_arg4) = m ((c.tc : Thread Cert.Stage1Ideal.nD Cert.Stage1Ideal.τ).loc Cert.Stage1Ideal.main_arg4)
          ∧ r.2.mem ((c.tc : Thread Cert.Stage1Ideal.nD Cert.Stage1Ideal.τ).loc Cert.Stage1Ideal.main_arg5) = m ((c.tc : Thread Cert.Stage1Ideal.nD Cert.Stage1Ideal.τ).loc Cert.Stage1Ideal.main_arg5))
      ∧ θ_run (Cert.FirstMapIdeal.defs (F := Ideal)) (onTc (τ := Cert.FirstMapIdeal.τ) (Cert.FirstMapIdeal.main (F := Ideal))) ⟨m', fun _ => 0, g'⟩ (fun r => ∀ c : Dev Cert.FirstMapIdeal.nD,
          r.2.mem ((c.tc : Thread Cert.FirstMapIdeal.nD Cert.FirstMapIdeal.τ).loc Cert.FirstMapIdeal.main_v185) = v0 c
          ∧ r.2.mem ((c.tc : Thread Cert.FirstMapIdeal.nD Cert.FirstMapIdeal.τ).loc Cert.FirstMapIdeal.main_arg0) = m' ((c.tc : Thread Cert.FirstMapIdeal.nD Cert.FirstMapIdeal.τ).loc Cert.FirstMapIdeal.main_arg0)
          ∧ r.2.mem ((c.tc : Thread Cert.FirstMapIdeal.nD Cert.FirstMapIdeal.τ).loc Cert.FirstMapIdeal.main_arg1) = m' ((c.tc : Thread Cert.FirstMapIdeal.nD Cert.FirstMapIdeal.τ).loc Cert.FirstMapIdeal.main_arg1)
          ∧ r.2.mem ((c.tc : Thread Cert.FirstMapIdeal.nD Cert.FirstMapIdeal.τ).loc Cert.FirstMapIdeal.main_arg2) = m' ((c.tc : Thread Cert.FirstMapIdeal.nD Cert.FirstMapIdeal.τ).loc Cert.FirstMapIdeal.main_arg2)
          ∧ r.2.mem ((c.tc : Thread Cert.FirstMapIdeal.nD Cert.FirstMapIdeal.τ).loc Cert.FirstMapIdeal.main_arg3) = m' ((c.tc : Thread Cert.FirstMapIdeal.nD Cert.FirstMapIdeal.τ).loc Cert.FirstMapIdeal.main_arg3)
          ∧ r.2.mem ((c.tc : Thread Cert.FirstMapIdeal.nD Cert.FirstMapIdeal.τ).loc Cert.FirstMapIdeal.main_arg4) = m' ((c.tc : Thread Cert.FirstMapIdeal.nD Cert.FirstMapIdeal.τ).loc Cert.FirstMapIdeal.main_arg4)
          ∧ r.2.mem ((c.tc : Thread Cert.FirstMapIdeal.nD Cert.FirstMapIdeal.τ).loc Cert.FirstMapIdeal.main_arg5) = m' ((c.tc : Thread Cert.FirstMapIdeal.nD Cert.FirstMapIdeal.τ).loc Cert.FirstMapIdeal.main_arg5))

def Claim : Prop :=
  ∃ (hKernel : Cert.Kernel.Facts) (hKernelIdeal : Cert.KernelIdeal.Facts) (hReferenceIdeal : Cert.ReferenceIdeal.Facts) (hStage1 : Cert.Stage1.Facts) (hStage1Ideal : Cert.Stage1Ideal.Facts) (hFirstMapIdeal : Cert.FirstMapIdeal.Facts) (hPre_finite : Cert.Pre_finite.Facts) (hPre_finite_map : Cert.Pre_finite_map.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Stage1 (hStage1 := hStage1)
    ∧ quiescent_Stage1Ideal (hStage1Ideal := hStage1Ideal)
    ∧ quiescent_Stage1Ideal_pre_finite_map (hStage1Ideal := hStage1Ideal) (hPre_finite_map := hPre_finite_map)
    ∧ quiescent_FirstMapIdeal (hFirstMapIdeal := hFirstMapIdeal)
    ∧ quiescent_FirstMapIdeal_pre_finite_map (hFirstMapIdeal := hFirstMapIdeal) (hPre_finite_map := hPre_finite_map)
    ∧ preserves_Kernel_KernelIdeal
    ∧ algebraic_KernelIdeal_ReferenceIdeal_pre_finite (hKernelIdeal := hKernelIdeal) (hReferenceIdeal := hReferenceIdeal) (hPre_finite := hPre_finite)
    ∧ preserves_Stage1_Stage1Ideal
    ∧ algebraic_Stage1Ideal_FirstMapIdeal_pre_finite_map (hStage1Ideal := hStage1Ideal) (hFirstMapIdeal := hFirstMapIdeal) (hPre_finite_map := hPre_finite_map)
-- ==== Pre_finite.lean ====
abbrev S32x32x90x165 : Shape := ⟨4, ![32, 32, 90, 165]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S128x128x3x3 : Shape := ⟨4, ![128, 128, 3, 3]⟩
abbrev S_ : Shape := ⟨0, ![]⟩

class Facts : Prop where
  bcast_S_S32x32x90x165 : S_.BroadcastsInDim S32x32x90x165 (![] : Fin 0 → Fin S32x32x90x165.rank)
  reducesTo_S32x32x90x165_S_d0_1_2_3 : S32x32x90x165.ReducesTo [0, 1, 2, 3] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  bcast_S_S64 : S_.BroadcastsInDim S64 (![] : Fin 0 → Fin S64.rank)
  reducesTo_S64_S_d0 : S64.ReducesTo [0] S_
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128 : S_.BroadcastsInDim S128 (![] : Fin 0 → Fin S128.rank)
  reducesTo_S128_S_d0 : S128.ReducesTo [0] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg18 : FVec F S128 .f32) (main_arg19 : FVec F S128 .f32) (main_arg20 : FVec F S128 .f32) (main_v83 : IVec S_ 1) (main_v84 : FVec F S128x128x3x3 .f32) (main_cst_32 : FVec F S_ .f32) : IVec S_ 1 :=
  let main_v85 : FVec F S128x128x3x3 .f32 := broadcastInDim S128x128x3x3 ![] bcast_S_S128x128x3x3 main_cst_32
  let main_v86 : IVec S128x128x3x3 1 := cmpf .olt main_v84 main_v85
  let main_c_33 : IVec S_ 1 := constantI S_ 1 1#1
  let main_v87 : IVec S_ 1 := (fun x v => Host.reduce IntOp.andi x v reducesTo_S128x128x3x3_S_d0_1_2_3 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg14 : FVec F S128 .f32) (main_arg15 : FVec F S128 .f32) (main_arg16 : FVec F S128 .f32) (main_arg17 : FVec F S128x128x3x3 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128x3x3 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S128 .f32) (main_arg12 : FVec F S128 .f32) (main_arg13 : FVec F S128x64x3x3 .f32) (main_arg14 : FVec F S128 .f32) (main_arg15 : FVec F S128 .f32) (main_arg16 : FVec F S128 .f32) (main_arg17 : FVec F S128x128x3x3 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64x3x3 .f32 := Host.absf main_arg13
  let main_cst_24 : FVec F S_ .f32 := constant S_ .f32 0x7F800000#32
  let main_v65 : FVec F S128x64x3x3 .f32 := broadcastInDim S128x64x3x3 ![] bcast_S_S128x64x3x3 main_cst_24
  let main_v66 : IVec S128x64x3x3 1 := cmpf .olt main_v64 main_v65
  let main_c_25 : IVec S_ 1 := constantI S_ 1 1#1
  let main_v67 : IVec S_ 1 := (fun x v => Host.reduce IntOp.andi x v reducesTo_S128x64x3x3_S_d0_1_2_3 h_S_) main_v66 main_c_25
  fn_part4 (F := F) main_arg14 main_arg15 main_arg16 main_arg17 main_arg18 main_arg19 main_arg20 main_v63 main_v67

def fn_part2 {F : FTy → Type} [FloatOps F] (main_arg7 : FVec F S128 .f32) (main_arg8 : FVec F S128 .f32) (main_arg9 : FVec F S128x128x3x3 .f32) (main_arg10 : FVec F S128 .f32) (main_arg11 : FVec F S128 .f32) (main_arg12 : FVec F S128 .f32) (main_arg13 : FVec F S128x64x3x3 .f32) (main_arg14 : FVec F S128 .f32) (main_arg15 : FVec F S128 .f32) (main_arg16 : FVec F S128 .f32) (main_arg17 : FVec F S128x128x3x3 .f32) (main_arg18 : FVec F S128 .f32) (main_arg19 : FVec F S128 .f32) (main_arg20 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128x3x3 .f32 := Host.absf main_arg9
  let main_cst_16 : FVec F S_ .f32 := constant S_ .f32 0x7F800000#32
  let main_v45 : FVec F S128x128x3x3 .f32 := broadcastInDim S128x128x3x3 ![] bcast_S_S128x128x3x3 main_cst_16
  let main_v46 : IVec S128x128x3x3 1 := cmpf .olt main_v44 main_v45
  let main_c_17 : IVec S_ 1 := constantI S_ 1 1#1
  let main_v47 : IVec S_ 1 := (fun x v => Host.reduce IntOp.andi x v reducesTo_S128x128x3x3_S_d0_1_2_3 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S64 .f32) (main_arg5 : FVec F S128x64x3x3 .f32) (main_arg6 : FVec F S128 .f32) (main_arg7 : FVec F S128 .f32) (main_arg8 : FVec F S128 .f32) (main_arg9 : FVec F S128x128x3x3 .f32) (main_arg10 : FVec F S128 .f32) (main_arg11 : FVec F S128 .f32) (main_arg12 : FVec F S128 .f32) (main_arg13 : FVec F S128x64x3x3 .f32) (main_arg14 : FVec F S128 .f32) (main_arg15 : FVec F S128 .f32) (main_arg16 : FVec F S128 .f32) (main_arg17 : FVec F S128x128x3x3 .f32) (main_arg18 : FVec F S128 .f32) (main_arg19 : FVec F S128 .f32) (main_arg20 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64x3x3 .f32 := Host.absf main_arg5
  let main_cst_8 : FVec F S_ .f32 := constant S_ .f32 0x7F800000#32
  let main_v25 : FVec F S128x64x3x3 .f32 := broadcastInDim S128x64x3x3 ![] bcast_S_S128x64x3x3 main_cst_8
  let main_v26 : IVec S128x64x3x3 1 := cmpf .olt main_v24 main_v25
  let main_c_9 : IVec S_ 1 := constantI S_ 1 1#1
  let main_v27 : IVec S_ 1 := (fun x v => Host.reduce IntOp.andi x v reducesTo_S128x64x3x3_S_d0_1_2_3 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S32x32x90x165 .f32) (main_arg1 : FVec F S64x32x3x3 .f32) (main_arg2 : FVec F S64 .f32) (main_arg3 : FVec F S64 .f32) (main_arg4 : FVec F S64 .f32) (main_arg5 : FVec F S128x64x3x3 .f32) (main_arg6 : FVec F S128 .f32) (main_arg7 : FVec F S128 .f32) (main_arg8 : FVec F S128 .f32) (main_arg9 : FVec F S128x128x3x3 .f32) (main_arg10 : FVec F S128 .f32) (main_arg11 : FVec F S128 .f32) (main_arg12 : FVec F S128 .f32) (main_arg13 : FVec F S128x64x3x3 .f32) (main_arg14 : FVec F S128 .f32) (main_arg15 : FVec F S128 .f32) (main_arg16 : FVec F S128 .f32) (main_arg17 : FVec F S128x128x3x3 .f32) (main_arg18 : FVec F S128 .f32) (main_arg19 : FVec F S128 .f32) (main_arg20 : FVec F S128 .f32) : IVec S_ 1 :=
  let main_v0 : FVec F S32x32x90x165 .f32 := Host.absf main_arg0
  let main_cst : FVec F S_ .f32 := constant S_ .f32 0x7F800000#32
  let main_v1 : FVec F S32x32x90x165 .f32 := broadcastInDim S32x32x90x165 ![] bcast_S_S32x32x90x165 main_cst
  let main_v2 : IVec S32x32x90x165 1 := cmpf .olt main_v0 main_v1
  let main_c : IVec S_ 1 := constantI S_ 1 1#1
  let main_v3 : IVec S_ 1 := (fun x v => Host.reduce IntOp.andi x v reducesTo_S32x32x90x165_S_d0_1_2_3 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Pre_finite_map.lean ====
abbrev S32x1024x2 : Shape := ⟨3, ![32, 1024, 2]⟩
abbrev S32x180x330 : Shape := ⟨3, ![32, 180, 330]⟩
abbrev S32x1x3x3 : Shape := ⟨4, ![32, 1, 3, 3]⟩
abbrev S32 : Shape := ⟨1, ![32]⟩
abbrev S_ : Shape := ⟨0, ![]⟩

class Facts : Prop where
  bcast_S_S32x180x330 : S_.BroadcastsInDim S32x180x330 (![] : Fin 0 → Fin S32x180x330.rank)
  reducesTo_S32x180x330_S_d0_1_2 : S32x180x330.ReducesTo [0, 1, 2] S_
  h_S_ : 0 < S_.numel
  bcast_S_S32x1x3x3 : S_.BroadcastsInDim S32x1x3x3 (![] : Fin 0 → Fin S32x1x3x3.rank)
  reducesTo_S32x1x3x3_S_d0_1_2_3 : S32x1x3x3.ReducesTo [0, 1, 2, 3] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S32x1024x2 .f32) (main_arg1 : FVec F S32x180x330 .f32) (main_arg2 : FVec F S32x1x3x3 .f32) (main_arg3 : FVec F S32 .f32) (main_arg4 : FVec F S32 .f32) (main_arg5 : FVec F S32 .f32) : IVec S_ 1 :=
  let main_v0 : FVec F S32x180x330 .f32 := Host.absf main_arg1
  let main_cst : FVec F S_ .f32 := constant S_ .f32 0x7F800000#32
  let main_v1 : FVec F S32x180x330 .f32 := broadcastInDim S32x180x330 ![] bcast_S_S32x180x330 main_cst
  let main_v2 : IVec S32x180x330 1 := cmpf .olt main_v0 main_v1
  let main_c : IVec S_ 1 := constantI S_ 1 1#1
  let main_v3 : IVec S_ 1 := (fun x v => Host.reduce IntOp.andi x v reducesTo_S32x180x330_S_d0_1_2 h_S_) main_v2 main_c
  let main_v4 : FVec F S32x1x3x3 .f32 := Host.absf main_arg2
  let main_cst_0 : FVec F S_ .f32 := constant S_ .f32 0x7F800000#32
  let main_v5 : FVec F S32x1x3x3 .f32 := broadcastInDim S32x1x3x3 ![] bcast_S_S32x1x3x3 main_cst_0
  let main_v6 : IVec S32x1x3x3 1 := cmpf .olt main_v4 main_v5
  let main_c_1 : IVec S_ 1 := constantI S_ 1 1#1
  let main_v7 : IVec S_ 1 := (fun x v => Host.reduce IntOp.andi x v reducesTo_S32x1x3x3_S_d0_1_2_3 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_v13 main_v16
-- ==== Kernel.lean ====
abbrev S32x32x90x165 : Shape := ⟨4, ![32, 32, 90, 165]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S128x128x3x3 : Shape := ⟨4, ![128, 128, 3, 3]⟩
abbrev S64x1x1x1 : Shape := ⟨4, ![64, 1, 1, 1]⟩
abbrev S3x3x32x64 : Shape := ⟨4, ![3, 3, 32, 64]⟩
abbrev S9x32x64 : Shape := ⟨3, ![9, 32, 64]⟩
abbrev S1x64 : Shape := ⟨2, ![1, 64]⟩
abbrev S128x1x1x1 : Shape := ⟨4, ![128, 1, 1, 1]⟩
abbrev S3x3x64x128 : Shape := ⟨4, ![3, 3, 64, 128]⟩
abbrev S9x64x128 : Shape := ⟨3, ![9, 64, 128]⟩
abbrev S1x128 : Shape := ⟨2, ![1, 128]⟩
abbrev S3x3x128x128 : Shape := ⟨4, ![3, 3, 128, 128]⟩
abbrev S9x128x128 : Shape := ⟨3, ![9, 128, 128]⟩
abbrev S32x90x165x32 : Shape := ⟨4, ![32, 90, 165, 32]⟩
abbrev S32x128x128 : Shape := ⟨3, ![32, 128, 128]⟩
abbrev S1x90x165x32 : Shape := ⟨4, ![1, 90, 165, 32]⟩
abbrev S1x128x128 : Shape := ⟨3, ![1, 128, 128]⟩
abbrev S47x84x64 : Shape := ⟨3, ![47, 84, 64]⟩
abbrev S47x84x128 : Shape := ⟨3, ![47, 84, 128]⟩
abbrev S3690x128 : Shape := ⟨2, ![3690, 128]⟩
abbrev S1x84x64 : Shape := ⟨3, ![1, 84, 64]⟩
abbrev S47x1x64 : Shape := ⟨3, ![47, 1, 64]⟩
abbrev S1x84x128 : Shape := ⟨3, ![1, 84, 128]⟩
abbrev S47x1x128 : Shape := ⟨3, ![47, 1, 128]⟩
abbrev S1x19x165x32 : Shape := ⟨4, ![1, 19, 165, 32]⟩
abbrev S19x165x32 : Shape := ⟨3, ![19, 165, 32]⟩
abbrev S1x165x32 : Shape := ⟨3, ![1, 165, 32]⟩
abbrev S20x165x32 : Shape := ⟨3, ![20, 165, 32]⟩
abbrev S20x1x32 : Shape := ⟨3, ![20, 1, 32]⟩
abbrev S20x167x32 : Shape := ⟨3, ![20, 167, 32]⟩
abbrev S18x165x32 : Shape := ⟨3, ![18, 165, 32]⟩
abbrev S2970x32 : Shape := ⟨2, ![2970, 32]⟩
abbrev S1x32x64 : Shape := ⟨3, ![1, 32, 64]⟩
abbrev S32x64 : Shape := ⟨2, ![32, 64]⟩
abbrev S2970x64 : Shape := ⟨2, ![2970, 64]⟩
abbrev S18x165x64 : Shape := ⟨3, ![18, 165, 64]⟩
abbrev S9x2x165x64 : Shape := ⟨4, ![9, 2, 165, 64]⟩
abbrev S9x165x64 : Shape := ⟨3, ![9, 165, 64]⟩
abbrev S9x164x64 : Shape := ⟨3, ![9, 164, 64]⟩
abbrev S9x82x2x64 : Shape := ⟨4, ![9, 82, 2, 64]⟩
abbrev S9x82x64 : Shape := ⟨3, ![9, 82, 64]⟩
abbrev S1x20x165x32 : Shape := ⟨4, ![1, 20, 165, 32]⟩
abbrev S11x84x64 : Shape := ⟨3, ![11, 84, 64]⟩
abbrev S738x64 : Shape := ⟨2, ![738, 64]⟩
abbrev S1x64x128 : Shape := ⟨3, ![1, 64, 128]⟩
abbrev S64x128 : Shape := ⟨2, ![64, 128]⟩
abbrev S738x128 : Shape := ⟨2, ![738, 128]⟩
abbrev S9x82x128 : Shape := ⟨3, ![9, 82, 128]⟩
abbrev S11x84x128 : Shape := ⟨3, ![11, 84, 128]⟩
abbrev S128x128 : Shape := ⟨2, ![128, 128]⟩
abbrev S1x738x128 : Shape := ⟨3, ![1, 738, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 68
  | .vmem => 19
  | .smem => 0
  | _ => 0

abbrev bufTy : (tb : Table) → Fin (tcTables nBuf tb) → BufTy
  | .hbm, ⟨0, _⟩ => ⟨S32x32x90x165, .f32⟩
  | .hbm, ⟨1, _⟩ => ⟨S64x32x3x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64x3x3, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128x3x3, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x64x3x3, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128x3x3, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S64x1x1x1, .f32⟩
  | .hbm, ⟨22, _⟩ => ⟨S64x32x3x3, .f32⟩
  | .hbm, ⟨23, _⟩ => ⟨S64x32x3x3, .f32⟩
  | .hbm, ⟨24, _⟩ => ⟨S3x3x32x64, .f32⟩
  | .hbm, ⟨25, _⟩ => ⟨S9x32x64, .f32⟩
  | .hbm, ⟨26, _⟩ => ⟨S9x32x64, .bf16⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S128x1x1x1, .f32⟩
  | .hbm, ⟨31, _⟩ => ⟨S128x64x3x3, .f32⟩
  | .hbm, ⟨32, _⟩ => ⟨S128x64x3x3, .f32⟩
  | .hbm, ⟨33, _⟩ => ⟨S3x3x64x128, .f32⟩
  | .hbm, ⟨34, _⟩ => ⟨S9x64x128, .f32⟩
  | .hbm, ⟨35, _⟩ => ⟨S9x64x128, .bf16⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S128x1x1x1, .f32⟩
  | .hbm, ⟨40, _⟩ => ⟨S128x128x3x3, .f32⟩
  | .hbm, ⟨41, _⟩ => ⟨S128x128x3x3, .f32⟩
  | .hbm, ⟨42, _⟩ => ⟨S3x3x128x128, .f32⟩
  | .hbm, ⟨43, _⟩ => ⟨S9x128x128, .f32⟩
  | .hbm, ⟨44, _⟩ => ⟨S9x128x128, .bf16⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S128x1x1x1, .f32⟩
  | .hbm, ⟨49, _⟩ => ⟨S128x64x3x3, .f32⟩
  | .hbm, ⟨50, _⟩ => ⟨S128x64x3x3, .f32⟩
  | .hbm, ⟨51, _⟩ => ⟨S3x3x64x128, .f32⟩
  | .hbm, ⟨52, _⟩ => ⟨S9x64x128, .f32⟩
  | .hbm, ⟨53, _⟩ => ⟨S9x64x128, .bf16⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S128x1x1x1, .f32⟩
  | .hbm, ⟨58, _⟩ => ⟨S128x128x3x3, .f32⟩
  | .hbm, ⟨59, _⟩ => ⟨S128x128x3x3, .f32⟩
  | .hbm, ⟨60, _⟩ => ⟨S3x3x128x128, .f32⟩
  | .hbm, ⟨61, _⟩ => ⟨S9x128x128, .f32⟩
  | .hbm, ⟨62, _⟩ => ⟨S9x128x128, .bf16⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S32x90x165x32, .f32⟩
  | .hbm, ⟨67, _⟩ => ⟨S32x128x128, .f32⟩
  | .local _ .vmem, ⟨0, _⟩ => ⟨S1x90x165x32, .f32⟩
  | .local _ .vmem, ⟨1, _⟩ => ⟨S1x90x165x32, .f32⟩
  | .local _ .vmem, ⟨2, _⟩ => ⟨S9x32x64, .bf16⟩
  | .local _ .vmem, ⟨3, _⟩ => ⟨S1x64, .f32⟩
  | .local _ .vmem, ⟨4, _⟩ => ⟨S9x64x128, .bf16⟩
  | .local _ .vmem, ⟨5, _⟩ => ⟨S1x128, .f32⟩
  | .local _ .vmem, ⟨6, _⟩ => ⟨S9x128x128, .bf16⟩
  | .local _ .vmem, ⟨7, _⟩ => ⟨S1x128, .f32⟩
  | .local _ .vmem, ⟨8, _⟩ => ⟨S9x64x128, .bf16⟩
  | .local _ .vmem, ⟨9, _⟩ => ⟨S1x128, .f32⟩
  | .local _ .vmem, ⟨10, _⟩ => ⟨S9x128x128, .bf16⟩
  | .local _ .vmem, ⟨11, _⟩ => ⟨S1x128, .f32⟩
  | .local _ .vmem, ⟨12, _⟩ => ⟨S1x128x128, .f32⟩
  | .local _ .vmem, ⟨13, _⟩ => ⟨S1x128x128, .f32⟩
  | .local _ .vmem, ⟨14, _⟩ => ⟨S47x84x64, .f32⟩
  | .local _ .vmem, ⟨15, _⟩ => ⟨S47x84x128, .f32⟩
  | .local _ .vmem, ⟨16, _⟩ => ⟨S47x84x128, .f32⟩
  | .local _ .vmem, ⟨17, _⟩ => ⟨S3690x128, .f32⟩
  | .local _ .vmem, ⟨18, _⟩ => ⟨S3690x128, .f32⟩
  | _, _ => ⟨S32x32x90x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x90x165x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S9x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_p" => some ((3690⁻¹ : ℝ) : EReal)
  | _ => none
-- ==== ReferenceIdeal.lean ====
abbrev S32x32x90x165 : Shape := ⟨4, ![32, 32, 90, 165]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S128x128x3x3 : Shape := ⟨4, ![128, 128, 3, 3]⟩
abbrev S_ : Shape := ⟨0, ![]⟩
abbrev S32x32x92x167 : Shape := ⟨4, ![32, 32, 92, 167]⟩
abbrev S64x32x1x1 : Shape := ⟨4, ![64, 32, 1, 1]⟩
abbrev S64x32 : Shape := ⟨2, ![64, 32]⟩
abbrev S32x90x165x64 : Shape := ⟨4, ![32, 90, 165, 64]⟩
abbrev S32x64x90x165 : Shape := ⟨4, ![32, 64, 90, 165]⟩
abbrev S1x64x1x1 : Shape := ⟨4, ![1, 64, 1, 1]⟩
abbrev S32x64x45x82 : Shape := ⟨4, ![32, 64, 45, 82]⟩
abbrev S32x64x47x84 : Shape := ⟨4, ![32, 64, 47, 84]⟩
abbrev S128x64x1x1 : Shape := ⟨4, ![128, 64, 1, 1]⟩
abbrev S128x64 : Shape := ⟨2, ![128, 64]⟩
abbrev S32x45x82x128 : Shape := ⟨4, ![32, 45, 82, 128]⟩
abbrev S32x128x45x82 : Shape := ⟨4, ![32, 128, 45, 82]⟩
abbrev S1x128x1x1 : Shape := ⟨4, ![1, 128, 1, 1]⟩
abbrev S32x128x47x84 : Shape := ⟨4, ![32, 128, 47, 84]⟩
abbrev S128x128x1x1 : Shape := ⟨4, ![128, 128, 1, 1]⟩
abbrev S128x128 : Shape := ⟨2, ![128, 128]⟩
abbrev S32 : Shape := ⟨1, ![32]⟩
abbrev S32x1x1x1 : Shape := ⟨4, ![32, 1, 1, 1]⟩
abbrev S32x128x128 : Shape := ⟨3, ![32, 128, 128]⟩

abbrev nBuf : Space → Nat
  | .hbm => 400
  | .vmem => 0
  | .smem => 0
  | _ => 0

abbrev hbmTy0_0 (i : Nat) : BufTy := match i % 128 with
  | 0 => ⟨S32x32x90x165, .f32⟩
  | 1 => ⟨S64x32x3x3, .f32⟩
  | 2 => ⟨S64, .f32⟩
  | 3 => ⟨S64, .f32⟩
  | 4 => ⟨S64, .f32⟩
  | 5 => ⟨S128x64x3x3, .f32⟩
  | 6 => ⟨S128, .f32⟩
  | 7 => ⟨S128, .f32⟩
  | 8 => ⟨S128, .f32⟩
  | 9 => ⟨S128x128x3x3, .f32⟩
  | 10 => ⟨S128, .f32⟩
  | 11 => ⟨S128, .f32⟩
  | 12 => ⟨S128, .f32⟩
  | 13 => ⟨S128x64x3x3, .f32⟩
  | 14 => ⟨S128, .f32⟩
  | 15 => ⟨S128, .f32⟩
  | 16 => ⟨S128, .f32⟩
  | 17 => ⟨S128x128x3x3, .f32⟩
  | 18 => ⟨S128, .f32⟩
  | 19 => ⟨S128, .f32⟩
  | 20 => ⟨S128, .f32⟩
  | 21 => ⟨S_, .i32⟩
  | 22 => ⟨S_, .f32⟩
  | 23 => ⟨S32x32x92x167, .f32⟩
  | 24 => ⟨S64x32x1x1, .f32⟩
  | 25 => ⟨S64x32, .f32⟩
  | 26 => ⟨S32x32x90x165, .f32⟩
  | 27 => ⟨S32x90x165x64, .f32⟩
  | 28 => ⟨S32x64x90x165, .f32⟩
  | 29 => ⟨S64x32x1x1, .f32⟩
  | 30 => ⟨S64x32, .f32⟩
  | 31 => ⟨S32x32x90x165, .f32⟩
  | 32 => ⟨S32x90x165x64, .f32⟩
  | 33 => ⟨S32x64x90x165, .f32⟩
  | 34 => ⟨S32x64x90x165, .f32⟩
  | 35 => ⟨S64x32x1x1, .f32⟩
  | 36 => ⟨S64x32, .f32⟩
  | 37 => ⟨S32x32x90x165, .f32⟩
  | 38 => ⟨S32x90x165x64, .f32⟩
  | 39 => ⟨S32x64x90x165, .f32⟩
  | 40 => ⟨S32x64x90x165, .f32⟩
  | 41 => ⟨S64x32x1x1, .f32⟩
  | 42 => ⟨S64x32, .f32⟩
  | 43 => ⟨S32x32x90x165, .f32⟩
  | 44 => ⟨S32x90x165x64, .f32⟩
  | 45 => ⟨S32x64x90x165, .f32⟩
  | 46 => ⟨S32x64x90x165, .f32⟩
  | 47 => ⟨S64x32x1x1, .f32⟩
  | 48 => ⟨S64x32, .f32⟩
  | 49 => ⟨S32x32x90x165, .f32⟩
  | 50 => ⟨S32x90x165x64, .f32⟩
  | 51 => ⟨S32x64x90x165, .f32⟩
  | 52 => ⟨S32x64x90x165, .f32⟩
  | 53 => ⟨S64x32x1x1, .f32⟩
  | 54 => ⟨S64x32, .f32⟩
  | 55 => ⟨S32x32x90x165, .f32⟩
  | 56 => ⟨S32x90x165x64, .f32⟩
  | 57 => ⟨S32x64x90x165, .f32⟩
  | 58 => ⟨S32x64x90x165, .f32⟩
  | 59 => ⟨S64x32x1x1, .f32⟩
  | 60 => ⟨S64x32, .f32⟩
  | 61 => ⟨S32x32x90x165, .f32⟩
  | 62 => ⟨S32x90x165x64, .f32⟩
  | 63 => ⟨S32x64x90x165, .f32⟩
  | 64 => ⟨S32x64x90x165, .f32⟩
  | 65 => ⟨S64x32x1x1, .f32⟩
  | 66 => ⟨S64x32, .f32⟩
  | 67 => ⟨S32x32x90x165, .f32⟩
  | 68 => ⟨S32x90x165x64, .f32⟩
  | 69 => ⟨S32x64x90x165, .f32⟩
  | 70 => ⟨S32x64x90x165, .f32⟩
  | 71 => ⟨S64x32x1x1, .f32⟩
  | 72 => ⟨S64x32, .f32⟩
  | 73 => ⟨S32x32x90x165, .f32⟩
  | 74 => ⟨S32x90x165x64, .f32⟩
  | 75 => ⟨S32x64x90x165, .f32⟩
  | 76 => ⟨S32x64x90x165, .f32⟩
  | 77 => ⟨S1x64x1x1, .f32⟩
  | 78 => ⟨S32x64x90x165, .f32⟩
  | 79 => ⟨S32x64x90x165, .f32⟩
  | 80 => ⟨S1x64x1x1, .f32⟩
  | 81 => ⟨S32x64x90x165, .f32⟩
  | 82 => ⟨S32x64x90x165, .f32⟩
  | 83 => ⟨S1x64x1x1, .f32⟩
  | 84 => ⟨S32x64x90x165, .f32⟩
  | 85 => ⟨S32x64x90x165, .f32⟩
  | 86 => ⟨S_, .f32⟩
  | 87 => ⟨S32x64x90x165, .f32⟩
  | 88 => ⟨S32x64x90x165, .f32⟩
  | 89 => ⟨S_, .f32⟩
  | 90 => ⟨S_, .f32⟩
  | 91 => ⟨S32x64x45x82, .f32⟩
  | 92 => ⟨S_, .i32⟩
  | 93 => ⟨S_, .f32⟩
  | 94 => ⟨S32x64x47x84, .f32⟩
  | 95 => ⟨S128x64x1x1, .f32⟩
  | 96 => ⟨S128x64, .f32⟩
  | 97 => ⟨S32x64x45x82, .f32⟩
  | 98 => ⟨S32x45x82x128, .f32⟩
  | 99 => ⟨S32x128x45x82, .f32⟩
  | 100 => ⟨S128x64x1x1, .f32⟩
  | 101 => ⟨S128x64, .f32⟩
  | 102 => ⟨S32x64x45x82, .f32⟩
  | 103 => ⟨S32x45x82x128, .f32⟩
  | 104 => ⟨S32x128x45x82, .f32⟩
  | 105 => ⟨S32x128x45x82, .f32⟩
  | 106 => ⟨S128x64x1x1, .f32⟩
  | 107 => ⟨S128x64, .f32⟩
  | 108 => ⟨S32x64x45x82, .f32⟩
  | 109 => ⟨S32x45x82x128, .f32⟩
  | 110 => ⟨S32x128x45x82, .f32⟩
  | 111 => ⟨S32x128x45x82, .f32⟩
  | 112 => ⟨S128x64x1x1, .f32⟩
  | 113 => ⟨S128x64, .f32⟩
  | 114 => ⟨S32x64x45x82, .f32⟩
  | 115 => ⟨S32x45x82x128, .f32⟩
  | 116 => ⟨S32x128x45x82, .f32⟩
  | 117 => ⟨S32x128x45x82, .f32⟩
  | 118 => ⟨S128x64x1x1, .f32⟩
  | 119 => ⟨S128x64, .f32⟩
  | 120 => ⟨S32x64x45x82, .f32⟩
  | 121 => ⟨S32x45x82x128, .f32⟩
  | 122 => ⟨S32x128x45x82, .f32⟩
  | 123 => ⟨S32x128x45x82, .f32⟩
  | 124 => ⟨S128x64x1x1, .f32⟩
  | 125 => ⟨S128x64, .f32⟩
  | 126 => ⟨S32x64x45x82, .f32⟩
  | 127 => ⟨S32x45x82x128, .f32⟩
  | _ => ⟨S32x32x90x165, .f32⟩

abbrev hbmTy0_1 (i : Nat) : BufTy := match i % 128 with
  | 0 => ⟨S32x128x45x82, .f32⟩
  | 1 => ⟨S32x128x45x82, .f32⟩
  | 2 => ⟨S128x64x1x1, .f32⟩
  | 3 => ⟨S128x64, .f32⟩
  | 4 => ⟨S32x64x45x82, .f32⟩
  | 5 => ⟨S32x45x82x128, .f32⟩
  | 6 => ⟨S32x128x45x82, .f32⟩
  | 7 => ⟨S32x128x45x82, .f32⟩
  | 8 => ⟨S128x64x1x1, .f32⟩
  | 9 => ⟨S128x64, .f32⟩
  | 10 => ⟨S32x64x45x82, .f32⟩
  | 11 => ⟨S32x45x82x128, .f32⟩
  | 12 => ⟨S32x128x45x82, .f32⟩
  | 13 => ⟨S32x128x45x82, .f32⟩
  | 14 => ⟨S128x64x1x1, .f32⟩
  | 15 => ⟨S128x64, .f32⟩
  | 16 => ⟨S32x64x45x82, .f32⟩
  | 17 => ⟨S32x45x82x128, .f32⟩
  | 18 => ⟨S32x128x45x82, .f32⟩
  | 19 => ⟨S32x128x45x82, .f32⟩
  | 20 => ⟨S1x128x1x1, .f32⟩
  | 21 => ⟨S32x128x45x82, .f32⟩
  | 22 => ⟨S32x128x45x82, .f32⟩
  | 23 => ⟨S1x128x1x1, .f32⟩
  | 24 => ⟨S32x128x45x82, .f32⟩
  | 25 => ⟨S32x128x45x82, .f32⟩
  | 26 => ⟨S1x128x1x1, .f32⟩
  | 27 => ⟨S32x128x45x82, .f32⟩
  | 28 => ⟨S32x128x45x82, .f32⟩
  | 29 => ⟨S_, .f32⟩
  | 30 => ⟨S32x128x45x82, .f32⟩
  | 31 => ⟨S32x128x45x82, .f32⟩
  | 32 => ⟨S_, .i32⟩
  | 33 => ⟨S_, .f32⟩
  | 34 => ⟨S32x128x47x84, .f32⟩
  | 35 => ⟨S128x128x1x1, .f32⟩
  | 36 => ⟨S128x128, .f32⟩
  | 37 => ⟨S32x128x45x82, .f32⟩
  | 38 => ⟨S32x45x82x128, .f32⟩
  | 39 => ⟨S32x128x45x82, .f32⟩
  | 40 => ⟨S128x128x1x1, .f32⟩
  | 41 => ⟨S128x128, .f32⟩
  | 42 => ⟨S32x128x45x82, .f32⟩
  | 43 => ⟨S32x45x82x128, .f32⟩
  | 44 => ⟨S32x128x45x82, .f32⟩
  | 45 => ⟨S32x128x45x82, .f32⟩
  | 46 => ⟨S128x128x1x1, .f32⟩
  | 47 => ⟨S128x128, .f32⟩
  | 48 => ⟨S32x128x45x82, .f32⟩
  | 49 => ⟨S32x45x82x128, .f32⟩
  | 50 => ⟨S32x128x45x82, .f32⟩
  | 51 => ⟨S32x128x45x82, .f32⟩
  | 52 => ⟨S128x128x1x1, .f32⟩
  | 53 => ⟨S128x128, .f32⟩
  | 54 => ⟨S32x128x45x82, .f32⟩
  | 55 => ⟨S32x45x82x128, .f32⟩
  | 56 => ⟨S32x128x45x82, .f32⟩
  | 57 => ⟨S32x128x45x82, .f32⟩
  | 58 => ⟨S128x128x1x1, .f32⟩
  | 59 => ⟨S128x128, .f32⟩
  | 60 => ⟨S32x128x45x82, .f32⟩
  | 61 => ⟨S32x45x82x128, .f32⟩
  | 62 => ⟨S32x128x45x82, .f32⟩
  | 63 => ⟨S32x128x45x82, .f32⟩
  | 64 => ⟨S128x128x1x1, .f32⟩
  | 65 => ⟨S128x128, .f32⟩
  | 66 => ⟨S32x128x45x82, .f32⟩
  | 67 => ⟨S32x45x82x128, .f32⟩
  | 68 => ⟨S32x128x45x82, .f32⟩
  | 69 => ⟨S32x128x45x82, .f32⟩
  | 70 => ⟨S128x128x1x1, .f32⟩
  | 71 => ⟨S128x128, .f32⟩
  | 72 => ⟨S32x128x45x82, .f32⟩
  | 73 => ⟨S32x45x82x128, .f32⟩
  | 74 => ⟨S32x128x45x82, .f32⟩
  | 75 => ⟨S32x128x45x82, .f32⟩
  | 76 => ⟨S128x128x1x1, .f32⟩
  | 77 => ⟨S128x128, .f32⟩
  | 78 => ⟨S32x128x45x82, .f32⟩
  | 79 => ⟨S32x45x82x128, .f32⟩
  | 80 => ⟨S32x128x45x82, .f32⟩
  | 81 => ⟨S32x128x45x82, .f32⟩
  | 82 => ⟨S128x128x1x1, .f32⟩
  | 83 => ⟨S128x128, .f32⟩
  | 84 => ⟨S32x128x45x82, .f32⟩
  | 85 => ⟨S32x45x82x128, .f32⟩
  | 86 => ⟨S32x128x45x82, .f32⟩
  | 87 => ⟨S32x128x45x82, .f32⟩
  | 88 => ⟨S1x128x1x1, .f32⟩
  | 89 => ⟨S32x128x45x82, .f32⟩
  | 90 => ⟨S32x128x45x82, .f32⟩
  | 91 => ⟨S1x128x1x1, .f32⟩
  | 92 => ⟨S32x128x45x82, .f32⟩
  | 93 => ⟨S32x128x45x82, .f32⟩
  | 94 => ⟨S1x128x1x1, .f32⟩
  | 95 => ⟨S32x128x45x82, .f32⟩
  | 96 => ⟨S32x128x45x82, .f32⟩
  | 97 => ⟨S32x128x45x82, .f32⟩
  | 98 => ⟨S32x128x45x82, .f32⟩
  | 99 => ⟨S_, .f32⟩
  | 100 => ⟨S32x128x45x82, .f32⟩
  | 101 => ⟨S32x128x45x82, .f32⟩
  | 102 => ⟨S_, .f32⟩
  | 103 => ⟨S32x128x45x82, .f32⟩
  | 104 => ⟨S32x128x45x82, .f32⟩
  | 105 => ⟨S_, .i32⟩
  | 106 => ⟨S_, .f32⟩
  | 107 => ⟨S32x64x47x84, .f32⟩
  | 108 => ⟨S128x64x1x1, .f32⟩
  | 109 => ⟨S128x64, .f32⟩
  | 110 => ⟨S32x64x45x82, .f32⟩
  | 111 => ⟨S32x45x82x128, .f32⟩
  | 112 => ⟨S32x128x45x82, .f32⟩
  | 113 => ⟨S128x64x1x1, .f32⟩
  | 114 => ⟨S128x64, .f32⟩
  | 115 => ⟨S32x64x45x82, .f32⟩
  | 116 => ⟨S32x45x82x128, .f32⟩
  | 117 => ⟨S32x128x45x82, .f32⟩
  | 118 => ⟨S32x128x45x82, .f32⟩
  | 119 => ⟨S128x64x1x1, .f32⟩
  | 120 => ⟨S128x64, .f32⟩
  | 121 => ⟨S32x64x45x82, .f32⟩
  | 122 => ⟨S32x45x82x128, .f32⟩
  | 123 => ⟨S32x128x45x82, .f32⟩
  | 124 => ⟨S32x128x45x82, .f32⟩
  | 125 => ⟨S128x64x1x1, .f32⟩
  | 126 => ⟨S128x64, .f32⟩
  | 127 => ⟨S32x64x45x82, .f32⟩
  | _ => ⟨S32x32x90x165, .f32⟩

abbrev hbmTy0_2 (i : Nat) : BufTy := match i % 128 with
  | 0 => ⟨S32x45x82x128, .f32⟩
  | 1 => ⟨S32x128x45x82, .f32⟩
  | 2 => ⟨S32x128x45x82, .f32⟩
  | 3 => ⟨S128x64x1x1, .f32⟩
  | 4 => ⟨S128x64, .f32⟩
  | 5 => ⟨S32x64x45x82, .f32⟩
  | 6 => ⟨S32x45x82x128, .f32⟩
  | 7 => ⟨S32x128x45x82, .f32⟩
  | 8 => ⟨S32x128x45x82, .f32⟩
  | 9 => ⟨S128x64x1x1, .f32⟩
  | 10 => ⟨S128x64, .f32⟩
  | 11 => ⟨S32x64x45x82, .f32⟩
  | 12 => ⟨S32x45x82x128, .f32⟩
  | 13 => ⟨S32x128x45x82, .f32⟩
  | 14 => ⟨S32x128x45x82, .f32⟩
  | 15 => ⟨S128x64x1x1, .f32⟩
  | 16 => ⟨S128x64, .f32⟩
  | 17 => ⟨S32x64x45x82, .f32⟩
  | 18 => ⟨S32x45x82x128, .f32⟩
  | 19 => ⟨S32x128x45x82, .f32⟩
  | 20 => ⟨S32x128x45x82, .f32⟩
  | 21 => ⟨S128x64x1x1, .f32⟩
  | 22 => ⟨S128x64, .f32⟩
  | 23 => ⟨S32x64x45x82, .f32⟩
  | 24 => ⟨S32x45x82x128, .f32⟩
  | 25 => ⟨S32x128x45x82, .f32⟩
  | 26 => ⟨S32x128x45x82, .f32⟩
  | 27 => ⟨S128x64x1x1, .f32⟩
  | 28 => ⟨S128x64, .f32⟩
  | 29 => ⟨S32x64x45x82, .f32⟩
  | 30 => ⟨S32x45x82x128, .f32⟩
  | 31 => ⟨S32x128x45x82, .f32⟩
  | 32 => ⟨S32x128x45x82, .f32⟩
  | 33 => ⟨S1x128x1x1, .f32⟩
  | 34 => ⟨S32x128x45x82, .f32⟩
  | 35 => ⟨S32x128x45x82, .f32⟩
  | 36 => ⟨S1x128x1x1, .f32⟩
  | 37 => ⟨S32x128x45x82, .f32⟩
  | 38 => ⟨S32x128x45x82, .f32⟩
  | 39 => ⟨S1x128x1x1, .f32⟩
  | 40 => ⟨S32x128x45x82, .f32⟩
  | 41 => ⟨S32x128x45x82, .f32⟩
  | 42 => ⟨S_, .f32⟩
  | 43 => ⟨S32x128x45x82, .f32⟩
  | 44 => ⟨S32x128x45x82, .f32⟩
  | 45 => ⟨S_, .i32⟩
  | 46 => ⟨S_, .f32⟩
  | 47 => ⟨S32x128x47x84, .f32⟩
  | 48 => ⟨S128x128x1x1, .f32⟩
  | 49 => ⟨S128x128, .f32⟩
  | 50 => ⟨S32x128x45x82, .f32⟩
  | 51 => ⟨S32x45x82x128, .f32⟩
  | 52 => ⟨S32x128x45x82, .f32⟩
  | 53 => ⟨S128x128x1x1, .f32⟩
  | 54 => ⟨S128x128, .f32⟩
  | 55 => ⟨S32x128x45x82, .f32⟩
  | 56 => ⟨S32x45x82x128, .f32⟩
  | 57 => ⟨S32x128x45x82, .f32⟩
  | 58 => ⟨S32x128x45x82, .f32⟩
  | 59 => ⟨S128x128x1x1, .f32⟩
  | 60 => ⟨S128x128, .f32⟩
  | 61 => ⟨S32x128x45x82, .f32⟩
  | 62 => ⟨S32x45x82x128, .f32⟩
  | 63 => ⟨S32x128x45x82, .f32⟩
  | 64 => ⟨S32x128x45x82, .f32⟩
  | 65 => ⟨S128x128x1x1, .f32⟩
  | 66 => ⟨S128x128, .f32⟩
  | 67 => ⟨S32x128x45x82, .f32⟩
  | 68 => ⟨S32x45x82x128, .f32⟩
  | 69 => ⟨S32x128x45x82, .f32⟩
  | 70 => ⟨S32x128x45x82, .f32⟩
  | 71 => ⟨S128x128x1x1, .f32⟩
  | 72 => ⟨S128x128, .f32⟩
  | 73 => ⟨S32x128x45x82, .f32⟩
  | 74 => ⟨S32x45x82x128, .f32⟩
  | 75 => ⟨S32x128x45x82, .f32⟩
  | 76 => ⟨S32x128x45x82, .f32⟩
  | 77 => ⟨S128x128x1x1, .f32⟩
  | 78 => ⟨S128x128, .f32⟩
  | 79 => ⟨S32x128x45x82, .f32⟩
  | 80 => ⟨S32x45x82x128, .f32⟩
  | 81 => ⟨S32x128x45x82, .f32⟩
  | 82 => ⟨S32x128x45x82, .f32⟩
  | 83 => ⟨S128x128x1x1, .f32⟩
  | 84 => ⟨S128x128, .f32⟩
  | 85 => ⟨S32x128x45x82, .f32⟩
  | 86 => ⟨S32x45x82x128, .f32⟩
  | 87 => ⟨S32x128x45x82, .f32⟩
  | 88 => ⟨S32x128x45x82, .f32⟩
  | 89 => ⟨S128x128x1x1, .f32⟩
  | 90 => ⟨S128x128, .f32⟩
  | 91 => ⟨S32x128x45x82, .f32⟩
  | 92 => ⟨S32x45x82x128, .f32⟩
  | 93 => ⟨S32x128x45x82, .f32⟩
  | 94 => ⟨S32x128x45x82, .f32⟩
  | 95 => ⟨S128x128x1x1, .f32⟩
  | 96 => ⟨S128x128, .f32⟩
  | 97 => ⟨S32x128x45x82, .f32⟩
  | 98 => ⟨S32x45x82x128, .f32⟩
  | 99 => ⟨S32x128x45x82, .f32⟩
  | 100 => ⟨S32x128x45x82, .f32⟩
  | 101 => ⟨S1x128x1x1, .f32⟩
  | 102 => ⟨S32x128x45x82, .f32⟩
  | 103 => ⟨S32x128x45x82, .f32⟩
  | 104 => ⟨S1x128x1x1, .f32⟩
  | 105 => ⟨S32x128x45x82, .f32⟩
  | 106 => ⟨S32x128x45x82, .f32⟩
  | 107 => ⟨S1x128x1x1, .f32⟩
  | 108 => ⟨S32x128x45x82, .f32⟩
  | 109 => ⟨S32x128x45x82, .f32⟩
  | 110 => ⟨S_, .f32⟩
  | 111 => ⟨S32x128x45x82, .f32⟩
  | 112 => ⟨S32x128x45x82, .f32⟩
  | 113 => ⟨S_, .f32⟩
  | 114 => ⟨S32, .f32⟩
  | 115 => ⟨S32x1x1x1, .f32⟩
  | 116 => ⟨S32x128x45x82, .f32⟩
  | 117 => ⟨S32x128x45x82, .f32⟩
  | 118 => ⟨S_, .f32⟩
  | 119 => ⟨S32, .f32⟩
  | 120 => ⟨S32x1x1x1, .f32⟩
  | 121 => ⟨S_, .f32⟩
  | 122 => ⟨S32x1x1x1, .f32⟩
  | 123 => ⟨S32x1x1x1, .f32⟩
  | 124 => ⟨S32x128x45x82, .f32⟩
  | 125 => ⟨S32x128x45x82, .f32⟩
  | 126 => ⟨S_, .f32⟩
  | 127 => ⟨S32x128x45x82, .f32⟩
  | _ => ⟨S32x32x90x165, .f32⟩

abbrev hbmTy0_3 (i : Nat) : BufTy := match i % 128 with
  | 0 => ⟨S32x128x45x82, .f32⟩
  | 1 => ⟨S_, .f32⟩
  | 2 => ⟨S32x128x45x82, .f32⟩
  | 3 => ⟨S32x128x45x82, .f32⟩
  | 4 => ⟨S32x128x45x82, .f32⟩
  | 5 => ⟨S32x128x45x82, .f32⟩
  | 6 => ⟨S_, .f32⟩
  | 7 => ⟨S32x128x45x82, .f32⟩
  | 8 => ⟨S32x128x45x82, .f32⟩
  | 9 => ⟨S_, .f32⟩
  | 10 => ⟨S32x128x45x82, .f32⟩
  | 11 => ⟨S32x128x45x82, .f32⟩
  | 12 => ⟨S32x128x128, .f32⟩
  | 13 => ⟨S_, .f32⟩
  | 14 => ⟨S32x128x128, .f32⟩
  | 15 => ⟨S32x128x128, .f32⟩
  | _ => ⟨S32x32x90x165, .f32⟩

abbrev hbmTy (i : Nat) : BufTy := match i / 128 with
  | 0 => hbmTy0_0 i
  | 1 => hbmTy0_1 i
  | 2 => hbmTy0_2 i
  | 3 => hbmTy0_3 i
  | _ => ⟨S32x32x90x165, .f32⟩

abbrev bufTy : (tb : Table) → Fin (tcTables nBuf tb) → BufTy
  | .hbm, ⟨i, _⟩ => hbmTy i
  | _, _ => ⟨S32x32x90x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst : Ref sig .tc := ⟨.hbm, 89, rfl⟩
abbrev main_v64 : Ref sig .tc := ⟨.hbm, 90, rfl⟩
abbrev main_v65 : Ref sig .tc := ⟨.hbm, 91, rfl⟩
abbrev main_c_0 : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_call3_cst : Ref sig .tc := ⟨.hbm, 157, rfl⟩
abbrev main_call3_v0 : Ref sig .tc := ⟨.hbm, 158, rfl⟩
abbrev main_v129 : Ref sig .tc := ⟨.hbm, 159, rfl⟩
abbrev main_c_1 : Ref sig .tc := ⟨.hbm, 160, rfl⟩
abbrev main_call4_v0 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_cst_2 : Ref sig .tc := ⟨.hbm, 227, rfl⟩
abbrev main_v195 : Ref sig .tc := ⟨.hbm, 228, rfl⟩
abbrev main_v196 : Ref sig .tc := ⟨.hbm, 229, rfl⟩
abbrev main_cst_3 : Ref sig .tc := ⟨.hbm, 230, rfl⟩
abbrev main_v197 : Ref sig .tc := ⟨.hbm, 231, rfl⟩
abbrev main_v198 : Ref sig .tc := ⟨.hbm, 232, rfl⟩
abbrev main_c_4 : Ref sig .tc := ⟨.hbm, 233, rfl⟩
abbrev main_call5_v0 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_call6_cst : Ref sig .tc := ⟨.hbm, 298, rfl⟩
abbrev main_call6_v0 : Ref sig .tc := ⟨.hbm, 299, rfl⟩
abbrev main_v262 : Ref sig .tc := ⟨.hbm, 300, rfl⟩
abbrev main_c_5 : Ref sig .tc := ⟨.hbm, 301, rfl⟩
abbrev main_call7_v0 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_call8_cst : Ref sig .tc := ⟨.hbm, 366, rfl⟩
abbrev main_call8_v0 : Ref sig .tc := ⟨.hbm, 367, rfl⟩
abbrev main_v326 : Ref sig .tc := ⟨.hbm, 368, rfl⟩
abbrev main_cst_6 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_v330 : Ref sig .tc := ⟨.hbm, 373, rfl⟩
abbrev main_cst_7 : Ref sig .tc := ⟨.hbm, 374, rfl⟩
abbrev main_v331 : Ref sig .tc := ⟨.hbm, 375, rfl⟩
abbrev main_v332 : Ref sig .tc := ⟨.hbm, 376, rfl⟩
abbrev main_cst_8 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_cst_9 : Ref sig .tc := ⟨.hbm, 382, rfl⟩
abbrev main_v337 : Ref sig .tc := ⟨.hbm, 383, rfl⟩
abbrev main_v338 : Ref sig .tc := ⟨.hbm, 384, rfl⟩
abbrev main_cst_10 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_cst_11 : Ref sig .tc := ⟨.hbm, 390, rfl⟩
abbrev main_v343 : Ref sig .tc := ⟨.hbm, 391, rfl⟩
abbrev main_v344 : Ref sig .tc := ⟨.hbm, 392, rfl⟩
abbrev main_cst_12 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_cst_13 : Ref sig .tc := ⟨.hbm, 397, rfl⟩
abbrev main_v348 : Ref sig .tc := ⟨.hbm, 398, rfl⟩
abbrev main_v349 : Ref sig .tc := ⟨.hbm, 399, rfl⟩

abbrev nD : Nat := 1
abbrev τ : Topo := Topo.v7x

variable {F : FTy → Type} [FloatOps F]
-- ==== Stage1.lean ====
abbrev S32x1024x2 : Shape := ⟨3, ![32, 1024, 2]⟩
abbrev S32x180x330 : Shape := ⟨3, ![32, 180, 330]⟩
abbrev S32x1x3x3 : Shape := ⟨4, ![32, 1, 3, 3]⟩
abbrev S32 : Shape := ⟨1, ![32]⟩
abbrev S329x165 : Shape := ⟨2, ![329, 165]⟩
abbrev S32x3x3 : Shape := ⟨3, ![32, 3, 3]⟩
abbrev S32x1x1 : Shape := ⟨3, ![32, 1, 1]⟩
abbrev S32x9 : Shape := ⟨2, ![32, 9]⟩
abbrev S32x2x1024 : Shape := ⟨3, ![32, 2, 1024]⟩
abbrev S32x2880x165 : Shape := ⟨3, ![32, 2880, 165]⟩
abbrev S1x1024x2 : Shape := ⟨3, ![1, 1024, 2]⟩
abbrev S1x2x1024 : Shape := ⟨3, ![1, 2, 1024]⟩
abbrev S1x180x330 : Shape := ⟨3, ![1, 180, 330]⟩
abbrev S1x2880x165 : Shape := ⟨3, ![1, 2880, 165]⟩
abbrev S1x1x1024 : Shape := ⟨3, ![1, 1, 1024]⟩
abbrev S1x1024 : Shape := ⟨2, ![1, 1024]⟩
abbrev S180x1024 : Shape := ⟨2, ![180, 1024]⟩
abbrev S1x1024x1 : Shape := ⟨3, ![1, 1024, 1]⟩
abbrev S1024x1 : Shape := ⟨2, ![1024, 1]⟩
abbrev S1024x330 : Shape := ⟨2, ![1024, 330]⟩
abbrev S180x330 : Shape := ⟨2, ![180, 330]⟩
abbrev S1 : Shape := ⟨1, ![1]⟩
abbrev S1x1x1 : Shape := ⟨3, ![1, 1, 1]⟩
abbrev S1x1 : Shape := ⟨2, ![1, 1]⟩
abbrev S180x1 : Shape := ⟨2, ![180, 1]⟩
abbrev S1x332 : Shape := ⟨2, ![1, 332]⟩
abbrev S180x332 : Shape := ⟨2, ![180, 332]⟩
abbrev S182x332 : Shape := ⟨2, ![182, 332]⟩
abbrev S90x2x330 : Shape := ⟨3, ![90, 2, 330]⟩
abbrev S90x330 : Shape := ⟨2, ![90, 330]⟩
abbrev S1x90x330 : Shape := ⟨3, ![1, 90, 330]⟩
abbrev S32x90x330 : Shape := ⟨3, ![32, 90, 330]⟩
abbrev S2880x330 : Shape := ⟨2, ![2880, 330]⟩
abbrev S2880x329 : Shape := ⟨2, ![2880, 329]⟩
abbrev S2880x165 : Shape := ⟨2, ![2880, 165]⟩

abbrev nBuf : Space → Nat
  | .hbm => 16
  | .vmem => 9
  | .smem => 2
  | _ => 0

abbrev bufTy : (tb : Table) → Fin (tcTables nBuf tb) → BufTy
  | .hbm, ⟨0, _⟩ => ⟨S32x1024x2, .f32⟩
  | .hbm, ⟨1, _⟩ => ⟨S32x180x330, .f32⟩
  | .hbm, ⟨2, _⟩ => ⟨S32x1x3x3, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S329x165, .f32⟩
  | .hbm, ⟨7, _⟩ => ⟨S32x3x3, .f32⟩
  | .hbm, ⟨8, _⟩ => ⟨S32x1x1, .f32⟩
  | .hbm, ⟨9, _⟩ => ⟨S32x3x3, .f32⟩
  | .hbm, ⟨10, _⟩ => ⟨S32x3x3, .f32⟩
  | .hbm, ⟨11, _⟩ => ⟨S32x9, .f32⟩
  | .hbm, ⟨12, _⟩ => ⟨S32, .f32⟩
  | .hbm, ⟨13, _⟩ => ⟨S32, .f32⟩
  | .hbm, ⟨14, _⟩ => ⟨S32x2x1024, .f32⟩
  | .hbm, ⟨15, _⟩ => ⟨S32x2880x165, .f32⟩
  | .local _ .vmem, ⟨0, _⟩ => ⟨S1x1024x2, .f32⟩
  | .local _ .vmem, ⟨1, _⟩ => ⟨S1x1024x2, .f32⟩
  | .local _ .vmem, ⟨2, _⟩ => ⟨S1x2x1024, .f32⟩
  | .local _ .vmem, ⟨3, _⟩ => ⟨S1x2x1024, .f32⟩
  | .local _ .vmem, ⟨4, _⟩ => ⟨S1x180x330, .f32⟩
  | .local _ .vmem, ⟨5, _⟩ => ⟨S1x180x330, .f32⟩
  | .local _ .vmem, ⟨6, _⟩ => ⟨S329x165, .f32⟩
  | .local _ .vmem, ⟨7, _⟩ => ⟨S1x2880x165, .f32⟩
  | .local _ .vmem, ⟨8, _⟩ => ⟨S1x2880x165, .f32⟩
  | .local _ .smem, ⟨0, _⟩ => ⟨S32x9, .f32⟩
  | .local _ .smem, ⟨1, _⟩ => ⟨S32, .f32⟩
  | _, _ => ⟨S32x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x180x330 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S32x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S329x165 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2880x165 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Stage1Ideal.lean ====
variable {F : FTy → Type} [FloatOps F] [Named F]
def κ : String → Option EReal := fun
  | "inv_two_sigma_sq" => some ((18⁻¹ : ℝ) : EReal)
  | _ => none
-- ==== FirstMapIdeal.lean ====
abbrev S32x1024x2 : Shape := ⟨3, ![32, 1024, 2]⟩
abbrev S32x180x330 : Shape := ⟨3, ![32, 180, 330]⟩
abbrev S32x1x3x3 : Shape := ⟨4, ![32, 1, 3, 3]⟩
abbrev S32 : Shape := ⟨1, ![32]⟩
abbrev S32x1024x1 : Shape := ⟨3, ![32, 1024, 1]⟩
abbrev S32x1024 : Shape := ⟨2, ![32, 1024]⟩
abbrev S_ : Shape := ⟨0, ![]⟩
abbrev S37 : Shape := ⟨1, ![37]⟩
abbrev S37x1 : Shape := ⟨2, ![37, 1]⟩
abbrev S1x37 : Shape := ⟨2, ![1, 37]⟩
abbrev S37x37 : Shape := ⟨2, ![37, 37]⟩
abbrev S1x1x37x1 : Shape := ⟨4, ![1, 1, 37, 1]⟩
abbrev S32x1024x1x1 : Shape := ⟨4, ![32, 1024, 1, 1]⟩
abbrev S32x1024x37x1 : Shape := ⟨4, ![32, 1024, 37, 1]⟩
abbrev S1x1x1x37 : Shape := ⟨4, ![1, 1, 1, 37]⟩
abbrev S32x1024x1x37 : Shape := ⟨4, ![32, 1024, 1, 37]⟩
abbrev S32x1024x37x37 : Shape := ⟨4, ![32, 1024, 37, 37]⟩
abbrev S1x1x37x37 : Shape := ⟨4, ![1, 1, 37, 37]⟩
abbrev S32x1x1x1 : Shape := ⟨4, ![32, 1, 1, 1]⟩
abbrev S2548448 : Shape := ⟨1, ![2548448]⟩
abbrev S44859392 : Shape := ⟨1, ![44859392]⟩
abbrev S44859392x1 : Shape := ⟨2, ![44859392, 1]⟩
abbrev S32x217x367 : Shape := ⟨3, ![32, 217, 367]⟩
abbrev S32x1x1 : Shape := ⟨3, ![32, 1, 1]⟩
abbrev S32x1x180x330 : Shape := ⟨4, ![32, 1, 180, 330]⟩
abbrev S32x1x182x332 : Shape := ⟨4, ![32, 1, 182, 332]⟩
abbrev S32x1 : Shape := ⟨2, ![32, 1]⟩
abbrev S32x180x330x32 : Shape := ⟨4, ![32, 180, 330, 32]⟩
abbrev S32x32x180x330 : Shape := ⟨4, ![32, 32, 180, 330]⟩
abbrev S1x32x1x1 : Shape := ⟨4, ![1, 32, 1, 1]⟩
abbrev S32x32x90x165 : Shape := ⟨4, ![32, 32, 90, 165]⟩
abbrev S32x2880x165 : Shape := ⟨3, ![32, 2880, 165]⟩

abbrev nBuf : Space → Nat
  | .hbm => 246
  | .vmem => 0
  | .smem => 0
  | _ => 0

abbrev hbmTy0_0 (i : Nat) : BufTy := match i % 128 with
  | 0 => ⟨S32x1024x2, .f32⟩
  | 1 => ⟨S32x180x330, .f32⟩
  | 2 => ⟨S32x1x3x3, .f32⟩
  | 3 => ⟨S32, .f32⟩
  | 4 => ⟨S32, .f32⟩
  | 5 => ⟨S32, .f32⟩
  | 6 => ⟨S32x1024x1, .f32⟩
  | 7 => ⟨S32x1024, .f32⟩
  | 8 => ⟨S_, .f32⟩
  | 9 => ⟨S32x1024, .f32⟩
  | 10 => ⟨S32x1024, .f32⟩
  | 11 => ⟨S_, .f32⟩
  | 12 => ⟨S32x1024, .f32⟩
  | 13 => ⟨S32x1024, .f32⟩
  | 14 => ⟨S32x1024, .i32⟩
  | 15 => ⟨S_, .i32⟩
  | 16 => ⟨S32x1024, .i32⟩
  | 17 => ⟨S32x1024, .i32⟩
  | 18 => ⟨S32x1024x1, .f32⟩
  | 19 => ⟨S32x1024, .f32⟩
  | 20 => ⟨S_, .f32⟩
  | 21 => ⟨S32x1024, .f32⟩
  | 22 => ⟨S32x1024, .f32⟩
  | 23 => ⟨S_, .f32⟩
  | 24 => ⟨S32x1024, .f32⟩
  | 25 => ⟨S32x1024, .f32⟩
  | 26 => ⟨S32x1024, .i32⟩
  | 27 => ⟨S32x1024x1, .f32⟩
  | 28 => ⟨S32x1024, .f32⟩
  | 29 => ⟨S32x1024, .i1⟩
  | 30 => ⟨S32x1024x1, .f32⟩
  | 31 => ⟨S32x1024, .f32⟩
  | 32 => ⟨S32x1024, .i1⟩
  | 33 => ⟨S32x1024, .i1⟩
  | 34 => ⟨S32x1024, .i1⟩
  | 35 => ⟨S37, .f32⟩
  | 36 => ⟨S_, .f32⟩
  | 37 => ⟨S37, .f32⟩
  | 38 => ⟨S37, .f32⟩
  | 39 => ⟨S37, .f32⟩
  | 40 => ⟨S37, .f32⟩
  | 41 => ⟨S_, .f32⟩
  | 42 => ⟨S37, .f32⟩
  | 43 => ⟨S37, .f32⟩
  | 44 => ⟨S37, .f32⟩
  | 45 => ⟨S37x1, .f32⟩
  | 46 => ⟨S1x37, .f32⟩
  | 47 => ⟨S37x37, .f32⟩
  | 48 => ⟨S37x37, .f32⟩
  | 49 => ⟨S37x37, .f32⟩
  | 50 => ⟨S_, .f32⟩
  | 51 => ⟨S37x37, .f32⟩
  | 52 => ⟨S37x37, .f32⟩
  | 53 => ⟨S_, .i32⟩
  | 54 => ⟨S32x1024, .i32⟩
  | 55 => ⟨S32x1024, .i32⟩
  | 56 => ⟨S_, .i32⟩
  | 57 => ⟨S_, .i32⟩
  | 58 => ⟨S_, .i32⟩
  | 59 => ⟨S32x1024, .i32⟩
  | 60 => ⟨S32x1024, .i32⟩
  | 61 => ⟨S_, .i32⟩
  | 62 => ⟨S32x1024, .i32⟩
  | 63 => ⟨S32x1024, .i32⟩
  | 64 => ⟨S_, .i32⟩
  | 65 => ⟨S32x1024, .i32⟩
  | 66 => ⟨S32x1024, .i32⟩
  | 67 => ⟨S_, .i32⟩
  | 68 => ⟨S_, .i32⟩
  | 69 => ⟨S_, .i32⟩
  | 70 => ⟨S32x1024, .i32⟩
  | 71 => ⟨S32x1024, .i32⟩
  | 72 => ⟨S_, .i32⟩
  | 73 => ⟨S32x1024, .i32⟩
  | 74 => ⟨S32x1024, .i32⟩
  | 75 => ⟨S_, .i32⟩
  | 76 => ⟨S32x1024, .i32⟩
  | 77 => ⟨S32x1024, .i32⟩
  | 78 => ⟨S_, .i32⟩
  | 79 => ⟨S_, .i32⟩
  | 80 => ⟨S_, .i32⟩
  | 81 => ⟨S32x1024, .i32⟩
  | 82 => ⟨S32x1024, .i32⟩
  | 83 => ⟨S_, .i32⟩
  | 84 => ⟨S32x1024, .i32⟩
  | 85 => ⟨S32x1024, .i32⟩
  | 86 => ⟨S_, .i32⟩
  | 87 => ⟨S32x1024, .i32⟩
  | 88 => ⟨S32x1024, .i32⟩
  | 89 => ⟨S_, .i32⟩
  | 90 => ⟨S_, .i32⟩
  | 91 => ⟨S_, .i32⟩
  | 92 => ⟨S32x1024, .i32⟩
  | 93 => ⟨S32x1024, .i32⟩
  | 94 => ⟨S_, .i32⟩
  | 95 => ⟨S32x1024, .i32⟩
  | 96 => ⟨S32x1024, .i32⟩
  | 97 => ⟨S37, .i32⟩
  | 98 => ⟨S1x1x37x1, .i32⟩
  | 99 => ⟨S32x1024, .i32⟩
  | 100 => ⟨S32x1024x1x1, .i32⟩
  | 101 => ⟨S32x1024x37x1, .i32⟩
  | 102 => ⟨S32x1024x37x1, .i32⟩
  | 103 => ⟨S32x1024x37x1, .i1⟩
  | 104 => ⟨S1x1x1x37, .i32⟩
  | 105 => ⟨S32x1024, .i32⟩
  | 106 => ⟨S32x1024x1x1, .i32⟩
  | 107 => ⟨S32x1024x1x37, .i32⟩
  | 108 => ⟨S32x1024x1x37, .i32⟩
  | 109 => ⟨S32x1024x1x37, .i1⟩
  | 110 => ⟨S32x1024x37x37, .i1⟩
  | 111 => ⟨S32x1024x37x37, .i1⟩
  | 112 => ⟨S32x1024x37x37, .i1⟩
  | 113 => ⟨S32x1024x1x1, .i1⟩
  | 114 => ⟨S32x1024x37x37, .i1⟩
  | 115 => ⟨S32x1024x37x37, .i1⟩
  | 116 => ⟨S1x1x37x37, .f32⟩
  | 117 => ⟨S32x1024x37x37, .f32⟩
  | 118 => ⟨S32x1024x37x37, .f32⟩
  | 119 => ⟨S32x1024x37x37, .f32⟩
  | 120 => ⟨S32, .i32⟩
  | 121 => ⟨S32x1x1x1, .i32⟩
  | 122 => ⟨S32x1024x1x1, .i32⟩
  | 123 => ⟨S1x1x37x1, .i32⟩
  | 124 => ⟨S32x1024x37x1, .i32⟩
  | 125 => ⟨S32x1024x37x1, .i32⟩
  | 126 => ⟨S32x1024x37x1, .i32⟩
  | 127 => ⟨S32x1024x1x1, .i32⟩
  | _ => ⟨S32x1024x2, .f32⟩

abbrev hbmTy0_1 (i : Nat) : BufTy := match i % 128 with
  | 0 => ⟨S1x1x1x37, .i32⟩
  | 1 => ⟨S32x1024x1x37, .i32⟩
  | 2 => ⟨S32x1024x1x37, .i32⟩
  | 3 => ⟨S32x1024x1x37, .i32⟩
  | 4 => ⟨S_, .i32⟩
  | 5 => ⟨S32x1x1x1, .i32⟩
  | 6 => ⟨S32x1x1x1, .i32⟩
  | 7 => ⟨S32x1024x37x1, .i32⟩
  | 8 => ⟨S32x1024x37x1, .i32⟩
  | 9 => ⟨S_, .i32⟩
  | 10 => ⟨S32x1024x37x1, .i32⟩
  | 11 => ⟨S32x1024x37x1, .i32⟩
  | 12 => ⟨S32x1024x37x37, .i32⟩
  | 13 => ⟨S32x1024x37x37, .i32⟩
  | 14 => ⟨S32x1024x37x37, .i32⟩
  | 15 => ⟨S_, .f32⟩
  | 16 => ⟨S2548448, .f32⟩
  | 17 => ⟨S44859392, .i32⟩
  | 18 => ⟨S44859392, .f32⟩
  | 19 => ⟨S_, .i32⟩
  | 20 => ⟨S44859392, .i32⟩
  | 21 => ⟨S44859392, .i1⟩
  | 22 => ⟨S_, .i32⟩
  | 23 => ⟨S44859392, .i32⟩
  | 24 => ⟨S44859392, .i32⟩
  | 25 => ⟨S44859392, .i32⟩
  | 26 => ⟨S44859392x1, .i32⟩
  | 27 => ⟨S2548448, .f32⟩
  | 28 => ⟨S32x217x367, .f32⟩
  | 29 => ⟨S32x180x330, .f32⟩
  | 30 => ⟨S_, .f32⟩
  | 31 => ⟨S32, .f32⟩
  | 32 => ⟨S32x1x1, .f32⟩
  | 33 => ⟨S_, .f32⟩
  | 34 => ⟨S32x1x1, .f32⟩
  | 35 => ⟨S32x1x1, .f32⟩
  | 36 => ⟨S32x180x330, .f32⟩
  | 37 => ⟨S32x180x330, .f32⟩
  | 38 => ⟨S_, .f32⟩
  | 39 => ⟨S32x180x330, .f32⟩
  | 40 => ⟨S32x180x330, .f32⟩
  | 41 => ⟨S_, .f32⟩
  | 42 => ⟨S32x180x330, .f32⟩
  | 43 => ⟨S32x180x330, .f32⟩
  | 44 => ⟨S32x180x330, .f32⟩
  | 45 => ⟨S32x1x180x330, .f32⟩
  | 46 => ⟨S_, .i32⟩
  | 47 => ⟨S_, .f32⟩
  | 48 => ⟨S32x1x182x332, .f32⟩
  | 49 => ⟨S32x1x1x1, .f32⟩
  | 50 => ⟨S32x1, .f32⟩
  | 51 => ⟨S32x1x180x330, .f32⟩
  | 52 => ⟨S32x180x330x32, .f32⟩
  | 53 => ⟨S32x32x180x330, .f32⟩
  | 54 => ⟨S32x1x1x1, .f32⟩
  | 55 => ⟨S32x1, .f32⟩
  | 56 => ⟨S32x1x180x330, .f32⟩
  | 57 => ⟨S32x180x330x32, .f32⟩
  | 58 => ⟨S32x32x180x330, .f32⟩
  | 59 => ⟨S32x32x180x330, .f32⟩
  | 60 => ⟨S32x1x1x1, .f32⟩
  | 61 => ⟨S32x1, .f32⟩
  | 62 => ⟨S32x1x180x330, .f32⟩
  | 63 => ⟨S32x180x330x32, .f32⟩
  | 64 => ⟨S32x32x180x330, .f32⟩
  | 65 => ⟨S32x32x180x330, .f32⟩
  | 66 => ⟨S32x1x1x1, .f32⟩
  | 67 => ⟨S32x1, .f32⟩
  | 68 => ⟨S32x1x180x330, .f32⟩
  | 69 => ⟨S32x180x330x32, .f32⟩
  | 70 => ⟨S32x32x180x330, .f32⟩
  | 71 => ⟨S32x32x180x330, .f32⟩
  | 72 => ⟨S32x1x1x1, .f32⟩
  | 73 => ⟨S32x1, .f32⟩
  | 74 => ⟨S32x1x180x330, .f32⟩
  | 75 => ⟨S32x180x330x32, .f32⟩
  | 76 => ⟨S32x32x180x330, .f32⟩
  | 77 => ⟨S32x32x180x330, .f32⟩
  | 78 => ⟨S32x1x1x1, .f32⟩
  | 79 => ⟨S32x1, .f32⟩
  | 80 => ⟨S32x1x180x330, .f32⟩
  | 81 => ⟨S32x180x330x32, .f32⟩
  | 82 => ⟨S32x32x180x330, .f32⟩
  | 83 => ⟨S32x32x180x330, .f32⟩
  | 84 => ⟨S32x1x1x1, .f32⟩
  | 85 => ⟨S32x1, .f32⟩
  | 86 => ⟨S32x1x180x330, .f32⟩
  | 87 => ⟨S32x180x330x32, .f32⟩
  | 88 => ⟨S32x32x180x330, .f32⟩
  | 89 => ⟨S32x32x180x330, .f32⟩
  | 90 => ⟨S32x1x1x1, .f32⟩
  | 91 => ⟨S32x1, .f32⟩
  | 92 => ⟨S32x1x180x330, .f32⟩
  | 93 => ⟨S32x180x330x32, .f32⟩
  | 94 => ⟨S32x32x180x330, .f32⟩
  | 95 => ⟨S32x32x180x330, .f32⟩
  | 96 => ⟨S32x1x1x1, .f32⟩
  | 97 => ⟨S32x1, .f32⟩
  | 98 => ⟨S32x1x180x330, .f32⟩
  | 99 => ⟨S32x180x330x32, .f32⟩
  | 100 => ⟨S32x32x180x330, .f32⟩
  | 101 => ⟨S32x32x180x330, .f32⟩
  | 102 => ⟨S1x32x1x1, .f32⟩
  | 103 => ⟨S32x32x180x330, .f32⟩
  | 104 => ⟨S32x32x180x330, .f32⟩
  | 105 => ⟨S1x32x1x1, .f32⟩
  | 106 => ⟨S32x32x180x330, .f32⟩
  | 107 => ⟨S32x32x180x330, .f32⟩
  | 108 => ⟨S1x32x1x1, .f32⟩
  | 109 => ⟨S32x32x180x330, .f32⟩
  | 110 => ⟨S32x32x180x330, .f32⟩
  | 111 => ⟨S_, .f32⟩
  | 112 => ⟨S32x32x180x330, .f32⟩
  | 113 => ⟨S32x32x180x330, .f32⟩
  | 114 => ⟨S_, .f32⟩
  | 115 => ⟨S_, .f32⟩
  | 116 => ⟨S32x32x90x165, .f32⟩
  | 117 => ⟨S32x2880x165, .f32⟩
  | _ => ⟨S32x1024x2, .f32⟩

abbrev hbmTy (i : Nat) : BufTy := match i / 128 with
  | 0 => hbmTy0_0 i
  | 1 => hbmTy0_1 i
  | _ => ⟨S32x1024x2, .f32⟩

abbrev bufTy : (tb : Table) → Fin (tcTables nBuf tb) → BufTy
  | .hbm, ⟨i, _⟩ => hbmTy i
  | _, _ => ⟨S32x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_c_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_c_11 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v44 : Ref sig .tc := ⟨.hbm, 74, rfl⟩
abbrev main_c_12 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_c_14 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v47 : Ref sig .tc := ⟨.hbm, 85, rfl⟩
abbrev main_c_15 : Ref sig .tc := ⟨.hbm, 86, rfl⟩
abbrev main_v48 : Ref sig .tc := ⟨.hbm, 87, rfl⟩
abbrev main_v49 : Ref sig .tc := ⟨.hbm, 88, rfl⟩
abbrev main_c_16 : Ref sig .tc := ⟨.hbm, 89, rfl⟩
abbrev main_c_17 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_18 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_19 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_20 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_21 : Ref sig .tc := ⟨.hbm, 147, rfl⟩
abbrev main_v98 : Ref sig .tc := ⟨.hbm, 148, rfl⟩
abbrev main_v99 : Ref sig .tc := ⟨.hbm, 149, rfl⟩
abbrev main_c_22 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_23 : Ref sig .tc := ⟨.hbm, 158, rfl⟩
abbrev main_v107 : Ref sig .tc := ⟨.hbm, 159, rfl⟩
abbrev main_v108 : Ref sig .tc := ⟨.hbm, 160, rfl⟩
abbrev main_cst_24 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_25 : Ref sig .tc := ⟨.hbm, 166, rfl⟩
abbrev main_v113 : Ref sig .tc := ⟨.hbm, 167, rfl⟩
abbrev main_v114 : Ref sig .tc := ⟨.hbm, 168, rfl⟩
abbrev main_cst_26 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c_27 : Ref sig .tc := ⟨.hbm, 174, rfl⟩
abbrev main_call4_v0 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_call5_cst : Ref sig .tc := ⟨.hbm, 239, rfl⟩
abbrev main_call5_v0 : Ref sig .tc := ⟨.hbm, 240, rfl⟩
abbrev main_v182 : Ref sig .tc := ⟨.hbm, 241, rfl⟩
abbrev main_cst_28 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩

abbrev nD : Nat := 1
abbrev τ : Topo := Topo.v7x

variable {F : FTy → Type} [FloatOps F]
-- ==== Proof.Trunk.Spec.lean ====
/- The trunk's mathematics over the extended reals, as plain functions of row, column and channel numbers: the zero
   border, a 3×3 convolution at a position, the 2×2 maximum, and the attention-pooled sum. No program appears here. -/
module

public import Mathlib.Data.EReal.Operations
public import Mathlib.Algebra.BigOperators.Fin
public import Idealize.ShloMosaic.PureOps.Ideal

@[expose] public section

noncomputable section

namespace Cert.Trunk

open Idealize.ShloMosaic

/-- An image of `H` rows and `W` columns inside a border of zeros one wide: position `(r, c)` of the bordered image. -/
def bordered {α : Type} (H W : ℕ) (x : ℕ → ℕ → α → EReal) (r c : ℕ) (k : α) : EReal :=
  if 1 ≤ r ∧ r ≤ H ∧ 1 ≤ c ∧ c ≤ W then x (r - 1) (c - 1) k else 0

/-- One of the nine products of a 3×3 convolution: the bordered image shifted by `(i, j)` against the matrix `w`. -/
def tap {K : ℕ} (P : ℕ → ℕ → Fin K → EReal) (w : Fin K → EReal) (i j r c : ℕ) : EReal :=
  ∑ k : Fin K, P (r + i) (c + j) k * w k

/-- A 3×3 convolution at output position `(r, c)` for one output channel, from the bordered image; `w t` is the
    weight row of tap `t = 3 i + j`. -/
def conv9 {K : ℕ} (P : ℕ → ℕ → Fin K → EReal) (w : ℕ → Fin K → EReal) (r c : ℕ) : EReal :=
  tap P (w 0) 0 0 r c + tap P (w 1) 0 1 r c + tap P (w 2) 0 2 r c + tap P (w 3) 1 0 r c + tap P (w 4) 1 1 r c
    + tap P (w 5) 1 2 r c + tap P (w 6) 2 0 r c + tap P (w 7) 2 1 r c + tap P (w 8) 2 2 r c

/-- The maximum of a 2×2 window at pooled position `(r, c)`. -/
def pool2 (x : ℕ → ℕ → EReal) (r c : ℕ) : EReal :=
  max (max (x (2 * r) (2 * c)) (x (2 * r + 1) (2 * c))) (max (x (2 * r) (2 * c + 1)) (x (2 * r + 1) (2 * c + 1)))

/-- A convolution layer before its activation, on an image of `H` rows and `W` columns: nine products and a bias. -/
def layer {K N : ℕ} (H W : ℕ) (x : ℕ → ℕ → Fin K → EReal) (w : ℕ → Fin K → Fin N → EReal) (b : Fin N → EReal) (r c : ℕ) (o : Fin N) : EReal :=
  conv9 (bordered H W x) (fun t k => w t k o) r c + b o

/-- A layer followed by the maximum with zero. -/
def reluLayer {K N : ℕ} (H W : ℕ) (x : ℕ → ℕ → Fin K → EReal) (w : ℕ → Fin K → Fin N → EReal) (b : Fin N → EReal) (r c : ℕ) (o : Fin N) : EReal :=
  max (layer H W x w b r c o) 0

/-- A layer followed by the maximum with zero and the 2×2 maximum. -/
def poolLayer {K N : ℕ} (H W : ℕ) (x : ℕ → ℕ → Fin K → EReal) (w : ℕ → Fin K → Fin N → EReal) (b : Fin N → EReal) (r c : ℕ) (o : Fin N) : EReal :=
  pool2 (fun r c => reluLayer H W x w b r c o) r c

/-- Nine weight matrices read at a tap number. -/
def taps {K N : ℕ} (w : Fin 9 → Fin K → Fin N → EReal) (t : ℕ) (k : Fin K) (o : Fin N) : EReal :=
  if h : t < 9 then w ⟨t, h⟩ k o else 0

/-- An image of `H` rows and `W` columns read at row and column numbers. -/
def image {K H W : ℕ} (x : Fin H → Fin W → Fin K → EReal) (r c : ℕ) (k : Fin K) : EReal :=
  if h : r < H ∧ c < W then x ⟨r, h.1⟩ ⟨c, h.2⟩ k else 0

theorem conv9_congr {K : ℕ} {P P' : ℕ → ℕ → Fin K → EReal} {w w' : ℕ → Fin K → EReal} {r c : ℕ}
    (hP : ∀ i j k, i < 3 → j < 3 → P (r + i) (c + j) k = P' (r + i) (c + j) k) (hw : ∀ t k, t < 9 → w t k = w' t k) :
    conv9 P w r c = conv9 P' w' r c := by
  have h : ∀ t i j, t < 9 → i < 3 → j < 3 → tap P (w t) i j r c = tap P' (w' t) i j r c := fun t i j ht hi hj =>
    Finset.sum_congr rfl fun k _ => by rw [hP i j k hi hj, hw t k ht]
  unfold conv9
  rw [h 0 0 0, h 1 0 1, h 2 0 2, h 3 1 0, h 4 1 1, h 5 1 2, h 6 2 0, h 7 2 1, h 8 2 2] <;> norm_num

/-- The least attention value, over all pixels and channels. -/
def lowest (Q : ℕ → Fin 128 → EReal) : EReal := ⨅ n : Fin 3690, ⨅ o : Fin 128, Q n o

/-- The greatest attention value, over all pixels and channels. -/
def highest (Q : ℕ → Fin 128 → EReal) : EReal := ⨆ n : Fin 3690, ⨆ o : Fin 128, Q n o

/-- One over the spread of the attention values, the spread taken at least the small constant. -/
def spread (Q : ℕ → Fin 128 → EReal) : EReal := Ideal.div 1 (max (highest Q - lowest Q) (Ideal.ofBits FTy.f32 0x38D1B717#32))

/-- The attention map: the steep sigmoid of the normalised attention values. -/
def focus (Q : ℕ → Fin 128 → EReal) (n : ℕ) (o : Fin 128) : EReal :=
  Ideal.logistic (Ideal.ofBits FTy.f32 0x41200000#32 * ((Q n o - lowest Q) * spread Q - Ideal.ofBits FTy.f32 0x3F000000#32))

/-- The attention-pooled features: attention channel `i` against feature channel `j`, averaged over the 3690 pixels. -/
def attended (Q G : ℕ → Fin 128 → EReal) (i j : Fin 128) : EReal :=
  (∑ n : Fin 3690, focus Q n i * G n j) * (((3690 : ℝ)⁻¹ : ℝ) : EReal)

/-- The trunk with its normalisations folded into the weights and biases: the pooled second layer, the feature branch, the
    attention branch, and the attention-pooled features. -/
def trunk (X : ℕ → ℕ → Fin 32 → EReal) (w : ℕ → Fin 32 → Fin 64 → EReal) (b : Fin 64 → EReal)
    (wa1 : ℕ → Fin 64 → Fin 128 → EReal) (ba1 : Fin 128 → EReal) (wa2 : ℕ → Fin 128 → Fin 128 → EReal) (ba2 : Fin 128 → EReal)
    (wp1 : ℕ → Fin 64 → Fin 128 → EReal) (bp1 : Fin 128 → EReal) (wp2 : ℕ → Fin 128 → Fin 128 → EReal) (bp2 : Fin 128 → EReal)
    (i j : Fin 128) : EReal :=
  attended (fun n o => reluLayer 45 82 (reluLayer 45 82 (poolLayer 90 165 X w b) wp1 bp1) wp2 bp2 (n / 82) (n % 82) o)
    (fun n o => Ideal.logistic (layer 45 82 (reluLayer 45 82 (poolLayer 90 165 X w b) wa1 ba1) wa2 ba2 (n / 82) (n % 82) o)) i j

end Cert.Trunk

end
-- ==== Proof.Trunk.Conv.lean ====
/- The kernel's convolution of one block of rows, on the vectors it has loaded, read at an output position. -/
module

public import proofs.«01_k».proof.Proof.Gen.KernelIdeal.Skeleton
public import proofs.«01_k».proof.Proof.Trunk.Spec
public import Idealize.ShloMosaic.Lib.Pointwise

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

/-- Nine products of a 20-row block with 32 channels, added in tap order. -/
def convA (X : FVec Ideal S20x167x32 .bf16) (w0 w1 w2 w3 w4 w5 w6 w7 w8 : FVec Ideal S1x32x64 .bf16) : FVec Ideal S2970x64 .f32 :=
  addf (addf (addf (addf (addf (addf (addf (addf (matmul dot_S2970x32_S32x64_S2970x64_1_0_0_1_n_n none (shapeCast S2970x32 (extractStridedSlice S18x165x32 ![0, 0, 0] X slices_S20x167x32_o0_0_0_S18x165x32) shapeCasts_S18x165x32_S2970x32) (shapeCast S32x64 w0 shapeCasts_S1x32x64_S32x64) (constant S2970x64 .f32 0x00000000#32))
    (matmul dot_S2970x32_S32x64_S2970x64_1_0_0_1_n_n none (shapeCast S2970x32 (extractStridedSlice S18x165x32 ![0, 1, 0] X slices_S20x167x32_o0_1_0_S18x165x32) shapeCasts_S18x165x32_S2970x32) (shapeCast S32x64 w1 shapeCasts_S1x32x64_S32x64) (constant S2970x64 .f32 0x00000000#32)))
    (matmul dot_S2970x32_S32x64_S2970x64_1_0_0_1_n_n none (shapeCast S2970x32 (extractStridedSlice S18x165x32 ![0, 2, 0] X slices_S20x167x32_o0_2_0_S18x165x32) shapeCasts_S18x165x32_S2970x32) (shapeCast S32x64 w2 shapeCasts_S1x32x64_S32x64) (constant S2970x64 .f32 0x00000000#32)))
    (matmul dot_S2970x32_S32x64_S2970x64_1_0_0_1_n_n none (shapeCast S2970x32 (extractStridedSlice S18x165x32 ![1, 0, 0] X slices_S20x167x32_o1_0_0_S18x165x32) shapeCasts_S18x165x32_S2970x32) (shapeCast S32x64 w3 shapeCasts_S1x32x64_S32x64) (constant S2970x64 .f32 0x00000000#32)))
    (matmul dot_S2970x32_S32x64_S2970x64_1_0_0_1_n_n none (shapeCast S2970x32 (extractStridedSlice S18x165x32 ![1, 1, 0] X slices_S20x167x32_o1_1_0_S18x165x32) shapeCasts_S18x165x32_S2970x32) (shapeCast S32x64 w4 shapeCasts_S1x32x64_S32x64) (constant S2970x64 .f32 0x00000000#32)))
    (matmul dot_S2970x32_S32x64_S2970x64_1_0_0_1_n_n none (shapeCast S2970x32 (extractStridedSlice S18x165x32 ![1, 2, 0] X slices_S20x167x32_o1_2_0_S18x165x32) shapeCasts_S18x165x32_S2970x32) (shapeCast S32x64 w5 shapeCasts_S1x32x64_S32x64) (constant S2970x64 .f32 0x00000000#32)))
    (matmul dot_S2970x32_S32x64_S2970x64_1_0_0_1_n_n none (shapeCast S2970x32 (extractStridedSlice S18x165x32 ![2, 0, 0] X slices_S20x167x32_o2_0_0_S18x165x32) shapeCasts_S18x165x32_S2970x32) (shapeCast S32x64 w6 shapeCasts_S1x32x64_S32x64) (constant S2970x64 .f32 0x00000000#32)))
    (matmul dot_S2970x32_S32x64_S2970x64_1_0_0_1_n_n none (shapeCast S2970x32 (extractStridedSlice S18x165x32 ![2, 1, 0] X slices_S20x167x32_o2_1_0_S18x165x32) shapeCasts_S18x165x32_S2970x32) (shapeCast S32x64 w7 shapeCasts_S1x32x64_S32x64) (constant S2970x64 .f32 0x00000000#32)))
    (matmul dot_S2970x32_S32x64_S2970x64_1_0_0_1_n_n none (shapeCast S2970x32 (extractStridedSlice S18x165x32 ![2, 2, 0] X slices_S20x167x32_o2_2_0_S18x165x32) shapeCasts_S18x165x32_S2970x32) (shapeCast S32x64 w8 shapeCasts_S1x32x64_S32x64) (constant S2970x64 .f32 0x00000000#32))

theorem convA_at (X : FVec Ideal S20x167x32 .bf16) (w0 w1 w2 w3 w4 w5 w6 w7 w8 : FVec Ideal S1x32x64 .bf16)
    (P : ℕ → ℕ → Fin 32 → EReal) (W : ℕ → Fin 32 → Fin 64 → EReal) (ro : ℕ)
    (hX : ∀ (r : Fin 20) (c : Fin 167) (k : Fin 32), X (ix3 r c k) = P (ro + r) c k)
    (h0 : ∀ (k : Fin 32) (o : Fin 64), w0 (ix3 (0 : Fin 1) k o) = W 0 k o)
    (h1 : ∀ (k : Fin 32) (o : Fin 64), w1 (ix3 (0 : Fin 1) k o) = W 1 k o)
    (h2 : ∀ (k : Fin 32) (o : Fin 64), w2 (ix3 (0 : Fin 1) k o) = W 2 k o)
    (h3 : ∀ (k : Fin 32) (o : Fin 64), w3 (ix3 (0 : Fin 1) k o) = W 3 k o)
    (h4 : ∀ (k : Fin 32) (o : Fin 64), w4 (ix3 (0 : Fin 1) k o) = W 4 k o)
    (h5 : ∀ (k : Fin 32) (o : Fin 64), w5 (ix3 (0 : Fin 1) k o) = W 5 k o)
    (h6 : ∀ (k : Fin 32) (o : Fin 64), w6 (ix3 (0 : Fin 1) k o) = W 6 k o)
    (h7 : ∀ (k : Fin 32) (o : Fin 64), w7 (ix3 (0 : Fin 1) k o) = W 7 k o)
    (h8 : ∀ (k : Fin 32) (o : Fin 64), w8 (ix3 (0 : Fin 1) k o) = W 8 k o)
    (r : Fin 2970) (o : Fin 64) :
    convA X w0 w1 w2 w3 w4 w5 w6 w7 w8 (ix2 r o) = conv9 P (fun t k => W t k o) (ro + r / 165) (r % 165) := by
  pointwise [convA]
  simp only [hX, h0, h1, h2, h3, h4, h5, h6, h7, h8]
  simp only [conv9, tap]
  simp only [Nat.add_comm 1, Nat.add_comm 2, ← Nat.add_assoc, Nat.add_zero]

/-- Nine products of an 11-row block with 64 channels, added in tap order. -/
def convB (X : FVec Ideal S11x84x64 .bf16) (w0 w1 w2 w3 w4 w5 w6 w7 w8 : FVec Ideal S1x64x128 .bf16) : FVec Ideal S738x128 .f32 :=
  addf (addf (addf (addf (addf (addf (addf (addf (matmul dot_S738x64_S64x128_S738x128_1_0_0_1_n_n none (shapeCast S738x64 (extractStridedSlice S9x82x64 ![0, 0, 0] X slices_S11x84x64_o0_0_0_S9x82x64) shapeCasts_S9x82x64_S738x64) (shapeCast S64x128 w0 shapeCasts_S1x64x128_S64x128) (constant S738x128 .f32 0x00000000#32))
    (matmul dot_S738x64_S64x128_S738x128_1_0_0_1_n_n none (shapeCast S738x64 (extractStridedSlice S9x82x64 ![0, 1, 0] X slices_S11x84x64_o0_1_0_S9x82x64) shapeCasts_S9x82x64_S738x64) (shapeCast S64x128 w1 shapeCasts_S1x64x128_S64x128) (constant S738x128 .f32 0x00000000#32)))
    (matmul dot_S738x64_S64x128_S738x128_1_0_0_1_n_n none (shapeCast S738x64 (extractStridedSlice S9x82x64 ![0, 2, 0] X slices_S11x84x64_o0_2_0_S9x82x64) shapeCasts_S9x82x64_S738x64) (shapeCast S64x128 w2 shapeCasts_S1x64x128_S64x128) (constant S738x128 .f32 0x00000000#32)))
    (matmul dot_S738x64_S64x128_S738x128_1_0_0_1_n_n none (shapeCast S738x64 (extractStridedSlice S9x82x64 ![1, 0, 0] X slices_S11x84x64_o1_0_0_S9x82x64) shapeCasts_S9x82x64_S738x64) (shapeCast S64x128 w3 shapeCasts_S1x64x128_S64x128) (constant S738x128 .f32 0x00000000#32)))
    (matmul dot_S738x64_S64x128_S738x128_1_0_0_1_n_n none (shapeCast S738x64 (extractStridedSlice S9x82x64 ![1, 1, 0] X slices_S11x84x64_o1_1_0_S9x82x64) shapeCasts_S9x82x64_S738x64) (shapeCast S64x128 w4 shapeCasts_S1x64x128_S64x128) (constant S738x128 .f32 0x00000000#32)))
    (matmul dot_S738x64_S64x128_S738x128_1_0_0_1_n_n none (shapeCast S738x64 (extractStridedSlice S9x82x64 ![1, 2, 0] X slices_S11x84x64_o1_2_0_S9x82x64) shapeCasts_S9x82x64_S738x64) (shapeCast S64x128 w5 shapeCasts_S1x64x128_S64x128) (constant S738x128 .f32 0x00000000#32)))
    (matmul dot_S738x64_S64x128_S738x128_1_0_0_1_n_n none (shapeCast S738x64 (extractStridedSlice S9x82x64 ![2, 0, 0] X slices_S11x84x64_o2_0_0_S9x82x64) shapeCasts_S9x82x64_S738x64) (shapeCast S64x128 w6 shapeCasts_S1x64x128_S64x128) (constant S738x128 .f32 0x00000000#32)))
    (matmul dot_S738x64_S64x128_S738x128_1_0_0_1_n_n none (shapeCast S738x64 (extractStridedSlice S9x82x64 ![2, 1, 0] X slices_S11x84x64_o2_1_0_S9x82x64) shapeCasts_S9x82x64_S738x64) (shapeCast S64x128 w7 shapeCasts_S1x64x128_S64x128) (constant S738x128 .f32 0x00000000#32)))
    (matmul dot_S738x64_S64x128_S738x128_1_0_0_1_n_n none (shapeCast S738x64 (extractStridedSlice S9x82x64 ![2, 2, 0] X slices_S11x84x64_o2_2_0_S9x82x64) shapeCasts_S9x82x64_S738x64) (shapeCast S64x128 w8 shapeCasts_S1x64x128_S64x128) (constant S738x128 .f32 0x00000000#32))

theorem convB_at (X : FVec Ideal S11x84x64 .bf16) (w0 w1 w2 w3 w4 w5 w6 w7 w8 : FVec Ideal S1x64x128 .bf16)
    (P : ℕ → ℕ → Fin 64 → EReal) (W : ℕ → Fin 64 → Fin 128 → EReal) (ro : ℕ)
    (hX : ∀ (r : Fin 11) (c : Fin 84) (k : Fin 64), X (ix3 r c k) = P (ro + r) c k)
    (h0 : ∀ (k : Fin 64) (o : Fin 128), w0 (ix3 (0 : Fin 1) k o) = W 0 k o)
    (h1 : ∀ (k : Fin 64) (o : Fin 128), w1 (ix3 (0 : Fin 1) k o) = W 1 k o)
    (h2 : ∀ (k : Fin 64) (o : Fin 128), w2 (ix3 (0 : Fin 1) k o) = W 2 k o)
    (h3 : ∀ (k : Fin 64) (o : Fin 128), w3 (ix3 (0 : Fin 1) k o) = W 3 k o)
    (h4 : ∀ (k : Fin 64) (o : Fin 128), w4 (ix3 (0 : Fin 1) k o) = W 4 k o)
    (h5 : ∀ (k : Fin 64) (o : Fin 128), w5 (ix3 (0 : Fin 1) k o) = W 5 k o)
    (h6 : ∀ (k : Fin 64) (o : Fin 128), w6 (ix3 (0 : Fin 1) k o) = W 6 k o)
    (h7 : ∀ (k : Fin 64) (o : Fin 128), w7 (ix3 (0 : Fin 1) k o) = W 7 k o)
    (h8 : ∀ (k : Fin 64) (o : Fin 128), w8 (ix3 (0 : Fin 1) k o) = W 8 k o)
    (r : Fin 738) (o : Fin 128) :
    convB X w0 w1 w2 w3 w4 w5 w6 w7 w8 (ix2 r o) = conv9 P (fun t k => W t k o) (ro + r / 82) (r % 82) := by
  pointwise [convB]
  simp only [hX, h0, h1, h2, h3, h4, h5, h6, h7, h8]
  simp only [conv9, tap]
  simp only [Nat.add_comm 1, Nat.add_comm 2, ← Nat.add_assoc, Nat.add_zero]

/-- Nine products of an 11-row block with 128 channels, added in tap order. -/
def convC (X : FVec Ideal S11x84x128 .bf16) (w0 w1 w2 w3 w4 w5 w6 w7 w8 : FVec Ideal S1x128x128 .bf16) : FVec Ideal S738x128 .f32 :=
  addf (addf (addf (addf (addf (addf (addf (addf (matmul dot_S738x128_S128x128_S738x128_1_0_0_1_n_n none (shapeCast S738x128 (extractStridedSlice S9x82x128 ![0, 0, 0] X slices_S11x84x128_o0_0_0_S9x82x128) shapeCasts_S9x82x128_S738x128) (shapeCast S128x128 w0 shapeCasts_S1x128x128_S128x128) (constant S738x128 .f32 0x00000000#32))
    (matmul dot_S738x128_S128x128_S738x128_1_0_0_1_n_n none (shapeCast S738x128 (extractStridedSlice S9x82x128 ![0, 1, 0] X slices_S11x84x128_o0_1_0_S9x82x128) shapeCasts_S9x82x128_S738x128) (shapeCast S128x128 w1 shapeCasts_S1x128x128_S128x128) (constant S738x128 .f32 0x00000000#32)))
    (matmul dot_S738x128_S128x128_S738x128_1_0_0_1_n_n none (shapeCast S738x128 (extractStridedSlice S9x82x128 ![0, 2, 0] X slices_S11x84x128_o0_2_0_S9x82x128) shapeCasts_S9x82x128_S738x128) (shapeCast S128x128 w2 shapeCasts_S1x128x128_S128x128) (constant S738x128 .f32 0x00000000#32)))
    (matmul dot_S738x128_S128x128_S738x128_1_0_0_1_n_n none (shapeCast S738x128 (extractStridedSlice S9x82x128 ![1, 0, 0] X slices_S11x84x128_o1_0_0_S9x82x128) shapeCasts_S9x82x128_S738x128) (shapeCast S128x128 w3 shapeCasts_S1x128x128_S128x128) (constant S738x128 .f32 0x00000000#32)))
    (matmul dot_S738x128_S128x128_S738x128_1_0_0_1_n_n none (shapeCast S738x128 (extractStridedSlice S9x82x128 ![1, 1, 0] X slices_S11x84x128_o1_1_0_S9x82x128) shapeCasts_S9x82x128_S738x128) (shapeCast S128x128 w4 shapeCasts_S1x128x128_S128x128) (constant S738x128 .f32 0x00000000#32)))
    (matmul dot_S738x128_S128x128_S738x128_1_0_0_1_n_n none (shapeCast S738x128 (extractStridedSlice S9x82x128 ![1, 2, 0] X slices_S11x84x128_o1_2_0_S9x82x128) shapeCasts_S9x82x128_S738x128) (shapeCast S128x128 w5 shapeCasts_S1x128x128_S128x128) (constant S738x128 .f32 0x00000000#32)))
    (matmul dot_S738x128_S128x128_S738x128_1_0_0_1_n_n none (shapeCast S738x128 (extractStridedSlice S9x82x128 ![2, 0, 0] X slices_S11x84x128_o2_0_0_S9x82x128) shapeCasts_S9x82x128_S738x128) (shapeCast S128x128 w6 shapeCasts_S1x128x128_S128x128) (constant S738x128 .f32 0x00000000#32)))
    (matmul dot_S738x128_S128x128_S738x128_1_0_0_1_n_n none (shapeCast S738x128 (extractStridedSlice S9x82x128 ![2, 1, 0] X slices_S11x84x128_o2_1_0_S9x82x128) shapeCasts_S9x82x128_S738x128) (shapeCast S128x128 w7 shapeCasts_S1x128x128_S128x128) (constant S738x128 .f32 0x00000000#32)))
    (matmul dot_S738x128_S128x128_S738x128_1_0_0_1_n_n none (shapeCast S738x128 (extractStridedSlice S9x82x128 ![2, 2, 0] X slices_S11x84x128_o2_2_0_S9x82x128) shapeCasts_S9x82x128_S738x128) (shapeCast S128x128 w8 shapeCasts_S1x128x128_S128x128) (constant S738x128 .f32 0x00000000#32))

theorem convC_at (X : FVec Ideal S11x84x128 .bf16) (w0 w1 w2 w3 w4 w5 w6 w7 w8 : FVec Ideal S1x128x128 .bf16)
    (P : ℕ → ℕ → Fin 128 → EReal) (W : ℕ → Fin 128 → Fin 128 → EReal) (ro : ℕ)
    (hX : ∀ (r : Fin 11) (c : Fin 84) (k : Fin 128), X (ix3 r c k) = P (ro + r) c k)
    (h0 : ∀ (k : Fin 128) (o : Fin 128), w0 (ix3 (0 : Fin 1) k o) = W 0 k o)
    (h1 : ∀ (k : Fin 128) (o : Fin 128), w1 (ix3 (0 : Fin 1) k o) = W 1 k o)
    (h2 : ∀ (k : Fin 128) (o : Fin 128), w2 (ix3 (0 : Fin 1) k o) = W 2 k o)
    (h3 : ∀ (k : Fin 128) (o : Fin 128), w3 (ix3 (0 : Fin 1) k o) = W 3 k o)
    (h4 : ∀ (k : Fin 128) (o : Fin 128), w4 (ix3 (0 : Fin 1) k o) = W 4 k o)
    (h5 : ∀ (k : Fin 128) (o : Fin 128), w5 (ix3 (0 : Fin 1) k o) = W 5 k o)
    (h6 : ∀ (k : Fin 128) (o : Fin 128), w6 (ix3 (0 : Fin 1) k o) = W 6 k o)
    (h7 : ∀ (k : Fin 128) (o : Fin 128), w7 (ix3 (0 : Fin 1) k o) = W 7 k o)
    (h8 : ∀ (k : Fin 128) (o : Fin 128), w8 (ix3 (0 : Fin 1) k o) = W 8 k o)
    (r : Fin 738) (o : Fin 128) :
    convC X w0 w1 w2 w3 w4 w5 w6 w7 w8 (ix2 r o) = conv9 P (fun t k => W t k o) (ro + r / 82) (r % 82) := by
  pointwise [convC]
  simp only [hX, h0, h1, h2, h3, h4, h5, h6, h7, h8]
  simp only [conv9, tap]
  simp only [Nat.add_comm 1, Nat.add_comm 2, ← Nat.add_assoc, Nat.add_zero]

end Cert.KernelIdeal.Trunk

end
-- ==== Proof.Trunk.Post.lean ====
/- The steps around the convolutions, on the vectors the kernel has loaded, read at a position: the zero border, bias, the 2×2 maximum, the sigmoid. -/
module

public import proofs.«01_k».proof.Proof.Gen.KernelIdeal.Skeleton
public import proofs.«01_k».proof.Proof.Trunk.Spec
public import Idealize.ShloMosaic.Lib.Pointwise

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

/-- The last block of the padded-rows image the second convolution reads: a zero column on either side. -/
def sides (X : FVec Ideal S20x165x32 .f32) : FVec Ideal S20x167x32 .bf16 :=
  truncf .bf16 (concatenate S20x167x32 1 [⟨S20x1x32, broadcast S20x1x32 (Scalar.ofBits .f32 0x00000000#32)⟩, ⟨S20x165x32, X⟩,
    ⟨S20x1x32, broadcast S20x1x32 (Scalar.ofBits .f32 0x00000000#32)⟩] concatenates_S20x1x32_S20x165x32_S20x1x32_S20x167x32_d1) bitsLt_bf16_f32

/-- The first 19 rows of the image below a zero row. -/
def rowsTop (x : FVec Ideal S1x19x165x32 .f32) : FVec Ideal S20x165x32 .f32 :=
  concatenate S20x165x32 0 [⟨S1x165x32, broadcast S1x165x32 (Scalar.ofBits .f32 0x00000000#32)⟩,
    ⟨S19x165x32, shapeCast S19x165x32 x shapeCasts_S1x19x165x32_S19x165x32⟩] concatenates_S1x165x32_S19x165x32_S20x165x32_d0

/-- The last 19 rows of the image above a zero row. -/
def rowsBot (x : FVec Ideal S1x19x165x32 .f32) : FVec Ideal S20x165x32 .f32 :=
  concatenate S20x165x32 0 [⟨S19x165x32, shapeCast S19x165x32 x shapeCasts_S1x19x165x32_S19x165x32⟩,
    ⟨S1x165x32, broadcast S1x165x32 (Scalar.ofBits .f32 0x00000000#32)⟩] concatenates_S19x165x32_S1x165x32_S20x165x32_d0

/-- 20 rows from the middle of the image. -/
def rowsMid (x : FVec Ideal S1x20x165x32 .f32) : FVec Ideal S20x165x32 .f32 :=
  shapeCast S20x165x32 x shapeCasts_S1x20x165x32_S20x165x32

theorem sides_top (x : FVec Ideal S1x19x165x32 .f32) (X : ℕ → ℕ → Fin 32 → EReal)
    (h : ∀ (r : Fin 19) (c : Fin 165) (k : Fin 32), x (ix4 (0 : Fin 1) r c k) = X (0 + r) c k) (r : Fin 20) (c : Fin 167) (k : Fin 32) :
    sides (rowsTop x) (ix3 r c k) = bordered 90 165 X (0 + r) c k := by
  pointwise [sides, rowsTop]
  simp only [h, bordered, Nat.zero_add]
  have := r.isLt
  have := c.isLt
  split_ifs <;> first | rfl | omega | (congr 1 <;> omega)

theorem sides_bot (x : FVec Ideal S1x19x165x32 .f32) (X : ℕ → ℕ → Fin 32 → EReal)
    (h : ∀ (r : Fin 19) (c : Fin 165) (k : Fin 32), x (ix4 (0 : Fin 1) r c k) = X (71 + r) c k) (r : Fin 20) (c : Fin 167) (k : Fin 32) :
    sides (rowsBot x) (ix3 r c k) = bordered 90 165 X (72 + r) c k := by
  pointwise [sides, rowsBot]
  simp only [h, bordered]
  have := r.isLt
  have := c.isLt
  split_ifs <;> first | rfl | omega | (congr 1 <;> omega)

theorem sides_mid (x : FVec Ideal S1x20x165x32 .f32) (X : ℕ → ℕ → Fin 32 → EReal) (ro : ℕ) (h1 : 1 ≤ ro) (h2 : ro + 19 ≤ 90)
    (h : ∀ (r : Fin 20) (c : Fin 165) (k : Fin 32), x (ix4 (0 : Fin 1) r c k) = X (ro - 1 + r) c k) (r : Fin 20) (c : Fin 167) (k : Fin 32) :
    sides (rowsMid x) (ix3 r c k) = bordered 90 165 X (ro + r) c k := by
  pointwise [sides, rowsMid]
  simp only [h, bordered]
  have := r.isLt
  have := c.isLt
  split_ifs <;> first | rfl | omega | (congr 1 <;> omega)

/-- The maximum over two positions, from minus infinity. -/
theorem fold_two (f : Fin 2 → EReal) : Finset.fold max ⊥ f Finset.univ = max (f 0) (f 1) := by
  rw [show (Finset.univ : Finset (Fin 2)) = {0, 1} from rfl, Finset.fold_insert (by decide), Finset.fold_singleton]
  simp

/-- Bias, maximum with zero, 2×2 maximum: what the second convolution stores of one block. -/
def pooled (a : FVec Ideal S2970x64 .f32) (b : FVec Ideal S1x64 .f32) : FVec Ideal S9x82x64 .f32 :=
  shapeCast S9x82x64 (multiReduction .maximumf [2] S9x82x64 (shapeCast S9x82x2x64 (extractStridedSlice S9x164x64 ![0, 0, 0]
    (multiReduction .maximumf [1] S9x165x64 (shapeCast S9x2x165x64 (shapeCast S18x165x64
      (maximumf (addf a (broadcastTo S2970x64 (shapeCast S1x64 b shapeCasts_S1x64_S1x64) broadcasts_S1x64_S2970x64))
        (broadcast S2970x64 (Scalar.ofBits .f32 0x00000000#32)))
      shapeCasts_S2970x64_S18x165x64) shapeCasts_S18x165x64_S9x2x165x64) 0xFF800000#32 reduces_S9x2x165x64_S9x165x64 (.inl rfl) rfl)
    slices_S9x165x64_o0_0_0_S9x164x64) shapeCasts_S9x164x64_S9x82x2x64) 0xFF800000#32 reduces_S9x82x2x64_S9x82x64 (.inl rfl) rfl)
    shapeCasts_S9x82x64_S9x82x64

theorem pooled_at (a : FVec Ideal S2970x64 .f32) (b : FVec Ideal S1x64 .f32) (A : ℕ → ℕ → Fin 64 → EReal) (bb : Fin 64 → EReal) (ro : ℕ)
    (ha : ∀ (r : Fin 2970) (o : Fin 64), a (ix2 r o) = A (2 * ro + r / 165) (r % 165) o)
    (hb : ∀ o : Fin 64, b (ix2 (0 : Fin 1) o) = bb o) (r : Fin 9) (c : Fin 82) (o : Fin 64) :
    pooled a b (ix3 r c o) = pool2 (fun r c => max (A r c o + bb o) 0) (ro + r) c := by
  pointwise [pooled]
  simp only [ha, hb, pool2]
  have hr := r.isLt
  have hc := c.isLt
  have hbot : Ideal.ofBits FTy.f32 4286578688#32 = ⊥ := by simp [Ideal.ofBits, Ideal.ieee]
  have hpos : ∀ x y : Fin 2, A (2 * ro + (r.val * 330 + y.val * 165 + (c.val * 2 + x.val)) / 165)
      ((r.val * 330 + y.val * 165 + (c.val * 2 + x.val)) % 165) o = A (2 * (ro + r.val) + y.val) (2 * c.val + x.val) o := fun x y => by
    have := x.isLt
    have := y.isLt
    congr 1 <;> omega
  simp only [hpos, hbot, fold_two, Fin.val_zero, Fin.val_one, Nat.add_zero]

/-- Bias and maximum with zero, as a block of nine rows: what the first convolution of a branch stores of one block. -/
def relu3 (a : FVec Ideal S738x128 .f32) (b : FVec Ideal S1x128 .f32) : FVec Ideal S9x82x128 .f32 :=
  shapeCast S9x82x128 (shapeCast S9x82x128 (maximumf (addf a (broadcastTo S738x128 (shapeCast S1x128 b shapeCasts_S1x128_S1x128) broadcasts_S1x128_S738x128))
    (broadcast S738x128 (Scalar.ofBits .f32 0x00000000#32))) shapeCasts_S738x128_S9x82x128) shapeCasts_S9x82x128_S9x82x128

theorem relu3_at (a : FVec Ideal S738x128 .f32) (b : FVec Ideal S1x128 .f32) (A : ℕ → ℕ → Fin 128 → EReal) (bb : Fin 128 → EReal) (ro : ℕ)
    (ha : ∀ (r : Fin 738) (o : Fin 128), a (ix2 r o) = A (ro + r / 82) (r % 82) o)
    (hb : ∀ o : Fin 128, b (ix2 (0 : Fin 1) o) = bb o) (r : Fin 9) (c : Fin 82) (o : Fin 128) :
    relu3 a b (ix3 r c o) = max (A (ro + r) c o + bb o) 0 := by
  pointwise [relu3]
  simp only [ha, hb]
  have := c.isLt
  rw [show (r.val * 82 + c.val) / 82 = r.val by omega, show (r.val * 82 + c.val) % 82 = c.val by omega]

/-- Bias and maximum with zero: what the second convolution of the attention branch stores of one block. -/
def relu2 (a : FVec Ideal S738x128 .f32) (b : FVec Ideal S1x128 .f32) : FVec Ideal S738x128 .f32 :=
  shapeCast S738x128 (maximumf (addf a (broadcastTo S738x128 (shapeCast S1x128 b shapeCasts_S1x128_S1x128) broadcasts_S1x128_S738x128))
    (broadcast S738x128 (Scalar.ofBits .f32 0x00000000#32))) shapeCasts_S738x128_S738x128

theorem relu2_at (a : FVec Ideal S738x128 .f32) (b : FVec Ideal S1x128 .f32) (r : Fin 738) (o : Fin 128) :
    relu2 a b (ix2 r o) = max (a (ix2 r o) + b (ix2 (0 : Fin 1) o)) 0 := by
  pointwise [relu2]

/-- One over one plus the exponential of minus the argument. -/
def sig2 (a : FVec Ideal S738x128 .f32) : FVec Ideal S738x128 .f32 :=
  divf (broadcast S738x128 (Scalar.ofBits .f32 0x3F800000#32)) (addf (broadcast S738x128 (Scalar.ofBits .f32 0x3F800000#32))
    (exp (subf (broadcast S738x128 (Scalar.ofBits .f32 0x00000000#32)) a)))

theorem sig2_at (a : FVec Ideal S738x128 .f32) (r : Fin 738) (o : Fin 128) :
    sig2 a (ix2 r o) = Ideal.logistic (a (ix2 r o)) := by
  pointwise [sig2]
  simp only [Ideal.logistic, zero_sub]

/-- Bias and sigmoid: what the second convolution of the feature branch stores of one block. -/
def gate2 (a : FVec Ideal S738x128 .f32) (b : FVec Ideal S1x128 .f32) : FVec Ideal S738x128 .f32 :=
  shapeCast S738x128 (sig2 (addf a (broadcastTo S738x128 (shapeCast S1x128 b shapeCasts_S1x128_S1x128) broadcasts_S1x128_S738x128))) shapeCasts_S738x128_S738x128

theorem gate2_at (a : FVec Ideal S738x128 .f32) (b : FVec Ideal S1x128 .f32) (r : Fin 738) (o : Fin 128) :
    gate2 a b (ix2 r o) = Ideal.logistic (a (ix2 r o) + b (ix2 (0 : Fin 1) o)) := by
  pointwise [gate2, sig2]
  simp only [Ideal.logistic, zero_sub]

end Cert.KernelIdeal.Trunk

end
-- ==== Proof.Trunk.Reads.lean ====
/- What the body loads of its input blocks, read at a position. -/
module

public import proofs.«01_k».proof.Proof.Gen.KernelIdeal
public import proofs.«01_k».proof.Proof.Trunk.Conv
public import proofs.«01_k».proof.Proof.Trunk.Post
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

/-- One of nine weight matrices, loaded out of the whole stack. -/
theorem read9 {K N : ℕ} (mm : Memref sig .tc .vmem ⟨3, ![9, K, N]⟩ .bf16) (hm : mm.IsWhole) (x : Vec Ideal ⟨3, ![9, K, N]⟩ .bf16) (t : ℕ)
    (inb : ∀ a, (![t, 0, 0] : Fin 3 → ℕ) a + (![1, K, N] : Fin 3 → ℕ) a ≤ (⟨3, ![9, K, N]⟩ : Shape).size a) (ht : t < 9) (k : Fin K) (o : Fin N) :
    View.readAt (Elt Ideal) mm.view (Rect.unit (s := ⟨3, ![9, K, N]⟩) ![t, 0, 0] ![1, K, N] inb).toLoadRect (hm.unread x) (ix3 (0 : Fin 1) k o)
      = taps (fun t k o => x (ix3 t k o)) t k o := by
  rw [View.readAt_eq_ld, Memref.IsWhole.read_unread]
  simp only [taps, dif_pos ht]
  refine View.ld_unit_apply_of _ _ _ _ _ _ fun a => ?_
  fin_cases a
  · exact (Nat.add_zero t).symm
  · exact (Nat.zero_add _).symm
  · exact (Nat.zero_add _).symm

/-- A bias row, loaded whole. -/
theorem read1 {N : ℕ} (mm : Memref sig .tc .vmem ⟨2, ![1, N]⟩ .f32) (hm : mm.IsWhole) (x : Vec Ideal ⟨2, ![1, N]⟩ .f32)
    (inb : ∀ a, (![0, 0] : Fin 2 → ℕ) a + (![1, N] : Fin 2 → ℕ) a ≤ (⟨2, ![1, N]⟩ : Shape).size a) (o : Fin N) :
    View.readAt (Elt Ideal) mm.view (Rect.unit (s := ⟨2, ![1, N]⟩) ![0, 0] ![1, N] inb).toLoadRect (hm.unread x) (ix2 (0 : Fin 1) o)
      = x (ix2 (0 : Fin 1) o) := by
  rw [View.readAt_eq_ld, Memref.IsWhole.read_unread]
  refine View.ld_unit_apply_of _ _ _ _ _ _ fun a => ?_
  fin_cases a
  · exact (Nat.zero_add _).symm
  · exact (Nat.zero_add _).symm

/-- Rows of the image, loaded out of its block. -/
theorem readRows (R : ℕ) (mm : Memref sig .tc .vmem S1x90x165x32 .f32) (hm : mm.IsWhole) (x : Vec Ideal S1x90x165x32 .f32) (ro : ℕ)
    (inb : ∀ a, (![0, ro, 0, 0] : Fin 4 → ℕ) a + (![1, R, 165, 32] : Fin 4 → ℕ) a ≤ S1x90x165x32.size a) (h : ro + R ≤ 90) (r : Fin R) (c : Fin 165) (k : Fin 32) :
    View.readAt (Elt Ideal) mm.view (Rect.unit (s := S1x90x165x32) ![0, ro, 0, 0] ![1, R, 165, 32] inb).toLoadRect (hm.unread x) (ix4 (0 : Fin 1) r c k)
      = image (fun (r : Fin 90) (c : Fin 165) (k : Fin 32) => x (ix4 (0 : Fin 1) r c k)) (ro + r) c k := by
  have hr := r.isLt
  rw [View.readAt_eq_ld, Memref.IsWhole.read_unread]
  simp only [image, dif_pos (show ro + r.val < 90 ∧ c.val < 165 from ⟨by omega, c.isLt⟩)]
  pointwise

end Cert.KernelIdeal.Trunk

end
-- ==== Proof.Trunk.Stage0.lean ====
/- What the second convolution stores of each block of rows: the pooled layer at that block's rows. -/
module

public import proofs.«01_k».proof.Proof.Gen.KernelIdeal.Frame.RunA
public import proofs.«01_k».proof.Proof.Trunk.Conv
public import proofs.«01_k».proof.Proof.Trunk.Post
public import proofs.«01_k».proof.Proof.Trunk.Reads

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

variable (c : Dev nD) (arg1 : Memref sig .tc .vmem S1x90x165x32 .f32) (harg1 : arg1.IsWhole) (arg2 : Memref sig .tc .vmem S9x32x64 .bf16) (harg2 : arg2.IsWhole) (arg3 : Memref sig .tc .vmem S1x64 .f32) (harg3 : arg3.IsWhole) (arg4 : Memref sig .tc .vmem S9x64x128 .bf16) (harg4 : arg4.IsWhole) (arg5 : Memref sig .tc .vmem S1x128 .f32) (harg5 : arg5.IsWhole) (arg6 : Memref sig .tc .vmem S9x128x128 .bf16) (harg6 : arg6.IsWhole) (arg7 : Memref sig .tc .vmem S1x128 .f32) (harg7 : arg7.IsWhole) (arg8 : Memref sig .tc .vmem S9x64x128 .bf16) (harg8 : arg8.IsWhole) (arg9 : Memref sig .tc .vmem S1x128 .f32) (harg9 : arg9.IsWhole) (arg10 : Memref sig .tc .vmem S9x128x128 .bf16) (harg10 : arg10.IsWhole) (arg11 : Memref sig .tc .vmem S1x128 .f32) (harg11 : arg11.IsWhole) (arg12 : Memref sig .tc .vmem S1x128x128 .f32) (harg12 : arg12.IsWhole) (arg13 : Memref sig .tc .vmem S47x84x64 .f32) (harg13 : arg13.IsWhole) (arg14 : Memref sig .tc .vmem S47x84x128 .f32) (harg14 : arg14.IsWhole) (arg15 : Memref sig .tc .vmem S47x84x128 .f32) (harg15 : arg15.IsWhole) (arg16 : Memref sig .tc .vmem S3690x128 .f32) (harg16 : arg16.IsWhole) (arg17 : Memref sig .tc .vmem S3690x128 .f32) (harg17 : arg17.IsWhole)
    (x0 : Vec Ideal S1x90x165x32 .f32) (x1 : Vec Ideal S9x32x64 .bf16) (x2 : Vec Ideal S1x64 .f32) (x3 : Vec Ideal S9x64x128 .bf16) (x4 : Vec Ideal S1x128 .f32) (x5 : Vec Ideal S9x128x128 .bf16) (x6 : Vec Ideal S1x128 .f32) (x7 : Vec Ideal S9x64x128 .bf16) (x8 : Vec Ideal S1x128 .f32) (x9 : Vec Ideal S9x128x128 .bf16) (x10 : Vec Ideal S1x128 .f32)

theorem st0_4 (r : Fin 9) (c' : Fin 82) (o : Fin 64) : (kernelRun0_A.sl.v416 (F := Ideal) c arg1 harg1 arg2 harg2 arg3 harg3 x0 x1 x2) (ix3 r c' o)
    = poolLayer 90 165 (image fun (r : Fin 90) (c : Fin 165) (k : Fin 32) => x0 (ix4 (0 : Fin 1) r c k)) (taps fun (t : Fin 9) (k : Fin 32) (o : Fin 64) => x1 (ix3 t k o))
        (fun o => x2 (ix2 (0 : Fin 1) o)) (36 + r) c' o := by
  refine pooled_at (convA (sides (rowsBot _)) _ _ _ _ _ _ _ _ _) _ (fun r c o => conv9 (bordered 90 165 _) (fun t k => taps _ t k o) r c) (fun o => x2 (ix2 (0 : Fin 1) o)) 36 ?_ ?_ r c' o
  · exact convA_at _ _ _ _ _ _ _ _ _ _ _ _ 72 (fun r c k => sides_bot _ _ (readRows 19 _ _ _ 71 _ (by norm_num)) r c k)
      (read9 _ _ _ _ _ (by norm_num)) (read9 _ _ _ _ _ (by norm_num)) (read9 _ _ _ _ _ (by norm_num)) (read9 _ _ _ _ _ (by norm_num))
      (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st0_3 (r : Fin 9) (c' : Fin 82) (o : Fin 64) : (kernelRun0_A.sl.v341 (F := Ideal) c arg1 harg1 arg2 harg2 arg3 harg3 x0 x1 x2) (ix3 r c' o)
    = poolLayer 90 165 (image fun (r : Fin 90) (c : Fin 165) (k : Fin 32) => x0 (ix4 (0 : Fin 1) r c k)) (taps fun (t : Fin 9) (k : Fin 32) (o : Fin 64) => x1 (ix3 t k o))
        (fun o => x2 (ix2 (0 : Fin 1) o)) (27 + r) c' o := by
  refine pooled_at (convA (sides (rowsMid _)) _ _ _ _ _ _ _ _ _) _ (fun r c o => conv9 (bordered 90 165 _) (fun t k => taps _ t k o) r c) (fun o => x2 (ix2 (0 : Fin 1) o)) 27 ?_ ?_ r c' o
  · exact convA_at _ _ _ _ _ _ _ _ _ _ _ _ 54 (fun r c k => sides_mid _ _ 54 (by norm_num) (by norm_num) (readRows 20 _ _ _ 53 _ (by norm_num)) r c k)
      (read9 _ _ _ _ _ (by norm_num)) (read9 _ _ _ _ _ (by norm_num)) (read9 _ _ _ _ _ (by norm_num)) (read9 _ _ _ _ _ (by norm_num))
      (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st0_2 (r : Fin 9) (c' : Fin 82) (o : Fin 64) : (kernelRun0_A.sl.v268 (F := Ideal) c arg1 harg1 arg2 harg2 arg3 harg3 x0 x1 x2) (ix3 r c' o)
    = poolLayer 90 165 (image fun (r : Fin 90) (c : Fin 165) (k : Fin 32) => x0 (ix4 (0 : Fin 1) r c k)) (taps fun (t : Fin 9) (k : Fin 32) (o : Fin 64) => x1 (ix3 t k o))
        (fun o => x2 (ix2 (0 : Fin 1) o)) (18 + r) c' o := by
  refine pooled_at (convA (sides (rowsMid _)) _ _ _ _ _ _ _ _ _) _ (fun r c o => conv9 (bordered 90 165 _) (fun t k => taps _ t k o) r c) (fun o => x2 (ix2 (0 : Fin 1) o)) 18 ?_ ?_ r c' o
  · exact convA_at _ _ _ _ _ _ _ _ _ _ _ _ 36 (fun r c k => sides_mid _ _ 36 (by norm_num) (by norm_num) (readRows 20 _ _ _ 35 _ (by norm_num)) r c k)
      (read9 _ _ _ _ _ (by norm_num)) (read9 _ _ _ _ _ (by norm_num)) (read9 _ _ _ _ _ (by norm_num)) (read9 _ _ _ _ _ (by norm_num))
      (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st0_1 (r : Fin 9) (c' : Fin 82) (o : Fin 64) : (kernelRun0_A.sl.v195 (F := Ideal) c arg1 harg1 arg2 harg2 arg3 harg3 x0 x1 x2) (ix3 r c' o)
    = poolLayer 90 165 (image fun (r : Fin 90) (c : Fin 165) (k : Fin 32) => x0 (ix4 (0 : Fin 1) r c k)) (taps fun (t : Fin 9) (k : Fin 32) (o : Fin 64) => x1 (ix3 t k o))
        (fun o => x2 (ix2 (0 : Fin 1) o)) (9 + r) c' o := by
  refine pooled_at (convA (sides (rowsMid _)) _ _ _ _ _ _ _ _ _) _ (fun r c o => conv9 (bordered 90 165 _) (fun t k => taps _ t k o) r c) (fun o => x2 (ix2 (0 : Fin 1) o)) 9 ?_ ?_ r c' o
  · exact convA_at _ _ _ _ _ _ _ _ _ _ _ _ 18 (fun r c k => sides_mid _ _ 18 (by norm_num) (by norm_num) (readRows 20 _ _ _ 17 _ (by norm_num)) r c k)
      (read9 _ _ _ _ _ (by norm_num)) (read9 _ _ _ _ _ (by norm_num)) (read9 _ _ _ _ _ (by norm_num)) (read9 _ _ _ _ _ (by norm_num))
      (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st0_0 (r : Fin 9) (c' : Fin 82) (o : Fin 64) : (kernelRun0_A.sl.v122 (F := Ideal) c arg1 harg1 arg2 harg2 arg3 harg3 x0 x1 x2) (ix3 r c' o)
    = poolLayer 90 165 (image fun (r : Fin 90) (c : Fin 165) (k : Fin 32) => x0 (ix4 (0 : Fin 1) r c k)) (taps fun (t : Fin 9) (k : Fin 32) (o : Fin 64) => x1 (ix3 t k o))
        (fun o => x2 (ix2 (0 : Fin 1) o)) (0 + r) c' o := by
  refine pooled_at (convA (sides (rowsTop _)) _ _ _ _ _ _ _ _ _) _ (fun r c o => conv9 (bordered 90 165 _) (fun t k => taps _ t k o) r c) (fun o => x2 (ix2 (0 : Fin 1) o)) 0 ?_ ?_ r c' o
  · exact convA_at _ _ _ _ _ _ _ _ _ _ _ _ 0 (fun r c k => sides_top _ _ (readRows 19 _ _ _ 0 _ (by norm_num)) r c k)
      (read9 _ _ _ _ _ (by norm_num)) (read9 _ _ _ _ _ (by norm_num)) (read9 _ _ _ _ _ (by norm_num)) (read9 _ _ _ _ _ (by norm_num))
      (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

end Cert.KernelIdeal.Trunk

end
-- ==== Proof.Trunk.Scratch.lean ====
/- What the scratch images hold after the body's stores, and what a later load reads of them. -/
module

public import proofs.«01_k».proof.Proof.Gen.KernelIdeal
public import proofs.«01_k».proof.Proof.Trunk.Conv
public import proofs.«01_k».proof.Proof.Trunk.Post
public import Idealize.ShloMosaic.Lib.Pipeline.ValueKit
public import Idealize.ShloMosaic.Lib.Pipeline.ReadBack

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

/-- The shape of a bordered scratch image with `N` channels. -/
abbrev Sc (N : ℕ) : Shape := ⟨3, ![47, 84, N]⟩

/-- Two lists of three equal coordinates name the same position. -/
theorem emb_unit3 {A B C a b d : ℕ} {off : Fin 3 → ℕ} (inb : ∀ x, off x + (![a, b, d] : Fin 3 → ℕ) x ≤ (⟨3, ![A, B, C]⟩ : Shape).size x)
    (y : (Rect.unit (s := ⟨3, ![A, B, C]⟩) off ![a, b, d] inb).shape.Idx) (x : Fin 3) :
    (((Rect.unit (s := ⟨3, ![A, B, C]⟩) off ![a, b, d] inb).idx y x : Fin _) : ℕ) = off x + (y x : ℕ) :=
  Rect.idx_unit_val off _ inb y x

/-- Stores that are all blocks of `G` leave `G` wherever one of them reaches. -/
theorem canon_of_pieces {s : Shape} (G : s.Idx → Elt Ideal .f32) (L : List (View.Piece (Elt Ideal) s .f32)) (h : View.PiecesOf G L) (y : s.Idx)
    (hc : ∃ p ∈ L, y ∈ p.1.set) : View.canon L y = G y := by
  have := View.canon_append_of_piecesOf G [] L h y hc
  rwa [List.append_nil] at this

/-- A bordered scratch image after the body's stores: zeros on the border, the five blocks of nine rows inside. -/
theorem scratch_canon {N : ℕ} (Y : ℕ → ℕ → Fin N → EReal)
    (p4 p3 p2 p1 p0 : Shape.Idx ⟨3, ![9, 82, N]⟩ → Elt Ideal .f32) (z4 z3 : Shape.Idx ⟨3, ![47, 1, N]⟩ → Elt Ideal .f32) (z2 z1 : Shape.Idx ⟨3, ![1, 84, N]⟩ → Elt Ideal .f32)
    (i4 : ∀ a, (![37, 1, 0] : Fin 3 → ℕ) a + (![9, 82, N] : Fin 3 → ℕ) a ≤ (Sc N).size a)
    (i3 : ∀ a, (![28, 1, 0] : Fin 3 → ℕ) a + (![9, 82, N] : Fin 3 → ℕ) a ≤ (Sc N).size a)
    (i2 : ∀ a, (![19, 1, 0] : Fin 3 → ℕ) a + (![9, 82, N] : Fin 3 → ℕ) a ≤ (Sc N).size a)
    (i1 : ∀ a, (![10, 1, 0] : Fin 3 → ℕ) a + (![9, 82, N] : Fin 3 → ℕ) a ≤ (Sc N).size a)
    (i0 : ∀ a, (![1, 1, 0] : Fin 3 → ℕ) a + (![9, 82, N] : Fin 3 → ℕ) a ≤ (Sc N).size a)
    (j4 : ∀ a, (![0, 83, 0] : Fin 3 → ℕ) a + (![47, 1, N] : Fin 3 → ℕ) a ≤ (Sc N).size a)
    (j3 : ∀ a, (![0, 0, 0] : Fin 3 → ℕ) a + (![47, 1, N] : Fin 3 → ℕ) a ≤ (Sc N).size a)
    (j2 : ∀ a, (![46, 0, 0] : Fin 3 → ℕ) a + (![1, 84, N] : Fin 3 → ℕ) a ≤ (Sc N).size a)
    (j1 : ∀ a, (![0, 0, 0] : Fin 3 → ℕ) a + (![1, 84, N] : Fin 3 → ℕ) a ≤ (Sc N).size a)
    (h4 : ∀ (r : Fin 9) (c : Fin 82) (o : Fin N), p4 (ix3 r c o) = Y (36 + r) c o)
    (h3 : ∀ (r : Fin 9) (c : Fin 82) (o : Fin N), p3 (ix3 r c o) = Y (27 + r) c o)
    (h2 : ∀ (r : Fin 9) (c : Fin 82) (o : Fin N), p2 (ix3 r c o) = Y (18 + r) c o)
    (h1 : ∀ (r : Fin 9) (c : Fin 82) (o : Fin N), p1 (ix3 r c o) = Y (9 + r) c o)
    (h0 : ∀ (r : Fin 9) (c : Fin 82) (o : Fin N), p0 (ix3 r c o) = Y (0 + r) c o)
    (g4 : ∀ x, z4 x = (0 : EReal)) (g3 : ∀ x, z3 x = (0 : EReal)) (g2 : ∀ x, z2 x = (0 : EReal)) (g1 : ∀ x, z1 x = (0 : EReal))
    (y : (Sc N).Idx) :
    View.canon (Val := Elt Ideal) (s := Sc N) (e := .f32) [⟨Rect.unit (s := Sc N) ![37, 1, 0] ![9, 82, N] i4, p4⟩, ⟨Rect.unit (s := Sc N) ![28, 1, 0] ![9, 82, N] i3, p3⟩,
      ⟨Rect.unit (s := Sc N) ![19, 1, 0] ![9, 82, N] i2, p2⟩, ⟨Rect.unit (s := Sc N) ![10, 1, 0] ![9, 82, N] i1, p1⟩,
      ⟨Rect.unit (s := Sc N) ![1, 1, 0] ![9, 82, N] i0, p0⟩, ⟨Rect.unit (s := Sc N) ![0, 83, 0] ![47, 1, N] j4, z4⟩,
      ⟨Rect.unit (s := Sc N) ![0, 0, 0] ![47, 1, N] j3, z3⟩, ⟨Rect.unit (s := Sc N) ![46, 0, 0] ![1, 84, N] j2, z2⟩,
      ⟨Rect.unit (s := Sc N) ![0, 0, 0] ![1, 84, N] j1, z1⟩] y = bordered 45 82 Y (y 0).val (y 1).val (y 2) := by
  let G : (Sc N).Idx → Elt Ideal .f32 := fun y => bordered 45 82 Y (y 0).val (y 1).val (y 2)
  have hin : ∀ (ro : ℕ) (inb : ∀ a, (![ro + 1, 1, 0] : Fin 3 → ℕ) a + (![9, 82, N] : Fin 3 → ℕ) a ≤ (Sc N).size a)
      (hle : ro + 1 + 9 ≤ 46) (p : Shape.Idx ⟨3, ![9, 82, N]⟩ → Elt Ideal .f32) (hp : ∀ (r : Fin 9) (c : Fin 82) (o : Fin N), p (ix3 r c o) = Y (ro + r) c o) (x : Shape.Idx ⟨3, ![9, 82, N]⟩),
      p x = G ((Rect.unit (s := Sc N) ![ro + 1, 1, 0] ![9, 82, N] inb).emb x) := by
    intro ro inb hle p hp x
    have e0 := emb_unit3 inb x 0
    have e1 := emb_unit3 inb x 1
    have e2 := emb_unit3 inb x 2
    have b0 : (x 0).val < 9 := (x 0).isLt
    have b1 : (x 1).val < 82 := (x 1).isLt
    have q0 : (Rect.unit (s := Sc N) ![ro + 1, 1, 0] ![9, 82, N] inb).idx x 0 = (⟨ro + 1 + (x 0).val, by omega⟩ : Fin 47) := Fin.ext e0
    have q1 : (Rect.unit (s := Sc N) ![ro + 1, 1, 0] ![9, 82, N] inb).idx x 1 = (⟨1 + (x 1).val, by omega⟩ : Fin 84) := Fin.ext e1
    have q2 : (Rect.unit (s := Sc N) ![ro + 1, 1, 0] ![9, 82, N] inb).idx x 2 = x 2 := Fin.ext (e2.trans (Nat.zero_add _))
    have hx : p x = Y (ro + (x 0).val) (x 1).val (x 2) := by
      have := hp (x 0) (x 1) (x 2)
      rwa [← eq_ix3] at this
    rw [hx]
    show _ = bordered 45 82 Y ((Rect.unit (s := Sc N) ![ro + 1, 1, 0] ![9, 82, N] inb).idx x 0).val ((Rect.unit (s := Sc N) ![ro + 1, 1, 0] ![9, 82, N] inb).idx x 1).val
      ((Rect.unit (s := Sc N) ![ro + 1, 1, 0] ![9, 82, N] inb).idx x 2)
    rw [q0, q1, q2]
    have hro' : ro + 1 + 9 ≤ 46 := hle
    unfold bordered
    rw [if_pos (by simp only; omega)]
    congr 1 <;> simp only <;> omega
  have hout : ∀ (off sz : Fin 3 → ℕ) (inb : ∀ a, off a + sz a ≤ (Sc N).size a) (z : Shape.Idx ⟨3, sz⟩ → Elt Ideal .f32) (hz : ∀ x, z x = (0 : EReal))
      (ho : off 0 + sz 0 ≤ 1 ∨ 46 ≤ off 0 ∨ off 1 + sz 1 ≤ 1 ∨ 83 ≤ off 1) (x : Shape.Idx ⟨3, sz⟩),
      z x = G ((Rect.unit (s := Sc N) off sz inb).emb x) := by
    intro off sz inb z hz ho x
    have e0 := Rect.idx_unit_val (s := Sc N) off sz inb x 0
    have e1 := Rect.idx_unit_val (s := Sc N) off sz inb x 1
    have b0 : (x 0).val < sz 0 := (x 0).isLt
    have b1 : (x 1).val < sz 1 := (x 1).isLt
    rw [hz x]
    show _ = bordered 45 82 Y ((Rect.unit (s := Sc N) off sz inb).idx x 0).val ((Rect.unit (s := Sc N) off sz inb).idx x 1).val
      ((Rect.unit (s := Sc N) off sz inb).idx x 2)
    unfold bordered
    rw [if_neg]
    rw [e0, e1]
    omega
  refine canon_of_pieces G _ ?_ y ?_
  · exact ⟨hin 36 i4 (by norm_num) p4 h4, hin 27 i3 (by norm_num) p3 h3, hin 18 i2 (by norm_num) p2 h2, hin 9 i1 (by norm_num) p1 h1, hin 0 i0 (by norm_num) p0 h0,
    hout _ _ j4 z4 g4 (by simp), hout _ _ j3 z3 g3 (by simp), hout _ _ j2 z2 g2 (by simp), hout _ _ j1 z1 g1 (by simp), trivial⟩
  have a0 : (y 0).val < 47 := (y 0).isLt
  have a1 : (y 1).val < 84 := (y 1).isLt
  have a2 : (y 2).val < N := (y 2).isLt
  have hmem : ∀ (off sz : Fin 3 → ℕ) (inb : ∀ a, off a + sz a ≤ (Sc N).size a), (off 0 ≤ (y 0).val ∧ (y 0).val < off 0 + sz 0) →
      (off 1 ≤ (y 1).val ∧ (y 1).val < off 1 + sz 1) → (off 2 ≤ (y 2).val ∧ (y 2).val < off 2 + sz 2) → y ∈ (Rect.unit (s := Sc N) off sz inb).set := by
    intro off sz inb m0 m1 m2
    rw [Rect.mem_set_unit]
    intro a
    fin_cases a
    · exact m0
    · exact m1
    · exact m2
  by_cases c1 : (y 0).val = 0
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), hmem _ _ j1 ⟨Nat.zero_le _, by show _ < 0 + 1; omega⟩ ⟨Nat.zero_le _, by show _ < 0 + 84; omega⟩ ⟨Nat.zero_le _, by show _ < 0 + N; omega⟩⟩
  by_cases c2 : (y 0).val = 46
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), hmem _ _ j2 ⟨by show 46 ≤ _; omega, by show _ < 46 + 1; omega⟩ ⟨Nat.zero_le _, by show _ < 0 + 84; omega⟩ ⟨Nat.zero_le _, by show _ < 0 + N; omega⟩⟩
  by_cases c3 : (y 1).val = 0
  · exact ⟨_, List.mem_cons_of_mem _ (List.mem_cons_of_mem _ (List.mem_cons_of_mem _ (List.mem_cons_of_mem _ (List.mem_cons_of_mem _ (List.mem_cons_of_mem _ List.mem_cons_self))))), hmem _ _ j3 ⟨Nat.zero_le _, by show _ < 0 + 47; omega⟩ ⟨Nat.zero_le _, by show _ < 0 + 1; omega⟩ ⟨Nat.zero_le _, by show _ < 0 + N; omega⟩⟩
  by_cases c4 : (y 1).val = 83
  · exact ⟨_, List.mem_cons_of_mem _ (List.mem_cons_of_mem _ (List.mem_cons_of_mem _ (List.mem_cons_of_mem _ (List.mem_cons_of_mem _ List.mem_cons_self)))), hmem _ _ j4 ⟨Nat.zero_le _, by show _ < 0 + 47; omega⟩ ⟨by show 83 ≤ _; omega, by show _ < 83 + 1; omega⟩ ⟨Nat.zero_le _, by show _ < 0 + N; omega⟩⟩
  by_cases d0 : (y 0).val < 10
  · exact ⟨_, List.mem_cons_of_mem _ (List.mem_cons_of_mem _ (List.mem_cons_of_mem _ (List.mem_cons_of_mem _ List.mem_cons_self))), hmem _ _ i0 ⟨by show 1 ≤ _; omega, by show _ < 1 + 9; omega⟩ ⟨by show 1 ≤ _; omega, by show _ < 1 + 82; omega⟩ ⟨Nat.zero_le _, by show _ < 0 + N; omega⟩⟩
  by_cases d1 : (y 0).val < 19
  · exact ⟨_, List.mem_cons_of_mem _ (List.mem_cons_of_mem _ (List.mem_cons_of_mem _ List.mem_cons_self)), hmem _ _ i1 ⟨by show 10 ≤ _; omega, by show _ < 10 + 9; omega⟩ ⟨by show 1 ≤ _; omega, by show _ < 1 + 82; omega⟩ ⟨Nat.zero_le _, by show _ < 0 + N; omega⟩⟩
  by_cases d2 : (y 0).val < 28
  · exact ⟨_, List.mem_cons_of_mem _ (List.mem_cons_of_mem _ List.mem_cons_self), hmem _ _ i2 ⟨by show 19 ≤ _; omega, by show _ < 19 + 9; omega⟩ ⟨by show 1 ≤ _; omega, by show _ < 1 + 82; omega⟩ ⟨Nat.zero_le _, by show _ < 0 + N; omega⟩⟩
  by_cases d3 : (y 0).val < 37
  · exact ⟨_, List.mem_cons_of_mem _ List.mem_cons_self, hmem _ _ i3 ⟨by show 28 ≤ _; omega, by show _ < 28 + 9; omega⟩ ⟨by show 1 ≤ _; omega, by show _ < 1 + 82; omega⟩ ⟨Nat.zero_le _, by show _ < 0 + N; omega⟩⟩
  · exact ⟨_, List.mem_cons_self, hmem _ _ i4 ⟨by show 37 ≤ _; omega, by show _ < 37 + 9; omega⟩ ⟨by show 1 ≤ _; omega, by show _ < 1 + 82; omega⟩ ⟨Nat.zero_le _, by show _ < 0 + N; omega⟩⟩

/-- A window of eleven rows loaded from a bordered scratch image. -/
theorem scratch_read {N : ℕ} {sig κ sp} (v : View sig κ sp (Sc N) .f32) (L : List (View.Piece (Elt Ideal) (Sc N) .f32)) (P : ℕ → ℕ → Fin N → EReal)
    (hL : ∀ y : (Sc N).Idx, View.canon L y = P (y 0).val (y 1).val (y 2)) (ro : ℕ)
    (inb : ∀ a, (![ro, 0, 0] : Fin 3 → ℕ) a + (![11, 84, N] : Fin 3 → ℕ) a ≤ (Sc N).size a) (r : Fin 11) (c : Fin 84) (k : Fin N) :
    v.readCov L (Rect.unit (s := Sc N) ![ro, 0, 0] ![11, 84, N] inb).toLoadRect (ix3 r c k) = P (ro + r) c k := by
  rw [View.readCov_eq_canon']
  show View.canon L _ = _
  rw [hL]
  have e0 := emb_unit3 inb (ix3 r c k) 0
  have e1 := emb_unit3 inb (ix3 r c k) 1
  have e2 := emb_unit3 inb (ix3 r c k) 2
  have q0 : ((Rect.unit (s := Sc N) ![ro, 0, 0] ![11, 84, N] inb).idx (ix3 r c k) 0).val = ro + r := e0
  have q1 : ((Rect.unit (s := Sc N) ![ro, 0, 0] ![11, 84, N] inb).idx (ix3 r c k) 1).val = c := e1.trans (Nat.zero_add _)
  have q2 : (Rect.unit (s := Sc N) ![ro, 0, 0] ![11, 84, N] inb).idx (ix3 r c k) 2 = k := Fin.ext (e2.trans (Nat.zero_add _))
  show P ((Rect.unit (s := Sc N) ![ro, 0, 0] ![11, 84, N] inb).idx (ix3 r c k) 0).val ((Rect.unit (s := Sc N) ![ro, 0, 0] ![11, 84, N] inb).idx (ix3 r c k) 1).val
    ((Rect.unit (s := Sc N) ![ro, 0, 0] ![11, 84, N] inb).idx (ix3 r c k) 2) = _
  rw [q0, q1, q2]

/-- The shape of a flat scratch: one line of 128 channels to a pixel. -/
abbrev Fl : Shape := ⟨2, ![3690, 128]⟩

/-- A flat scratch after five stores of nine image rows each. -/
theorem flat_canon (Y : ℕ → Fin 128 → EReal) (p4 p3 p2 p1 p0 : Shape.Idx ⟨2, ![738, 128]⟩ → Elt Ideal .f32)
    (i4 : ∀ a, (![2952, 0] : Fin 2 → ℕ) a + (![738, 128] : Fin 2 → ℕ) a ≤ Fl.size a)
    (i3 : ∀ a, (![2214, 0] : Fin 2 → ℕ) a + (![738, 128] : Fin 2 → ℕ) a ≤ Fl.size a)
    (i2 : ∀ a, (![1476, 0] : Fin 2 → ℕ) a + (![738, 128] : Fin 2 → ℕ) a ≤ Fl.size a)
    (i1 : ∀ a, (![738, 0] : Fin 2 → ℕ) a + (![738, 128] : Fin 2 → ℕ) a ≤ Fl.size a)
    (i0 : ∀ a, (![0, 0] : Fin 2 → ℕ) a + (![738, 128] : Fin 2 → ℕ) a ≤ Fl.size a)
    (h4 : ∀ (r : Fin 738) (o : Fin 128), p4 (ix2 r o) = Y (2952 + r) o) (h3 : ∀ (r : Fin 738) (o : Fin 128), p3 (ix2 r o) = Y (2214 + r) o)
    (h2 : ∀ (r : Fin 738) (o : Fin 128), p2 (ix2 r o) = Y (1476 + r) o) (h1 : ∀ (r : Fin 738) (o : Fin 128), p1 (ix2 r o) = Y (738 + r) o)
    (h0 : ∀ (r : Fin 738) (o : Fin 128), p0 (ix2 r o) = Y (0 + r) o) (y : Fl.Idx) :
    View.canon (Val := Elt Ideal) (s := Fl) (e := .f32) [⟨Rect.unit (s := Fl) ![2952, 0] ![738, 128] i4, p4⟩, ⟨Rect.unit (s := Fl) ![2214, 0] ![738, 128] i3, p3⟩,
      ⟨Rect.unit (s := Fl) ![1476, 0] ![738, 128] i2, p2⟩, ⟨Rect.unit (s := Fl) ![738, 0] ![738, 128] i1, p1⟩,
      ⟨Rect.unit (s := Fl) ![0, 0] ![738, 128] i0, p0⟩] y = Y (y 0).val (y 1) := by
  let G : Fl.Idx → Elt Ideal .f32 := fun y => Y (y 0).val (y 1)
  have hin : ∀ (ro : ℕ) (inb : ∀ a, (![ro, 0] : Fin 2 → ℕ) a + (![738, 128] : Fin 2 → ℕ) a ≤ Fl.size a)
      (p : Shape.Idx ⟨2, ![738, 128]⟩ → Elt Ideal .f32) (hp : ∀ (r : Fin 738) (o : Fin 128), p (ix2 r o) = Y (ro + r) o) (x : Shape.Idx ⟨2, ![738, 128]⟩),
      p x = G ((Rect.unit (s := Fl) ![ro, 0] ![738, 128] inb).emb x) := by
    intro ro inb p hp x
    have q0 : ((Rect.unit (s := Fl) ![ro, 0] ![738, 128] inb).idx x 0).val = ro + (x 0).val := Rect.idx_unit_val (s := Fl) ![ro, 0] ![738, 128] inb x 0
    have q1 : (Rect.unit (s := Fl) ![ro, 0] ![738, 128] inb).idx x 1 = x 1 := Fin.ext ((Rect.idx_unit_val (s := Fl) ![ro, 0] ![738, 128] inb x 1).trans (Nat.zero_add _))
    have hx : p x = Y (ro + (x 0).val) (x 1) := by
      have := hp (x 0) (x 1)
      rwa [← eq_ix2] at this
    rw [hx]
    show _ = Y ((Rect.unit (s := Fl) ![ro, 0] ![738, 128] inb).idx x 0).val ((Rect.unit (s := Fl) ![ro, 0] ![738, 128] inb).idx x 1)
    rw [q0, q1]
  refine canon_of_pieces G _ ?_ y ?_
  · exact ⟨hin 2952 i4 p4 h4, hin 2214 i3 p3 h3, hin 1476 i2 p2 h2, hin 738 i1 p1 h1, hin 0 i0 p0 h0, trivial⟩
  have a0 : (y 0).val < 3690 := (y 0).isLt
  have a1 : (y 1).val < 128 := (y 1).isLt
  have hmem : ∀ (off sz : Fin 2 → ℕ) (inb : ∀ a, off a + sz a ≤ Fl.size a), (off 0 ≤ (y 0).val ∧ (y 0).val < off 0 + sz 0) →
      (off 1 ≤ (y 1).val ∧ (y 1).val < off 1 + sz 1) → y ∈ (Rect.unit (s := Fl) off sz inb).set := by
    intro off sz inb m0 m1
    rw [Rect.mem_set_unit]
    intro a
    fin_cases a
    · exact m0
    · exact m1
  by_cases d0 : (y 0).val < 738
  · exact ⟨_, List.mem_cons_of_mem _ (List.mem_cons_of_mem _ (List.mem_cons_of_mem _ (List.mem_cons_of_mem _ List.mem_cons_self))), hmem _ _ i0 ⟨Nat.zero_le _, by show _ < 0 + 738; omega⟩ ⟨Nat.zero_le _, by show _ < 0 + 128; omega⟩⟩
  by_cases d1 : (y 0).val < 1476
  · exact ⟨_, List.mem_cons_of_mem _ (List.mem_cons_of_mem _ (List.mem_cons_of_mem _ List.mem_cons_self)), hmem _ _ i1 ⟨by show 738 ≤ _; omega, by show _ < 738 + 738; omega⟩ ⟨Nat.zero_le _, by show _ < 0 + 128; omega⟩⟩
  by_cases d2 : (y 0).val < 2214
  · exact ⟨_, List.mem_cons_of_mem _ (List.mem_cons_of_mem _ List.mem_cons_self), hmem _ _ i2 ⟨by show 1476 ≤ _; omega, by show _ < 1476 + 738; omega⟩ ⟨Nat.zero_le _, by show _ < 0 + 128; omega⟩⟩
  by_cases d3 : (y 0).val < 2952
  · exact ⟨_, List.mem_cons_of_mem _ List.mem_cons_self, hmem _ _ i3 ⟨by show 2214 ≤ _; omega, by show _ < 2214 + 738; omega⟩ ⟨Nat.zero_le _, by show _ < 0 + 128; omega⟩⟩
  · exact ⟨_, List.mem_cons_self, hmem _ _ i4 ⟨by show 2952 ≤ _; omega, by show _ < 2952 + 738; omega⟩ ⟨Nat.zero_le _, by show _ < 0 + 128; omega⟩⟩

/-- A block of 738 lines loaded from a flat scratch. -/
theorem flat_read {sig κ sp} (v : View sig κ sp Fl .f32) (L : List (View.Piece (Elt Ideal) Fl .f32)) (Y : ℕ → Fin 128 → EReal)
    (hL : ∀ y : Fl.Idx, View.canon L y = Y (y 0).val (y 1)) (ro : ℕ)
    (inb : ∀ a, (![ro, 0] : Fin 2 → ℕ) a + (![738, 128] : Fin 2 → ℕ) a ≤ Fl.size a) (r : Fin 738) (o : Fin 128) :
    v.readCov L (Rect.unit (s := Fl) ![ro, 0] ![738, 128] inb).toLoadRect (ix2 r o) = Y (ro + r) o := by
  rw [View.readCov_eq_canon']
  show View.canon L _ = _
  rw [hL]
  have q0 : ((Rect.unit (s := Fl) ![ro, 0] ![738, 128] inb).idx (ix2 r o) 0).val = ro + r := Rect.idx_unit_val (s := Fl) ![ro, 0] ![738, 128] inb (ix2 r o) 0
  have q1 : (Rect.unit (s := Fl) ![ro, 0] ![738, 128] inb).idx (ix2 r o) 1 = o := Fin.ext ((Rect.idx_unit_val (s := Fl) ![ro, 0] ![738, 128] inb (ix2 r o) 1).trans (Nat.zero_add _))
  show Y ((Rect.unit (s := Fl) ![ro, 0] ![738, 128] inb).idx (ix2 r o) 0).val ((Rect.unit (s := Fl) ![ro, 0] ![738, 128] inb).idx (ix2 r o) 1) = _
  rw [q0, q1]

end Cert.KernelIdeal.Trunk

end
-- ==== Proof.Trunk.Block.lean ====
/- The images a block goes through, named. -/
module

public import proofs.«01_k».proof.Proof.Gen.KernelIdeal
public import proofs.«01_k».proof.Proof.Trunk.Conv
public import proofs.«01_k».proof.Proof.Trunk.Post

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

/-- The image after the second convolution, its activation and its pooling, from the body's blocks. -/
abbrev img2 (x0 : Vec Ideal S1x90x165x32 .f32) (x1 : Vec Ideal S9x32x64 .bf16) (x2 : Vec Ideal S1x64 .f32) : ℕ → ℕ → Fin 64 → EReal :=
  poolLayer 90 165 (image fun (r : Fin 90) (c : Fin 165) (k : Fin 32) => x0 (ix4 (0 : Fin 1) r c k)) (taps fun (t : Fin 9) (k : Fin 32) (o : Fin 64) => x1 (ix3 t k o))
    (fun o => x2 (ix2 (0 : Fin 1) o))

/-- A branch's first layer on the pooled image. -/
abbrev mid1 (Y : ℕ → ℕ → Fin 64 → EReal) (w : Vec Ideal S9x64x128 .bf16) (b : Vec Ideal S1x128 .f32) : ℕ → ℕ → Fin 128 → EReal :=
  reluLayer 45 82 Y (taps fun (t : Fin 9) (k : Fin 64) (o : Fin 128) => w (ix3 t k o)) (fun o => b (ix2 (0 : Fin 1) o))

/-- A branch's second layer before its activation. -/
abbrev mid2 (Y : ℕ → ℕ → Fin 128 → EReal) (w : Vec Ideal S9x128x128 .bf16) (b : Vec Ideal S1x128 .f32) : ℕ → ℕ → Fin 128 → EReal :=
  layer 45 82 Y (taps fun (t : Fin 9) (k : Fin 128) (o : Fin 128) => w (ix3 t k o)) (fun o => b (ix2 (0 : Fin 1) o))

end Cert.KernelIdeal.Trunk

end
-- ==== Proof.Trunk.Scratch0.lean ====
/- The first scratch image: the pooled second layer inside its border of zeros. -/
module

public import proofs.«01_k».proof.Proof.Gen.KernelIdeal.Frame.RunA
public import proofs.«01_k».proof.Proof.Trunk.Conv
public import proofs.«01_k».proof.Proof.Trunk.Post
public import proofs.«01_k».proof.Proof.Trunk.Stage0
public import proofs.«01_k».proof.Proof.Trunk.Scratch
public import proofs.«01_k».proof.Proof.Trunk.Block

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

/-- A zero column stored in a scratch image. -/
theorem zero1 {N : ℕ} {s : Shape} {h : Shape.ShapeCasts ⟨3, ![47, 1, N]⟩ s} (x : s.Idx) :
    shapeCast s (broadcast ⟨3, ![47, 1, N]⟩ (Scalar.ofBits (F := Ideal) .f32 0x00000000#32)) h x = (0 : EReal) := by
  show Ideal.ofBits FTy.f32 0#32 = 0
  simp [Ideal.ofBits, Ideal.ieee]

/-- A zero row stored in a scratch image. -/
theorem zero2 {N : ℕ} {s : Shape} {h : Shape.ShapeCasts ⟨3, ![1, 84, N]⟩ s} (x : s.Idx) :
    shapeCast s (broadcast ⟨3, ![1, 84, N]⟩ (Scalar.ofBits (F := Ideal) .f32 0x00000000#32)) h x = (0 : EReal) := by
  show Ideal.ofBits FTy.f32 0#32 = 0
  simp [Ideal.ofBits, Ideal.ieee]

variable (c : Dev nD) (arg1 : Memref sig .tc .vmem S1x90x165x32 .f32) (harg1 : arg1.IsWhole) (arg2 : Memref sig .tc .vmem S9x32x64 .bf16) (harg2 : arg2.IsWhole) (arg3 : Memref sig .tc .vmem S1x64 .f32) (harg3 : arg3.IsWhole) (arg4 : Memref sig .tc .vmem S9x64x128 .bf16) (harg4 : arg4.IsWhole) (arg5 : Memref sig .tc .vmem S1x128 .f32) (harg5 : arg5.IsWhole) (arg6 : Memref sig .tc .vmem S9x128x128 .bf16) (harg6 : arg6.IsWhole) (arg7 : Memref sig .tc .vmem S1x128 .f32) (harg7 : arg7.IsWhole) (arg8 : Memref sig .tc .vmem S9x64x128 .bf16) (harg8 : arg8.IsWhole) (arg9 : Memref sig .tc .vmem S1x128 .f32) (harg9 : arg9.IsWhole) (arg10 : Memref sig .tc .vmem S9x128x128 .bf16) (harg10 : arg10.IsWhole) (arg11 : Memref sig .tc .vmem S1x128 .f32) (harg11 : arg11.IsWhole) (arg12 : Memref sig .tc .vmem S1x128x128 .f32) (harg12 : arg12.IsWhole) (arg13 : Memref sig .tc .vmem S47x84x64 .f32) (harg13 : arg13.IsWhole) (arg14 : Memref sig .tc .vmem S47x84x128 .f32) (harg14 : arg14.IsWhole) (arg15 : Memref sig .tc .vmem S47x84x128 .f32) (harg15 : arg15.IsWhole) (arg16 : Memref sig .tc .vmem S3690x128 .f32) (harg16 : arg16.IsWhole) (arg17 : Memref sig .tc .vmem S3690x128 .f32) (harg17 : arg17.IsWhole)
    (x0 : Vec Ideal S1x90x165x32 .f32) (x1 : Vec Ideal S9x32x64 .bf16) (x2 : Vec Ideal S1x64 .f32) (x3 : Vec Ideal S9x64x128 .bf16) (x4 : Vec Ideal S1x128 .f32) (x5 : Vec Ideal S9x128x128 .bf16) (x6 : Vec Ideal S1x128 .f32) (x7 : Vec Ideal S9x64x128 .bf16) (x8 : Vec Ideal S1x128 .f32) (x9 : Vec Ideal S9x128x128 .bf16) (x10 : Vec Ideal S1x128 .f32)

/-- The first scratch image after all its stores. -/
theorem canon0 (y : (Sc 64).Idx) : View.canon (Val := Elt Ideal) (kernelRun0_A.sl.HS0_9 (F := Ideal) c arg1 harg1 arg2 harg2 arg3 harg3 x0 x1 x2) y = bordered 45 82 (img2 x0 x1 x2) (y 0).val (y 1).val (y 2) :=
  scratch_canon (img2 x0 x1 x2) _ _ _ _ _ _ _ _ _ _ _ _ _ _ _ _ _ _ (st0_4 c arg1 harg1 arg2 harg2 arg3 harg3 x0 x1 x2) (st0_3 c arg1 harg1 arg2 harg2 arg3 harg3 x0 x1 x2) (st0_2 c arg1 harg1 arg2 harg2 arg3 harg3 x0 x1 x2) (st0_1 c arg1 harg1 arg2 harg2 arg3 harg3 x0 x1 x2) (st0_0 c arg1 harg1 arg2 harg2 arg3 harg3 x0 x1 x2)
    zero1 zero1 zero2 zero2 y

end Cert.KernelIdeal.Trunk

end
-- ==== Proof.Trunk.Stage1a.lean ====
/- The feature branch's first layer, block of rows by block of rows, and the second scratch image. -/
module

public import proofs.«01_k».proof.Proof.Gen.KernelIdeal.Frame.RunA
public import proofs.«01_k».proof.Proof.Trunk.Conv
public import proofs.«01_k».proof.Proof.Trunk.Post
public import proofs.«01_k».proof.Proof.Trunk.Scratch0
public import proofs.«01_k».proof.Proof.Trunk.Reads

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

variable (c : Dev nD) (arg1 : Memref sig .tc .vmem S1x90x165x32 .f32) (harg1 : arg1.IsWhole) (arg2 : Memref sig .tc .vmem S9x32x64 .bf16) (harg2 : arg2.IsWhole) (arg3 : Memref sig .tc .vmem S1x64 .f32) (harg3 : arg3.IsWhole) (arg4 : Memref sig .tc .vmem S9x64x128 .bf16) (harg4 : arg4.IsWhole) (arg5 : Memref sig .tc .vmem S1x128 .f32) (harg5 : arg5.IsWhole) (arg6 : Memref sig .tc .vmem S9x128x128 .bf16) (harg6 : arg6.IsWhole) (arg7 : Memref sig .tc .vmem S1x128 .f32) (harg7 : arg7.IsWhole) (arg8 : Memref sig .tc .vmem S9x64x128 .bf16) (harg8 : arg8.IsWhole) (arg9 : Memref sig .tc .vmem S1x128 .f32) (harg9 : arg9.IsWhole) (arg10 : Memref sig .tc .vmem S9x128x128 .bf16) (harg10 : arg10.IsWhole) (arg11 : Memref sig .tc .vmem S1x128 .f32) (harg11 : arg11.IsWhole) (arg12 : Memref sig .tc .vmem S1x128x128 .f32) (harg12 : arg12.IsWhole) (arg13 : Memref sig .tc .vmem S47x84x64 .f32) (harg13 : arg13.IsWhole) (arg14 : Memref sig .tc .vmem S47x84x128 .f32) (harg14 : arg14.IsWhole) (arg15 : Memref sig .tc .vmem S47x84x128 .f32) (harg15 : arg15.IsWhole) (arg16 : Memref sig .tc .vmem S3690x128 .f32) (harg16 : arg16.IsWhole) (arg17 : Memref sig .tc .vmem S3690x128 .f32) (harg17 : arg17.IsWhole)
    (x0 : Vec Ideal S1x90x165x32 .f32) (x1 : Vec Ideal S9x32x64 .bf16) (x2 : Vec Ideal S1x64 .f32) (x3 : Vec Ideal S9x64x128 .bf16) (x4 : Vec Ideal S1x128 .f32) (x5 : Vec Ideal S9x128x128 .bf16) (x6 : Vec Ideal S1x128 .f32) (x7 : Vec Ideal S9x64x128 .bf16) (x8 : Vec Ideal S1x128 .f32) (x9 : Vec Ideal S9x128x128 .bf16) (x10 : Vec Ideal S1x128 .f32)

theorem st1_4 (r : Fin 9) (c' : Fin 82) (o : Fin 128) : (kernelRun0_A.sl.v741 (F := Ideal) c arg1 harg1 arg2 harg2 arg3 harg3 arg4 harg4 arg5 harg5 arg13 x0 x1 x2 x3 x4) (ix3 r c' o)
    = mid1 (img2 x0 x1 x2) x3 x4 (36 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x3 (ix3 t k o)) t k o) r c) (fun o => x4 (ix2 (0 : Fin 1) o)) 36 ?_ ?_ r c' o
  · exact convB_at _ _ _ _ _ _ _ _ _ _ _ _ 36 (scratch_read _ _ _ (canon0 c arg1 harg1 arg2 harg2 arg3 harg3 x0 x1 x2) 36 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st1_3 (r : Fin 9) (c' : Fin 82) (o : Fin 128) : (kernelRun0_A.sl.v676 (F := Ideal) c arg1 harg1 arg2 harg2 arg3 harg3 arg4 harg4 arg5 harg5 arg13 x0 x1 x2 x3 x4) (ix3 r c' o)
    = mid1 (img2 x0 x1 x2) x3 x4 (27 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x3 (ix3 t k o)) t k o) r c) (fun o => x4 (ix2 (0 : Fin 1) o)) 27 ?_ ?_ r c' o
  · exact convB_at _ _ _ _ _ _ _ _ _ _ _ _ 27 (scratch_read _ _ _ (canon0 c arg1 harg1 arg2 harg2 arg3 harg3 x0 x1 x2) 27 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st1_2 (r : Fin 9) (c' : Fin 82) (o : Fin 128) : (kernelRun0_A.sl.v611 (F := Ideal) c arg1 harg1 arg2 harg2 arg3 harg3 arg4 harg4 arg5 harg5 arg13 x0 x1 x2 x3 x4) (ix3 r c' o)
    = mid1 (img2 x0 x1 x2) x3 x4 (18 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x3 (ix3 t k o)) t k o) r c) (fun o => x4 (ix2 (0 : Fin 1) o)) 18 ?_ ?_ r c' o
  · exact convB_at _ _ _ _ _ _ _ _ _ _ _ _ 18 (scratch_read _ _ _ (canon0 c arg1 harg1 arg2 harg2 arg3 harg3 x0 x1 x2) 18 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st1_1 (r : Fin 9) (c' : Fin 82) (o : Fin 128) : (kernelRun0_A.sl.v546 (F := Ideal) c arg1 harg1 arg2 harg2 arg3 harg3 arg4 harg4 arg5 harg5 arg13 x0 x1 x2 x3 x4) (ix3 r c' o)
    = mid1 (img2 x0 x1 x2) x3 x4 (9 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x3 (ix3 t k o)) t k o) r c) (fun o => x4 (ix2 (0 : Fin 1) o)) 9 ?_ ?_ r c' o
  · exact convB_at _ _ _ _ _ _ _ _ _ _ _ _ 9 (scratch_read _ _ _ (canon0 c arg1 harg1 arg2 harg2 arg3 harg3 x0 x1 x2) 9 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st1_0 (r : Fin 9) (c' : Fin 82) (o : Fin 128) : (kernelRun0_A.sl.v481 (F := Ideal) c arg1 harg1 arg2 harg2 arg3 harg3 arg4 harg4 arg5 harg5 arg13 x0 x1 x2 x3 x4) (ix3 r c' o)
    = mid1 (img2 x0 x1 x2) x3 x4 (0 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x3 (ix3 t k o)) t k o) r c) (fun o => x4 (ix2 (0 : Fin 1) o)) 0 ?_ ?_ r c' o
  · exact convB_at _ _ _ _ _ _ _ _ _ _ _ _ 0 (scratch_read _ _ _ (canon0 c arg1 harg1 arg2 harg2 arg3 harg3 x0 x1 x2) 0 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

/-- The second scratch image after all its stores. -/
theorem canon1 (y : (Sc 128).Idx) : View.canon (Val := Elt Ideal) (kernelRun0_A.sl.HS1_9 (F := Ideal) c arg1 harg1 arg2 harg2 arg3 harg3 arg4 harg4 arg5 harg5 arg13 x0 x1 x2 x3 x4) y = bordered 45 82 (mid1 (img2 x0 x1 x2) x3 x4) (y 0).val (y 1).val (y 2) :=
  scratch_canon (mid1 (img2 x0 x1 x2) x3 x4) _ _ _ _ _ _ _ _ _ _ _ _ _ _ _ _ _ _ (st1_4 c arg1 harg1 arg2 harg2 arg3 harg3 arg4 harg4 arg5 harg5 arg13 x0 x1 x2 x3 x4) (st1_3 c arg1 harg1 arg2 harg2 arg3 harg3 arg4 harg4 arg5 harg5 arg13 x0 x1 x2 x3 x4) (st1_2 c arg1 harg1 arg2 harg2 arg3 harg3 arg4 harg4 arg5 harg5 arg13 x0 x1 x2 x3 x4) (st1_1 c arg1 harg1 arg2 harg2 arg3 harg3 arg4 harg4 arg5 harg5 arg13 x0 x1 x2 x3 x4) (st1_0 c arg1 harg1 arg2 harg2 arg3 harg3 arg4 harg4 arg5 harg5 arg13 x0 x1 x2 x3 x4)
    zero1 zero1 zero2 zero2 y

end Cert.KernelIdeal.Trunk

end
-- ==== Proof.Trunk.Stage2a.lean ====
/- The feature branch's second layer through its sigmoid, and the flat scratch it is stored in. -/
module

public import proofs.«01_k».proof.Proof.Gen.KernelIdeal.Frame.RunA
public import proofs.«01_k».proof.Proof.Trunk.Conv
public import proofs.«01_k».proof.Proof.Trunk.Post
public import proofs.«01_k».proof.Proof.Trunk.Stage1a

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

variable (c : Dev nD) (arg1 : Memref sig .tc .vmem S1x90x165x32 .f32) (harg1 : arg1.IsWhole) (arg2 : Memref sig .tc .vmem S9x32x64 .bf16) (harg2 : arg2.IsWhole) (arg3 : Memref sig .tc .vmem S1x64 .f32) (harg3 : arg3.IsWhole) (arg4 : Memref sig .tc .vmem S9x64x128 .bf16) (harg4 : arg4.IsWhole) (arg5 : Memref sig .tc .vmem S1x128 .f32) (harg5 : arg5.IsWhole) (arg6 : Memref sig .tc .vmem S9x128x128 .bf16) (harg6 : arg6.IsWhole) (arg7 : Memref sig .tc .vmem S1x128 .f32) (harg7 : arg7.IsWhole) (arg8 : Memref sig .tc .vmem S9x64x128 .bf16) (harg8 : arg8.IsWhole) (arg9 : Memref sig .tc .vmem S1x128 .f32) (harg9 : arg9.IsWhole) (arg10 : Memref sig .tc .vmem S9x128x128 .bf16) (harg10 : arg10.IsWhole) (arg11 : Memref sig .tc .vmem S1x128 .f32) (harg11 : arg11.IsWhole) (arg12 : Memref sig .tc .vmem S1x128x128 .f32) (harg12 : arg12.IsWhole) (arg13 : Memref sig .tc .vmem S47x84x64 .f32) (harg13 : arg13.IsWhole) (arg14 : Memref sig .tc .vmem S47x84x128 .f32) (harg14 : arg14.IsWhole) (arg15 : Memref sig .tc .vmem S47x84x128 .f32) (harg15 : arg15.IsWhole) (arg16 : Memref sig .tc .vmem S3690x128 .f32) (harg16 : arg16.IsWhole) (arg17 : Memref sig .tc .vmem S3690x128 .f32) (harg17 : arg17.IsWhole)
    (x0 : Vec Ideal S1x90x165x32 .f32) (x1 : Vec Ideal S9x32x64 .bf16) (x2 : Vec Ideal S1x64 .f32) (x3 : Vec Ideal S9x64x128 .bf16) (x4 : Vec Ideal S1x128 .f32) (x5 : Vec Ideal S9x128x128 .bf16) (x6 : Vec Ideal S1x128 .f32) (x7 : Vec Ideal S9x64x128 .bf16) (x8 : Vec Ideal S1x128 .f32) (x9 : Vec Ideal S9x128x128 .bf16) (x10 : Vec Ideal S1x128 .f32)

theorem st3_4 (r : Fin 738) (o : Fin 128) : (kernelRun0_A.sl.v1411 (F := Ideal) c arg1 harg1 arg2 harg2 arg3 harg3 arg4 harg4 arg5 harg5 arg6 harg6 arg7 harg7 arg13 arg14 x0 x1 x2 x3 x4 x5 x6) (ix2 r o)
    = Ideal.logistic (mid2 (mid1 (img2 x0 x1 x2) x3 x4) x5 x6 ((2952 + r.val) / 82) ((2952 + r.val) % 82) o) := by
  have hr := r.isLt
  rw [show (2952 + r.val) / 82 = 36 + r.val / 82 by omega, show (2952 + r.val) % 82 = r.val % 82 by omega]
  refine (gate2_at (convC (truncf .bf16 _ bitsLt_bf16_f32) _ _ _ _ _ _ _ _ _) _ r o).trans ?_
  refine congrArg (fun z => Ideal.logistic z) (congrArg₂ (· + ·) ?_ ?_)
  · exact convC_at _ _ _ _ _ _ _ _ _ _ (bordered 45 82 (mid1 (img2 x0 x1 x2) x3 x4)) (taps fun (t : Fin 9) (k : Fin 128) (o : Fin 128) => x5 (ix3 t k o)) 36 (scratch_read _ _ _ (canon1 c arg1 harg1 arg2 harg2 arg3 harg3 arg4 harg4 arg5 harg5 arg13 x0 x1 x2 x3 x4) 36 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st3_3 (r : Fin 738) (o : Fin 128) : (kernelRun0_A.sl.v1342 (F := Ideal) c arg1 harg1 arg2 harg2 arg3 harg3 arg4 harg4 arg5 harg5 arg6 harg6 arg7 harg7 arg13 arg14 x0 x1 x2 x3 x4 x5 x6) (ix2 r o)
    = Ideal.logistic (mid2 (mid1 (img2 x0 x1 x2) x3 x4) x5 x6 ((2214 + r.val) / 82) ((2214 + r.val) % 82) o) := by
  have hr := r.isLt
  rw [show (2214 + r.val) / 82 = 27 + r.val / 82 by omega, show (2214 + r.val) % 82 = r.val % 82 by omega]
  refine (gate2_at (convC (truncf .bf16 _ bitsLt_bf16_f32) _ _ _ _ _ _ _ _ _) _ r o).trans ?_
  refine congrArg (fun z => Ideal.logistic z) (congrArg₂ (· + ·) ?_ ?_)
  · exact convC_at _ _ _ _ _ _ _ _ _ _ (bordered 45 82 (mid1 (img2 x0 x1 x2) x3 x4)) (taps fun (t : Fin 9) (k : Fin 128) (o : Fin 128) => x5 (ix3 t k o)) 27 (scratch_read _ _ _ (canon1 c arg1 harg1 arg2 harg2 arg3 harg3 arg4 harg4 arg5 harg5 arg13 x0 x1 x2 x3 x4) 27 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st3_2 (r : Fin 738) (o : Fin 128) : (kernelRun0_A.sl.v1273 (F := Ideal) c arg1 harg1 arg2 harg2 arg3 harg3 arg4 harg4 arg5 harg5 arg6 harg6 arg7 harg7 arg13 arg14 x0 x1 x2 x3 x4 x5 x6) (ix2 r o)
    = Ideal.logistic (mid2 (mid1 (img2 x0 x1 x2) x3 x4) x5 x6 ((1476 + r.val) / 82) ((1476 + r.val) % 82) o) := by
  have hr := r.isLt
  rw [show (1476 + r.val) / 82 = 18 + r.val / 82 by omega, show (1476 + r.val) % 82 = r.val % 82 by omega]
  refine (gate2_at (convC (truncf .bf16 _ bitsLt_bf16_f32) _ _ _ _ _ _ _ _ _) _ r o).trans ?_
  refine congrArg (fun z => Ideal.logistic z) (congrArg₂ (· + ·) ?_ ?_)
  · exact convC_at _ _ _ _ _ _ _ _ _ _ (bordered 45 82 (mid1 (img2 x0 x1 x2) x3 x4)) (taps fun (t : Fin 9) (k : Fin 128) (o : Fin 128) => x5 (ix3 t k o)) 18 (scratch_read _ _ _ (canon1 c arg1 harg1 arg2 harg2 arg3 harg3 arg4 harg4 arg5 harg5 arg13 x0 x1 x2 x3 x4) 18 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st3_1 (r : Fin 738) (o : Fin 128) : (kernelRun0_A.sl.v1204 (F := Ideal) c arg1 harg1 arg2 harg2 arg3 harg3 arg4 harg4 arg5 harg5 arg6 harg6 arg7 harg7 arg13 arg14 x0 x1 x2 x3 x4 x5 x6) (ix2 r o)
    = Ideal.logistic (mid2 (mid1 (img2 x0 x1 x2) x3 x4) x5 x6 ((738 + r.val) / 82) ((738 + r.val) % 82) o) := by
  have hr := r.isLt
  rw [show (738 + r.val) / 82 = 9 + r.val / 82 by omega, show (738 + r.val) % 82 = r.val % 82 by omega]
  refine (gate2_at (convC (truncf .bf16 _ bitsLt_bf16_f32) _ _ _ _ _ _ _ _ _) _ r o).trans ?_
  refine congrArg (fun z => Ideal.logistic z) (congrArg₂ (· + ·) ?_ ?_)
  · exact convC_at _ _ _ _ _ _ _ _ _ _ (bordered 45 82 (mid1 (img2 x0 x1 x2) x3 x4)) (taps fun (t : Fin 9) (k : Fin 128) (o : Fin 128) => x5 (ix3 t k o)) 9 (scratch_read _ _ _ (canon1 c arg1 harg1 arg2 harg2 arg3 harg3 arg4 harg4 arg5 harg5 arg13 x0 x1 x2 x3 x4) 9 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st3_0 (r : Fin 738) (o : Fin 128) : (kernelRun0_A.sl.v1135 (F := Ideal) c arg1 harg1 arg2 harg2 arg3 harg3 arg4 harg4 arg5 harg5 arg6 harg6 arg7 harg7 arg13 arg14 x0 x1 x2 x3 x4 x5 x6) (ix2 r o)
    = Ideal.logistic (mid2 (mid1 (img2 x0 x1 x2) x3 x4) x5 x6 ((0 + r.val) / 82) ((0 + r.val) % 82) o) := by
  have hr := r.isLt
  rw [show (0 + r.val) / 82 = 0 + r.val / 82 by omega, show (0 + r.val) % 82 = r.val % 82 by omega]
  refine (gate2_at (convC (truncf .bf16 _ bitsLt_bf16_f32) _ _ _ _ _ _ _ _ _) _ r o).trans ?_
  refine congrArg (fun z => Ideal.logistic z) (congrArg₂ (· + ·) ?_ ?_)
  · exact convC_at _ _ _ _ _ _ _ _ _ _ (bordered 45 82 (mid1 (img2 x0 x1 x2) x3 x4)) (taps fun (t : Fin 9) (k : Fin 128) (o : Fin 128) => x5 (ix3 t k o)) 0 (scratch_read _ _ _ (canon1 c arg1 harg1 arg2 harg2 arg3 harg3 arg4 harg4 arg5 harg5 arg13 x0 x1 x2 x3 x4) 0 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

/-- The flat scratch of the feature map after all its stores. -/
theorem canon3 (y : Fl.Idx) : View.canon (Val := Elt Ideal) (kernelRun0_A.sl.HS3_5 (F := Ideal) c arg1 harg1 arg2 harg2 arg3 harg3 arg4 harg4 arg5 harg5 arg6 harg6 arg7 harg7 arg13 arg14 x0 x1 x2 x3 x4 x5 x6) y = (fun n o => Ideal.logistic (mid2 (mid1 (img2 x0 x1 x2) x3 x4) x5 x6 (n / 82) (n % 82) o)) (y 0).val (y 1) :=
  flat_canon (fun n o => Ideal.logistic (mid2 (mid1 (img2 x0 x1 x2) x3 x4) x5 x6 (n / 82) (n % 82) o)) _ _ _ _ _ _ _ _ _ _ (st3_4 c arg1 harg1 arg2 harg2 arg3 harg3 arg4 harg4 arg5 harg5 arg6 harg6 arg7 harg7 arg13 arg14 x0 x1 x2 x3 x4 x5 x6) (st3_3 c arg1 harg1 arg2 harg2 arg3 harg3 arg4 harg4 arg5 harg5 arg6 harg6 arg7 harg7 arg13 arg14 x0 x1 x2 x3 x4 x5 x6) (st3_2 c arg1 harg1 arg2 harg2 arg3 harg3 arg4 harg4 arg5 harg5 arg6 harg6 arg7 harg7 arg13 arg14 x0 x1 x2 x3 x4 x5 x6) (st3_1 c arg1 harg1 arg2 harg2 arg3 harg3 arg4 harg4 arg5 harg5 arg6 harg6 arg7 harg7 arg13 arg14 x0 x1 x2 x3 x4 x5 x6) (st3_0 c arg1 harg1 arg2 harg2 arg3 harg3 arg4 harg4 arg5 harg5 arg6 harg6 arg7 harg7 arg13 arg14 x0 x1 x2 x3 x4 x5 x6) y

end Cert.KernelIdeal.Trunk

end
-- ==== Proof.Trunk.Stage1p.lean ====
/- The attention branch's first layer, block of rows by block of rows, and the third scratch image. -/
module

public import proofs.«01_k».proof.Proof.Gen.KernelIdeal.Frame.RunA
public import proofs.«01_k».proof.Proof.Trunk.Conv
public import proofs.«01_k».proof.Proof.Trunk.Post
public import proofs.«01_k».proof.Proof.Trunk.Scratch0
public import proofs.«01_k».proof.Proof.Trunk.Reads

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

variable (c : Dev nD) (arg1 : Memref sig .tc .vmem S1x90x165x32 .f32) (harg1 : arg1.IsWhole) (arg2 : Memref sig .tc .vmem S9x32x64 .bf16) (harg2 : arg2.IsWhole) (arg3 : Memref sig .tc .vmem S1x64 .f32) (harg3 : arg3.IsWhole) (arg4 : Memref sig .tc .vmem S9x64x128 .bf16) (harg4 : arg4.IsWhole) (arg5 : Memref sig .tc .vmem S1x128 .f32) (harg5 : arg5.IsWhole) (arg6 : Memref sig .tc .vmem S9x128x128 .bf16) (harg6 : arg6.IsWhole) (arg7 : Memref sig .tc .vmem S1x128 .f32) (harg7 : arg7.IsWhole) (arg8 : Memref sig .tc .vmem S9x64x128 .bf16) (harg8 : arg8.IsWhole) (arg9 : Memref sig .tc .vmem S1x128 .f32) (harg9 : arg9.IsWhole) (arg10 : Memref sig .tc .vmem S9x128x128 .bf16) (harg10 : arg10.IsWhole) (arg11 : Memref sig .tc .vmem S1x128 .f32) (harg11 : arg11.IsWhole) (arg12 : Memref sig .tc .vmem S1x128x128 .f32) (harg12 : arg12.IsWhole) (arg13 : Memref sig .tc .vmem S47x84x64 .f32) (harg13 : arg13.IsWhole) (arg14 : Memref sig .tc .vmem S47x84x128 .f32) (harg14 : arg14.IsWhole) (arg15 : Memref sig .tc .vmem S47x84x128 .f32) (harg15 : arg15.IsWhole) (arg16 : Memref sig .tc .vmem S3690x128 .f32) (harg16 : arg16.IsWhole) (arg17 : Memref sig .tc .vmem S3690x128 .f32) (harg17 : arg17.IsWhole)
    (x0 : Vec Ideal S1x90x165x32 .f32) (x1 : Vec Ideal S9x32x64 .bf16) (x2 : Vec Ideal S1x64 .f32) (x3 : Vec Ideal S9x64x128 .bf16) (x4 : Vec Ideal S1x128 .f32) (x5 : Vec Ideal S9x128x128 .bf16) (x6 : Vec Ideal S1x128 .f32) (x7 : Vec Ideal S9x64x128 .bf16) (x8 : Vec Ideal S1x128 .f32) (x9 : Vec Ideal S9x128x128 .bf16) (x10 : Vec Ideal S1x128 .f32)

theorem st2_4 (r : Fin 9) (c' : Fin 82) (o : Fin 128) : (kernelRun0_A.sl.v1066 (F := Ideal) c arg1 harg1 arg2 harg2 arg3 harg3 arg8 harg8 arg9 harg9 arg13 x0 x1 x2 x7 x8) (ix3 r c' o)
    = mid1 (img2 x0 x1 x2) x7 x8 (36 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x7 (ix3 t k o)) t k o) r c) (fun o => x8 (ix2 (0 : Fin 1) o)) 36 ?_ ?_ r c' o
  · exact convB_at _ _ _ _ _ _ _ _ _ _ _ _ 36 (scratch_read _ _ _ (canon0 c arg1 harg1 arg2 harg2 arg3 harg3 x0 x1 x2) 36 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st2_3 (r : Fin 9) (c' : Fin 82) (o : Fin 128) : (kernelRun0_A.sl.v1001 (F := Ideal) c arg1 harg1 arg2 harg2 arg3 harg3 arg8 harg8 arg9 harg9 arg13 x0 x1 x2 x7 x8) (ix3 r c' o)
    = mid1 (img2 x0 x1 x2) x7 x8 (27 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x7 (ix3 t k o)) t k o) r c) (fun o => x8 (ix2 (0 : Fin 1) o)) 27 ?_ ?_ r c' o
  · exact convB_at _ _ _ _ _ _ _ _ _ _ _ _ 27 (scratch_read _ _ _ (canon0 c arg1 harg1 arg2 harg2 arg3 harg3 x0 x1 x2) 27 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st2_2 (r : Fin 9) (c' : Fin 82) (o : Fin 128) : (kernelRun0_A.sl.v936 (F := Ideal) c arg1 harg1 arg2 harg2 arg3 harg3 arg8 harg8 arg9 harg9 arg13 x0 x1 x2 x7 x8) (ix3 r c' o)
    = mid1 (img2 x0 x1 x2) x7 x8 (18 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x7 (ix3 t k o)) t k o) r c) (fun o => x8 (ix2 (0 : Fin 1) o)) 18 ?_ ?_ r c' o
  · exact convB_at _ _ _ _ _ _ _ _ _ _ _ _ 18 (scratch_read _ _ _ (canon0 c arg1 harg1 arg2 harg2 arg3 harg3 x0 x1 x2) 18 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st2_1 (r : Fin 9) (c' : Fin 82) (o : Fin 128) : (kernelRun0_A.sl.v871 (F := Ideal) c arg1 harg1 arg2 harg2 arg3 harg3 arg8 harg8 arg9 harg9 arg13 x0 x1 x2 x7 x8) (ix3 r c' o)
    = mid1 (img2 x0 x1 x2) x7 x8 (9 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x7 (ix3 t k o)) t k o) r c) (fun o => x8 (ix2 (0 : Fin 1) o)) 9 ?_ ?_ r c' o
  · exact convB_at _ _ _ _ _ _ _ _ _ _ _ _ 9 (scratch_read _ _ _ (canon0 c arg1 harg1 arg2 harg2 arg3 harg3 x0 x1 x2) 9 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

theorem st2_0 (r : Fin 9) (c' : Fin 82) (o : Fin 128) : (kernelRun0_A.sl.v806 (F := Ideal) c arg1 harg1 arg2 harg2 arg3 harg3 arg8 harg8 arg9 harg9 arg13 x0 x1 x2 x7 x8) (ix3 r c' o)
    = mid1 (img2 x0 x1 x2) x7 x8 (0 + r) c' o := by
  refine relu3_at (convB (truncf .bf16 _ bitsLt_bf16_f32) _ _ _ _ _ _ _ _ _) _ (fun r c o => conv9 (bordered 45 82 (img2 x0 x1 x2)) (fun t k => (taps fun (t : Fin 9) (k : Fin 64) (o : Fin 128) => x7 (ix3 t k o)) t k o) r c) (fun o => x8 (ix2 (0 : Fin 1) o)) 0 ?_ ?_ r c' o
  · exact convB_at _ _ _ _ _ _ _ _ _ _ _ _ 0 (scratch_read _ _ _ (canon0 c arg1 harg1 arg2 harg2 arg3 harg3 x0 x1 x2) 0 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num))
  · exact read1 _ _ _ _

/-- The third scratch image after all its stores. -/
theorem canon2 (y : (Sc 128).Idx) : View.canon (Val := Elt Ideal) (kernelRun0_A.sl.HS2_9 (F := Ideal) c arg1 harg1 arg2 harg2 arg3 harg3 arg8 harg8 arg9 harg9 arg13 x0 x1 x2 x7 x8) y = bordered 45 82 (mid1 (img2 x0 x1 x2) x7 x8) (y 0).val (y 1).val (y 2) :=
  scratch_canon (mid1 (img2 x0 x1 x2) x7 x8) _ _ _ _ _ _ _ _ _ _ _ _ _ _ _ _ _ _ (st2_4 c arg1 harg1 arg2 harg2 arg3 harg3 arg8 harg8 arg9 harg9 arg13 x0 x1 x2 x7 x8) (st2_3 c arg1 harg1 arg2 harg2 arg3 harg3 arg8 harg8 arg9 harg9 arg13 x0 x1 x2 x7 x8) (st2_2 c arg1 harg1 arg2 harg2 arg3 harg3 arg8 harg8 arg9 harg9 arg13 x0 x1 x2 x7 x8) (st2_1 c arg1 harg1 arg2 harg2 arg3 harg3 arg8 harg8 arg9 harg9 arg13 x0 x1 x2 x7 x8) (st2_0 c arg1 harg1 arg2 harg2 arg3 harg3 arg8 harg8 arg9 harg9 arg13 x0 x1 x2 x7 x8)
    zero1 zero1 zero2 zero2 y

end Cert.KernelIdeal.Trunk

end
-- ==== Proof.Trunk.Stage2p.lean ====
/- The attention branch's second layer and its maximum with zero, and the flat scratch it is stored in. -/
module

public import proofs.«01_k».proof.Proof.Gen.KernelIdeal.Frame.RunA
public import proofs.«01_k».proof.Proof.Trunk.Conv
public import proofs.«01_k».proof.Proof.Trunk.Post
public import proofs.«01_k».proof.Proof.Trunk.Stage1p

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

variable (c : Dev nD) (arg1 : Memref sig .tc .vmem S1x90x165x32 .f32) (harg1 : arg1.IsWhole) (arg2 : Memref sig .tc .vmem S9x32x64 .bf16) (harg2 : arg2.IsWhole) (arg3 : Memref sig .tc .vmem S1x64 .f32) (harg3 : arg3.IsWhole) (arg4 : Memref sig .tc .vmem S9x64x128 .bf16) (harg4 : arg4.IsWhole) (arg5 : Memref sig .tc .vmem S1x128 .f32) (harg5 : arg5.IsWhole) (arg6 : Memref sig .tc .vmem S9x128x128 .bf16) (harg6 : arg6.IsWhole) (arg7 : Memref sig .tc .vmem S1x128 .f32) (harg7 : arg7.IsWhole) (arg8 : Memref sig .tc .vmem S9x64x128 .bf16) (harg8 : arg8.IsWhole) (arg9 : Memref sig .tc .vmem S1x128 .f32) (harg9 : arg9.IsWhole) (arg10 : Memref sig .tc .vmem S9x128x128 .bf16) (harg10 : arg10.IsWhole) (arg11 : Memref sig .tc .vmem S1x128 .f32) (harg11 : arg11.IsWhole) (arg12 : Memref sig .tc .vmem S1x128x128 .f32) (harg12 : arg12.IsWhole) (arg13 : Memref sig .tc .vmem S47x84x64 .f32) (harg13 : arg13.IsWhole) (arg14 : Memref sig .tc .vmem S47x84x128 .f32) (harg14 : arg14.IsWhole) (arg15 : Memref sig .tc .vmem S47x84x128 .f32) (harg15 : arg15.IsWhole) (arg16 : Memref sig .tc .vmem S3690x128 .f32) (harg16 : arg16.IsWhole) (arg17 : Memref sig .tc .vmem S3690x128 .f32) (harg17 : arg17.IsWhole)
    (x0 : Vec Ideal S1x90x165x32 .f32) (x1 : Vec Ideal S9x32x64 .bf16) (x2 : Vec Ideal S1x64 .f32) (x3 : Vec Ideal S9x64x128 .bf16) (x4 : Vec Ideal S1x128 .f32) (x5 : Vec Ideal S9x128x128 .bf16) (x6 : Vec Ideal S1x128 .f32) (x7 : Vec Ideal S9x64x128 .bf16) (x8 : Vec Ideal S1x128 .f32) (x9 : Vec Ideal S9x128x128 .bf16) (x10 : Vec Ideal S1x128 .f32)

theorem st4_4 (r : Fin 738) (o : Fin 128) : (kernelRun0_A.sl.v1731 (F := Ideal) c arg1 harg1 arg2 harg2 arg3 harg3 arg8 harg8 arg9 harg9 arg10 harg10 arg11 harg11 arg13 arg15 x0 x1 x2 x7 x8 x9 x10) (ix2 r o)
    = max (mid2 (mid1 (img2 x0 x1 x2) x7 x8) x9 x10 ((2952 + r.val) / 82) ((2952 + r.val) % 82) o) 0 := by
  have hr := r.isLt
  rw [show (2952 + r.val) / 82 = 36 + r.val / 82 by omega, show (2952 + r.val) % 82 = r.val % 82 by omega]
  refine (relu2_at (convC (truncf .bf16 _ bitsLt_bf16_f32) _ _ _ _ _ _ _ _ _) _ r o).trans ?_
  refine congrArg (fun z => max z (0 : EReal)) (congrArg₂ (· + ·) ?_ ?_)
  · exact convC_at _ _ _ _ _ _ _ _ _ _ (bordered 45 82 (mid1 (img2 x0 x1 x2) x7 x8)) (taps fun (t : Fin 9) (k : Fin 128) (o : Fin 128) => x9 (ix3 t k o)) 36 (scratch_read _ _ _ (canon2 c arg1 harg1 arg2 harg2 arg3 harg3 arg8 harg8 arg9 harg9 arg13 x0 x1 x2 x7 x8) 36 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st4_3 (r : Fin 738) (o : Fin 128) : (kernelRun0_A.sl.v1667 (F := Ideal) c arg1 harg1 arg2 harg2 arg3 harg3 arg8 harg8 arg9 harg9 arg10 harg10 arg11 harg11 arg13 arg15 x0 x1 x2 x7 x8 x9 x10) (ix2 r o)
    = max (mid2 (mid1 (img2 x0 x1 x2) x7 x8) x9 x10 ((2214 + r.val) / 82) ((2214 + r.val) % 82) o) 0 := by
  have hr := r.isLt
  rw [show (2214 + r.val) / 82 = 27 + r.val / 82 by omega, show (2214 + r.val) % 82 = r.val % 82 by omega]
  refine (relu2_at (convC (truncf .bf16 _ bitsLt_bf16_f32) _ _ _ _ _ _ _ _ _) _ r o).trans ?_
  refine congrArg (fun z => max z (0 : EReal)) (congrArg₂ (· + ·) ?_ ?_)
  · exact convC_at _ _ _ _ _ _ _ _ _ _ (bordered 45 82 (mid1 (img2 x0 x1 x2) x7 x8)) (taps fun (t : Fin 9) (k : Fin 128) (o : Fin 128) => x9 (ix3 t k o)) 27 (scratch_read _ _ _ (canon2 c arg1 harg1 arg2 harg2 arg3 harg3 arg8 harg8 arg9 harg9 arg13 x0 x1 x2 x7 x8) 27 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st4_2 (r : Fin 738) (o : Fin 128) : (kernelRun0_A.sl.v1603 (F := Ideal) c arg1 harg1 arg2 harg2 arg3 harg3 arg8 harg8 arg9 harg9 arg10 harg10 arg11 harg11 arg13 arg15 x0 x1 x2 x7 x8 x9 x10) (ix2 r o)
    = max (mid2 (mid1 (img2 x0 x1 x2) x7 x8) x9 x10 ((1476 + r.val) / 82) ((1476 + r.val) % 82) o) 0 := by
  have hr := r.isLt
  rw [show (1476 + r.val) / 82 = 18 + r.val / 82 by omega, show (1476 + r.val) % 82 = r.val % 82 by omega]
  refine (relu2_at (convC (truncf .bf16 _ bitsLt_bf16_f32) _ _ _ _ _ _ _ _ _) _ r o).trans ?_
  refine congrArg (fun z => max z (0 : EReal)) (congrArg₂ (· + ·) ?_ ?_)
  · exact convC_at _ _ _ _ _ _ _ _ _ _ (bordered 45 82 (mid1 (img2 x0 x1 x2) x7 x8)) (taps fun (t : Fin 9) (k : Fin 128) (o : Fin 128) => x9 (ix3 t k o)) 18 (scratch_read _ _ _ (canon2 c arg1 harg1 arg2 harg2 arg3 harg3 arg8 harg8 arg9 harg9 arg13 x0 x1 x2 x7 x8) 18 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st4_1 (r : Fin 738) (o : Fin 128) : (kernelRun0_A.sl.v1539 (F := Ideal) c arg1 harg1 arg2 harg2 arg3 harg3 arg8 harg8 arg9 harg9 arg10 harg10 arg11 harg11 arg13 arg15 x0 x1 x2 x7 x8 x9 x10) (ix2 r o)
    = max (mid2 (mid1 (img2 x0 x1 x2) x7 x8) x9 x10 ((738 + r.val) / 82) ((738 + r.val) % 82) o) 0 := by
  have hr := r.isLt
  rw [show (738 + r.val) / 82 = 9 + r.val / 82 by omega, show (738 + r.val) % 82 = r.val % 82 by omega]
  refine (relu2_at (convC (truncf .bf16 _ bitsLt_bf16_f32) _ _ _ _ _ _ _ _ _) _ r o).trans ?_
  refine congrArg (fun z => max z (0 : EReal)) (congrArg₂ (· + ·) ?_ ?_)
  · exact convC_at _ _ _ _ _ _ _ _ _ _ (bordered 45 82 (mid1 (img2 x0 x1 x2) x7 x8)) (taps fun (t : Fin 9) (k : Fin 128) (o : Fin 128) => x9 (ix3 t k o)) 9 (scratch_read _ _ _ (canon2 c arg1 harg1 arg2 harg2 arg3 harg3 arg8 harg8 arg9 harg9 arg13 x0 x1 x2 x7 x8) 9 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

theorem st4_0 (r : Fin 738) (o : Fin 128) : (kernelRun0_A.sl.v1475 (F := Ideal) c arg1 harg1 arg2 harg2 arg3 harg3 arg8 harg8 arg9 harg9 arg10 harg10 arg11 harg11 arg13 arg15 x0 x1 x2 x7 x8 x9 x10) (ix2 r o)
    = max (mid2 (mid1 (img2 x0 x1 x2) x7 x8) x9 x10 ((0 + r.val) / 82) ((0 + r.val) % 82) o) 0 := by
  have hr := r.isLt
  rw [show (0 + r.val) / 82 = 0 + r.val / 82 by omega, show (0 + r.val) % 82 = r.val % 82 by omega]
  refine (relu2_at (convC (truncf .bf16 _ bitsLt_bf16_f32) _ _ _ _ _ _ _ _ _) _ r o).trans ?_
  refine congrArg (fun z => max z (0 : EReal)) (congrArg₂ (· + ·) ?_ ?_)
  · exact convC_at _ _ _ _ _ _ _ _ _ _ (bordered 45 82 (mid1 (img2 x0 x1 x2) x7 x8)) (taps fun (t : Fin 9) (k : Fin 128) (o : Fin 128) => x9 (ix3 t k o)) 0 (scratch_read _ _ _ (canon2 c arg1 harg1 arg2 harg2 arg3 harg3 arg8 harg8 arg9 harg9 arg13 x0 x1 x2 x7 x8) 0 _)
      (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) (read9 _ _ _ _ _ (by norm_num)) r o
  · exact read1 _ _ _ _ o

/-- The flat scratch of the attention map after all its stores. -/
theorem canon4 (y : Fl.Idx) : View.canon (Val := Elt Ideal) (kernelRun0_A.sl.HS4_5 (F := Ideal) c arg1 harg1 arg2 harg2 arg3 harg3 arg8 harg8 arg9 harg9 arg10 harg10 arg11 harg11 arg13 arg15 x0 x1 x2 x7 x8 x9 x10) y = (fun n o => max (mid2 (mid1 (img2 x0 x1 x2) x7 x8) x9 x10 (n / 82) (n % 82) o) 0) (y 0).val (y 1) :=
  flat_canon (fun n o => max (mid2 (mid1 (img2 x0 x1 x2) x7 x8) x9 x10 (n / 82) (n % 82) o) 0) _ _ _ _ _ _ _ _ _ _ (st4_4 c arg1 harg1 arg2 harg2 arg3 harg3 arg8 harg8 arg9 harg9 arg10 harg10 arg11 harg11 arg13 arg15 x0 x1 x2 x7 x8 x9 x10) (st4_3 c arg1 harg1 arg2 harg2 arg3 harg3 arg8 harg8 arg9 harg9 arg10 harg10 arg11 harg11 arg13 arg15 x0 x1 x2 x7 x8 x9 x10) (st4_2 c arg1 harg1 arg2 harg2 arg3 harg3 arg8 harg8 arg9 harg9 arg10 harg10 arg11 harg11 arg13 arg15 x0 x1 x2 x7 x8 x9 x10) (st4_1 c arg1 harg1 arg2 harg2 arg3 harg3 arg8 harg8 arg9 harg9 arg10 harg10 arg11 harg11 arg13 arg15 x0 x1 x2 x7 x8 x9 x10) (st4_0 c arg1 harg1 arg2 harg2 arg3 harg3 arg8 harg8 arg9 harg9 arg10 harg10 arg11 harg11 arg13 arg15 x0 x1 x2 x7 x8 x9 x10) y

end Cert.KernelIdeal.Trunk

end
-- ==== Proof.Trunk.Final.lean ====
/- The end of the body on its five blocks of rows: the least and the greatest attention value, the steep sigmoid, and the
   products of the attention map with the feature map. -/
module

public import proofs.«01_k».proof.Proof.Gen.KernelIdeal
public import proofs.«01_k».proof.Proof.Trunk.Spec
public import Idealize.ShloMosaic.Lib.Pointwise

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

/-- A minimum folded over a finite family from the top is its infimum. -/
theorem fold_min_top {ι : Type} [Fintype ι] (f : ι → EReal) : Finset.fold min ⊤ f Finset.univ = ⨅ i, f i := by
  rw [← Finset.inf_univ_eq_iInf]
  rfl

/-- A maximum folded over a finite family from the bottom is its supremum. -/
theorem fold_max_bot {ι : Type} [Fintype ι] (f : ι → EReal) : Finset.fold max ⊥ f Finset.univ = ⨆ i, f i := by
  rw [← Finset.sup_univ_eq_iSup]
  rfl

/-- The least entry of one block. -/
def chunkMin (p : FVec Ideal S738x128 .f32) : FVec Ideal S1x1 .f32 :=
  broadcast S1x1 (extractAt ![0, 0, 0] (shapeCast S1x1x1 (multiReduction .minimumf [1, 2] S1 (shapeCast S1x738x128 p shapeCasts_S738x128_S1x738x128)
    0x7F800000#32 reduces_S1x738x128_S1 (.inl rfl) rfl) shapeCasts_S1_S1x1x1) inpos_S1x1x1_p0_0_0)

/-- The greatest entry of one block. -/
def chunkMax (p : FVec Ideal S738x128 .f32) : FVec Ideal S1x1 .f32 :=
  broadcast S1x1 (extractAt ![0, 0, 0] (shapeCast S1x1x1 (multiReduction .maximumf [1, 2] S1 (shapeCast S1x738x128 p shapeCasts_S738x128_S1x738x128)
    0xFF800000#32 reduces_S1x738x128_S1 (.inl rfl) rfl) shapeCasts_S1_S1x1x1) inpos_S1x1x1_p0_0_0)

theorem chunkMin_at (p : FVec Ideal S738x128 .f32) :
    chunkMin p (ix2 (0 : Fin 1) (0 : Fin 1)) = ⨅ r : Fin 738, ⨅ o : Fin 128, p (ix2 r o) := by
  pointwise [chunkMin]
  have htop : Ideal.ofBits FTy.f32 2139095040#32 = ⊤ := by simp [Ideal.ofBits, Ideal.ieee]
  exact (congrArg (fun b => Finset.fold min b _ _) htop).trans ((fold_min_top _).trans (iInf_prod (f := fun x : Fin 738 × Fin 128 => p (ix2 x.1 x.2))))

theorem chunkMax_at (p : FVec Ideal S738x128 .f32) :
    chunkMax p (ix2 (0 : Fin 1) (0 : Fin 1)) = ⨆ r : Fin 738, ⨆ o : Fin 128, p (ix2 r o) := by
  pointwise [chunkMax]
  have hbot : Ideal.ofBits FTy.f32 4286578688#32 = ⊥ := by simp [Ideal.ofBits, Ideal.ieee]
  exact (congrArg (fun b => Finset.fold max b _ _) hbot).trans ((fold_max_bot _).trans (iSup_prod (f := fun x : Fin 738 × Fin 128 => p (ix2 x.1 x.2))))

/-- One over the spread of the attention values, the spread taken at least the small constant. -/
def scaleOf (mn mx : FVec Ideal S1x1 .f32) : FVec Ideal S1x1 .f32 :=
  divf (broadcast S1x1 (Scalar.ofBits .f32 0x3F800000#32)) (maximumf (subf mx mn) (broadcast S1x1 (Scalar.ofBits .f32 0x38D1B717#32)))

/-- The normalised attention values of one block. -/
def normed (p : FVec Ideal S738x128 .f32) (mn sc : FVec Ideal S1x1 .f32) : FVec Ideal S738x128 .f32 :=
  mulf (subf p (broadcastTo S738x128 mn broadcasts_S1x1_S738x128)) (broadcastTo S738x128 sc broadcasts_S1x1_S738x128)

/-- The steep sigmoid of the normalised values of one block. -/
def steep (n : FVec Ideal S738x128 .f32) : FVec Ideal S738x128 .f32 :=
  divf (broadcast S738x128 (Scalar.ofBits .f32 0x3F800000#32)) (addf (broadcast S738x128 (Scalar.ofBits .f32 0x3F800000#32))
    (exp (subf (broadcast S738x128 (Scalar.ofBits .f32 0x00000000#32)) (mulf (broadcast S738x128 (Scalar.ofBits .f32 0x41200000#32))
      (subf n (broadcast S738x128 (Scalar.ofBits .f32 0x3F000000#32)))))))

/-- The product of one block of the attention map with the same block of the feature map, over the block's pixels. -/
def gram (g f : FVec Ideal S738x128 .f32) : FVec Ideal S128x128 .f32 :=
  matmul dot_S738x128_S738x128_S128x128_0_0_1_1_n_n none (truncf .bf16 g bitsLt_bf16_f32) (truncf .bf16 f bitsLt_bf16_f32) (constant S128x128 .f32 0x00000000#32)

theorem scaleOf_at (mn mx : FVec Ideal S1x1 .f32) :
    scaleOf mn mx (ix2 (0 : Fin 1) (0 : Fin 1)) = Ideal.div 1 (max (mx (ix2 (0 : Fin 1) (0 : Fin 1)) - mn (ix2 (0 : Fin 1) (0 : Fin 1))) (Ideal.ofBits FTy.f32 0x38D1B717#32)) := by
  pointwise [scaleOf]

theorem steep_at (p : FVec Ideal S738x128 .f32) (mn sc : FVec Ideal S1x1 .f32) (r : Fin 738) (o : Fin 128) :
    steep (normed p mn sc) (ix2 r o) = Ideal.logistic (Ideal.ofBits FTy.f32 0x41200000#32
      * ((p (ix2 r o) - mn (ix2 (0 : Fin 1) (0 : Fin 1))) * sc (ix2 (0 : Fin 1) (0 : Fin 1)) - Ideal.ofBits FTy.f32 0x3F000000#32)) := by
  pointwise [steep, normed]
  simp only [Ideal.logistic, zero_sub]

theorem gram_at (g f : FVec Ideal S738x128 .f32) (i j : Fin 128) :
    gram g f (ix2 i j) = ∑ r : Fin 738, g (ix2 r i) * f (ix2 r j) := by
  pointwise [gram]

/-- Five blocks' least entries, and the least of all of them. -/
theorem inf_chunks (q : ℕ → EReal) :
    min (min (min (min (⨅ r : Fin 738, q (0 + r)) (⨅ r : Fin 738, q (738 + r))) (⨅ r : Fin 738, q (1476 + r))) (⨅ r : Fin 738, q (2214 + r)))
      (⨅ r : Fin 738, q (2952 + r)) = ⨅ n : Fin 3690, q n := by
  apply le_antisymm
  · refine le_iInf fun n => ?_
    have hn := n.isLt
    have key : ∀ (a : ℕ) (h : a ≤ n.val) (h' : n.val < a + 738), (⨅ r : Fin 738, q (a + r)) ≤ q n := fun a h h' =>
      (iInf_le (fun r : Fin 738 => q (a + r)) ⟨n.val - a, by omega⟩).trans (le_of_eq (congrArg q (by simp only; omega)))
    by_cases d0 : n.val < 738
    · exact (min_le_left _ _).trans ((min_le_left _ _).trans ((min_le_left _ _).trans ((min_le_left _ _).trans (key 0 (by omega) (by omega)))))
    by_cases d1 : n.val < 1476
    · exact (min_le_left _ _).trans ((min_le_left _ _).trans ((min_le_left _ _).trans ((min_le_right _ _).trans (key 738 (by omega) (by omega)))))
    by_cases d2 : n.val < 2214
    · exact (min_le_left _ _).trans ((min_le_left _ _).trans ((min_le_right _ _).trans (key 1476 (by omega) (by omega))))
    by_cases d3 : n.val < 2952
    · exact (min_le_left _ _).trans ((min_le_right _ _).trans (key 2214 (by omega) (by omega)))
    · exact (min_le_right _ _).trans (key 2952 (by omega) (by omega))
  · have key : ∀ (a : ℕ) (h : a + 738 ≤ 3690), (⨅ n : Fin 3690, q n) ≤ ⨅ r : Fin 738, q (a + r) := fun a h =>
      le_iInf fun r => iInf_le (fun n : Fin 3690 => q n) ⟨a + r.val, by have := r.isLt; omega⟩
    exact le_min (le_min (le_min (le_min (key 0 (by norm_num)) (key 738 (by norm_num))) (key 1476 (by norm_num))) (key 2214 (by norm_num))) (key 2952 (by norm_num))

/-- Five blocks' greatest entries, and the greatest of all of them. -/
theorem sup_chunks (q : ℕ → EReal) :
    max (max (max (max (⨆ r : Fin 738, q (0 + r)) (⨆ r : Fin 738, q (738 + r))) (⨆ r : Fin 738, q (1476 + r))) (⨆ r : Fin 738, q (2214 + r)))
      (⨆ r : Fin 738, q (2952 + r)) = ⨆ n : Fin 3690, q n := by
  apply le_antisymm
  · have key : ∀ (a : ℕ) (h : a + 738 ≤ 3690), (⨆ r : Fin 738, q (a + r)) ≤ ⨆ n : Fin 3690, q n := fun a h =>
      iSup_le fun r => le_iSup (fun n : Fin 3690 => q n) ⟨a + r.val, by have := r.isLt; omega⟩
    exact max_le (max_le (max_le (max_le (key 0 (by norm_num)) (key 738 (by norm_num))) (key 1476 (by norm_num))) (key 2214 (by norm_num))) (key 2952 (by norm_num))
  · refine iSup_le fun n => ?_
    have hn := n.isLt
    have key : ∀ (a : ℕ) (h : a ≤ n.val) (h' : n.val < a + 738), q n ≤ ⨆ r : Fin 738, q (a + r) := fun a h h' =>
      (le_of_eq (congrArg q (by simp only; omega))).trans (le_iSup (fun r : Fin 738 => q (a + r)) ⟨n.val - a, by omega⟩)
    by_cases d0 : n.val < 738
    · exact (key 0 (by omega) (by omega)).trans ((le_max_left _ _).trans ((le_max_left _ _).trans ((le_max_left _ _).trans (le_max_left _ _))))
    by_cases d1 : n.val < 1476
    · exact (key 738 (by omega) (by omega)).trans ((le_max_right _ _).trans ((le_max_left _ _).trans ((le_max_left _ _).trans (le_max_left _ _))))
    by_cases d2 : n.val < 2214
    · exact (key 1476 (by omega) (by omega)).trans ((le_max_right _ _).trans ((le_max_left _ _).trans (le_max_left _ _)))
    by_cases d3 : n.val < 2952
    · exact (key 2214 (by omega) (by omega)).trans ((le_max_right _ _).trans (le_max_left _ _))
    · exact (key 2952 (by omega) (by omega)).trans (le_max_right _ _)

/-- Five blocks' sums, and the sum of all. -/
theorem sum_chunks (q : ℕ → EReal) :
    ((((∑ r : Fin 738, q (0 + r)) + ∑ r : Fin 738, q (738 + r)) + ∑ r : Fin 738, q (1476 + r)) + ∑ r : Fin 738, q (2214 + r))
      + ∑ r : Fin 738, q (2952 + r) = ∑ n : Fin 3690, q n := by
  have h : ∀ a b : ℕ, ∑ n ∈ Finset.range (a + b), q n = ∑ n ∈ Finset.range a, q n + ∑ r : Fin b, q (a + r) := fun a b => by
    rw [Finset.sum_range_add, Finset.sum_range (fun r => q (a + r))]
  have h1 := h 0 738
  have h2 := h 738 738
  have h3 := h 1476 738
  have h4 := h 2214 738
  have h5 := h 2952 738
  simp only [Nat.reduceAdd, Finset.range_zero, Finset.sum_empty, zero_add] at h1 h2 h3 h4 h5
  rw [← Finset.sum_range (fun n => q n), h5, h4, h3, h2, h1]
  simp only [zero_add]

/-- Five products added up and scaled, the way the body stores them. -/
def scaled (a0 a1 a2 a3 a4 : FVec Ideal S128x128 .f32) : FVec Ideal S1x128x128 .f32 :=
  shapeCast S1x128x128 (mulf (addf (addf (addf (addf a0 a1) a2) a3) a4) (broadcast S128x128 (Named.named (F := Ideal) κ "inv_p" 0x398E155E#32))) shapeCasts_S128x128_S1x128x128

theorem named_inv : Named.named (F := Ideal) κ (φ := .f32) "inv_p" 0x398E155E#32 = (((3690 : ℝ)⁻¹ : ℝ) : EReal) := by
  rfl

theorem scaled_at (a0 a1 a2 a3 a4 : FVec Ideal S128x128 .f32) (i j : Fin 128) :
    scaled a0 a1 a2 a3 a4 (ix3 (0 : Fin 1) i j)
      = (a0 (ix2 i j) + a1 (ix2 i j) + a2 (ix2 i j) + a3 (ix2 i j) + a4 (ix2 i j)) * (((3690 : ℝ)⁻¹ : ℝ) : EReal) := by
  unfold scaled
  rw [named_inv]
  pointwise

theorem minimumf_at (a b : FVec Ideal S1x1 .f32) (x : S1x1.Idx) : minimumf a b x = min (a x) (b x) := rfl

theorem maximumf_at (a b : FVec Ideal S1x1 .f32) (x : S1x1.Idx) : maximumf a b x = max (a x) (b x) := rfl

/-- The least entry of five blocks. -/
def least (p0 p1 p2 p3 p4 : FVec Ideal S738x128 .f32) : FVec Ideal S1x1 .f32 :=
  minimumf (minimumf (minimumf (minimumf (chunkMin p0) (chunkMin p1)) (chunkMin p2)) (chunkMin p3)) (chunkMin p4)

/-- The greatest entry of five blocks. -/
def greatest (p0 p1 p2 p3 p4 : FVec Ideal S738x128 .f32) : FVec Ideal S1x1 .f32 :=
  maximumf (maximumf (maximumf (maximumf (chunkMax p0) (chunkMax p1)) (chunkMax p2)) (chunkMax p3)) (chunkMax p4)

theorem least_at (p0 p1 p2 p3 p4 : FVec Ideal S738x128 .f32) (Q : ℕ → Fin 128 → EReal)
    (hp0 : ∀ (r : Fin 738) (o : Fin 128), p0 (ix2 r o) = Q (0 + r) o)
    (hp1 : ∀ (r : Fin 738) (o : Fin 128), p1 (ix2 r o) = Q (738 + r) o)
    (hp2 : ∀ (r : Fin 738) (o : Fin 128), p2 (ix2 r o) = Q (1476 + r) o)
    (hp3 : ∀ (r : Fin 738) (o : Fin 128), p3 (ix2 r o) = Q (2214 + r) o)
    (hp4 : ∀ (r : Fin 738) (o : Fin 128), p4 (ix2 r o) = Q (2952 + r) o) :
    least p0 p1 p2 p3 p4 (ix2 (0 : Fin 1) (0 : Fin 1)) = lowest Q := by
  have h : least p0 p1 p2 p3 p4 (ix2 (0 : Fin 1) (0 : Fin 1)) = min (min (min (min (⨅ r : Fin 738, ⨅ o, Q (0 + r) o) (⨅ r : Fin 738, ⨅ o, Q (738 + r) o)) (⨅ r : Fin 738, ⨅ o, Q (1476 + r) o))
      (⨅ r : Fin 738, ⨅ o, Q (2214 + r) o)) (⨅ r : Fin 738, ⨅ o, Q (2952 + r) o) := by
    unfold least
    rw [minimumf_at, minimumf_at, minimumf_at, minimumf_at, chunkMin_at, chunkMin_at, chunkMin_at, chunkMin_at, chunkMin_at]
    simp only [hp0, hp1, hp2, hp3, hp4]
  rw [h]
  exact inf_chunks fun n => ⨅ o : Fin 128, Q n o

theorem greatest_at (p0 p1 p2 p3 p4 : FVec Ideal S738x128 .f32) (Q : ℕ → Fin 128 → EReal)
    (hp0 : ∀ (r : Fin 738) (o : Fin 128), p0 (ix2 r o) = Q (0 + r) o)
    (hp1 : ∀ (r : Fin 738) (o : Fin 128), p1 (ix2 r o) = Q (738 + r) o)
    (hp2 : ∀ (r : Fin 738) (o : Fin 128), p2 (ix2 r o) = Q (1476 + r) o)
    (hp3 : ∀ (r : Fin 738) (o : Fin 128), p3 (ix2 r o) = Q (2214 + r) o)
    (hp4 : ∀ (r : Fin 738) (o : Fin 128), p4 (ix2 r o) = Q (2952 + r) o) :
    greatest p0 p1 p2 p3 p4 (ix2 (0 : Fin 1) (0 : Fin 1)) = highest Q := by
  have h : greatest p0 p1 p2 p3 p4 (ix2 (0 : Fin 1) (0 : Fin 1)) = max (max (max (max (⨆ r : Fin 738, ⨆ o, Q (0 + r) o) (⨆ r : Fin 738, ⨆ o, Q (738 + r) o)) (⨆ r : Fin 738, ⨆ o, Q (1476 + r) o))
      (⨆ r : Fin 738, ⨆ o, Q (2214 + r) o)) (⨆ r : Fin 738, ⨆ o, Q (2952 + r) o) := by
    unfold greatest
    rw [maximumf_at, maximumf_at, maximumf_at, maximumf_at, chunkMax_at, chunkMax_at, chunkMax_at, chunkMax_at, chunkMax_at]
    simp only [hp0, hp1, hp2, hp3, hp4]
  rw [h]
  exact sup_chunks fun n => ⨆ o : Fin 128, Q n o

/-- One block's share of the pooled products. -/
theorem share_at (mn sc : FVec Ideal S1x1 .f32) (Q G : ℕ → Fin 128 → EReal) (hmn : mn (ix2 (0 : Fin 1) (0 : Fin 1)) = lowest Q)
    (hsc : sc (ix2 (0 : Fin 1) (0 : Fin 1)) = spread Q) (a : ℕ) (p f : FVec Ideal S738x128 .f32) (hp : ∀ (r : Fin 738) (o : Fin 128), p (ix2 r o) = Q (a + r) o)
    (hf : ∀ (r : Fin 738) (o : Fin 128), f (ix2 r o) = G (a + r) o) (i j : Fin 128) :
    gram (steep (normed p mn sc)) f (ix2 i j) = ∑ r : Fin 738, focus Q (a + r) i * G (a + r) j := by
  rw [gram_at]
  refine Finset.sum_congr rfl fun r _ => ?_
  rw [steep_at, hmn, hsc, hp, hf, focus]

/-- What the body stores, from the five blocks of the attention values and of the feature values, once the least value and
    the scale are known: the attention-pooled products over all pixels, times one over their number. -/
def stored (mn sc : FVec Ideal S1x1 .f32) (p0 p1 p2 p3 p4 f0 f1 f2 f3 f4 : FVec Ideal S738x128 .f32) : FVec Ideal S1x128x128 .f32 :=
  scaled (gram (steep (normed p0 mn sc)) f0) (gram (steep (normed p1 mn sc)) f1) (gram (steep (normed p2 mn sc)) f2) (gram (steep (normed p3 mn sc)) f3)
    (gram (steep (normed p4 mn sc)) f4)

theorem stored_at (mn sc : FVec Ideal S1x1 .f32) (p0 p1 p2 p3 p4 f0 f1 f2 f3 f4 : FVec Ideal S738x128 .f32) (Q G : ℕ → Fin 128 → EReal)
    (hmn : mn (ix2 (0 : Fin 1) (0 : Fin 1)) = lowest Q) (hsc : sc (ix2 (0 : Fin 1) (0 : Fin 1)) = spread Q)
    (hp0 : ∀ (r : Fin 738) (o : Fin 128), p0 (ix2 r o) = Q (0 + r) o)
    (hp1 : ∀ (r : Fin 738) (o : Fin 128), p1 (ix2 r o) = Q (738 + r) o)
    (hp2 : ∀ (r : Fin 738) (o : Fin 128), p2 (ix2 r o) = Q (1476 + r) o)
    (hp3 : ∀ (r : Fin 738) (o : Fin 128), p3 (ix2 r o) = Q (2214 + r) o)
    (hp4 : ∀ (r : Fin 738) (o : Fin 128), p4 (ix2 r o) = Q (2952 + r) o)
    (hf0 : ∀ (r : Fin 738) (o : Fin 128), f0 (ix2 r o) = G (0 + r) o)
    (hf1 : ∀ (r : Fin 738) (o : Fin 128), f1 (ix2 r o) = G (738 + r) o)
    (hf2 : ∀ (r : Fin 738) (o : Fin 128), f2 (ix2 r o) = G (1476 + r) o)
    (hf3 : ∀ (r : Fin 738) (o : Fin 128), f3 (ix2 r o) = G (2214 + r) o)
    (hf4 : ∀ (r : Fin 738) (o : Fin 128), f4 (ix2 r o) = G (2952 + r) o) (i j : Fin 128) :
    stored mn sc p0 p1 p2 p3 p4 f0 f1 f2 f3 f4 (ix3 (0 : Fin 1) i j) = attended Q G i j := by
  unfold stored
  rw [scaled_at, share_at mn sc Q G hmn hsc 0 p0 f0 hp0 hf0, share_at mn sc Q G hmn hsc 738 p1 f1 hp1 hf1, share_at mn sc Q G hmn hsc 1476 p2 f2 hp2 hf2,
    share_at mn sc Q G hmn hsc 2214 p3 f3 hp3 hf3, share_at mn sc Q G hmn hsc 2952 p4 f4 hp4 hf4, attended]
  exact congrArg (· * (((3690 : ℝ)⁻¹ : ℝ) : EReal)) (sum_chunks (fun n : ℕ => focus Q n i * G n j))

theorem scale_at (mn mx : FVec Ideal S1x1 .f32) (Q : ℕ → Fin 128 → EReal) (hmn : mn (ix2 (0 : Fin 1) (0 : Fin 1)) = lowest Q)
    (hmx : mx (ix2 (0 : Fin 1) (0 : Fin 1)) = highest Q) : scaleOf mn mx (ix2 (0 : Fin 1) (0 : Fin 1)) = spread Q := by
  rw [scaleOf_at, hmn, hmx, spread]

end Cert.KernelIdeal.Trunk

end
-- ==== Proof.Trunk.Point.lean ====
/- The whole body, read at a position of its output block. -/
module

public import proofs.«01_k».proof.Proof.Gen.KernelIdeal.Frame.RunA
public import proofs.«01_k».proof.Proof.Trunk.Conv
public import proofs.«01_k».proof.Proof.Trunk.Post
public import proofs.«01_k».proof.Proof.Trunk.Stage2a
public import proofs.«01_k».proof.Proof.Trunk.Stage2p
public import proofs.«01_k».proof.Proof.Trunk.Final

@[expose] public section

set_option maxRecDepth 16384

noncomputable section

namespace Cert.KernelIdeal.Trunk

open Idealize.ShloMosaic Idealize.ShloMosaic.TcCoe Idealize.SL.Sem
open Cert.KernelIdeal Cert.KernelIdeal.Gen Cert.Trunk

variable (c : Dev nD) (arg1 : Memref sig .tc .vmem S1x90x165x32 .f32) (harg1 : arg1.IsWhole) (arg2 : Memref sig .tc .vmem S9x32x64 .bf16) (harg2 : arg2.IsWhole) (arg3 : Memref sig .tc .vmem S1x64 .f32) (harg3 : arg3.IsWhole) (arg4 : Memref sig .tc .vmem S9x64x128 .bf16) (harg4 : arg4.IsWhole) (arg5 : Memref sig .tc .vmem S1x128 .f32) (harg5 : arg5.IsWhole) (arg6 : Memref sig .tc .vmem S9x128x128 .bf16) (harg6 : arg6.IsWhole) (arg7 : Memref sig .tc .vmem S1x128 .f32) (harg7 : arg7.IsWhole) (arg8 : Memref sig .tc .vmem S9x64x128 .bf16) (harg8 : arg8.IsWhole) (arg9 : Memref sig .tc .vmem S1x128 .f32) (harg9 : arg9.IsWhole) (arg10 : Memref sig .tc .vmem S9x128x128 .bf16) (harg10 : arg10.IsWhole) (arg11 : Memref sig .tc .vmem S1x128 .f32) (harg11 : arg11.IsWhole) (arg12 : Memref sig .tc .vmem S1x128x128 .f32) (harg12 : arg12.IsWhole) (arg13 : Memref sig .tc .vmem S47x84x64 .f32) (harg13 : arg13.IsWhole) (arg14 : Memref sig .tc .vmem S47x84x128 .f32) (harg14 : arg14.IsWhole) (arg15 : Memref sig .tc .vmem S47x84x128 .f32) (harg15 : arg15.IsWhole) (arg16 : Memref sig .tc .vmem S3690x128 .f32) (harg16 : arg16.IsWhole) (arg17 : Memref sig .tc .vmem S3690x128 .f32) (harg17 : arg17.IsWhole)
    (x0 : Vec Ideal S1x90x165x32 .f32) (x1 : Vec Ideal S9x32x64 .bf16) (x2 : Vec Ideal S1x64 .f32) (x3 : Vec Ideal S9x64x128 .bf16) (x4 : Vec Ideal S1x128 .f32) (x5 : Vec Ideal S9x128x128 .bf16) (x6 : Vec Ideal S1x128 .f32) (x7 : Vec Ideal S9x64x128 .bf16) (x8 : Vec Ideal S1x128 .f32) (x9 : Vec Ideal S9x128x128 .bf16) (x10 : Vec Ideal S1x128 .f32)

/-- What the body stores in its output block: the attention-pooled features of the block's image. -/
theorem out_at (i j : Fin 128) : k0_pay1 (F := Ideal) (kernelRun0_A.sl.v1882 (F := Ideal) c arg1 harg1 arg2 harg2 arg3 harg3 arg4 harg4 arg5 harg5 arg6 harg6 arg7 harg7 arg8 harg8 arg9 harg9 arg10 harg10 arg11 harg11 arg13 arg14 arg15 arg16 arg17 x0 x1 x2 x3 x4 x5 x6 x7 x8 x9 x10) (kernelRun0_A.sl.r_7 (F := Ideal) c arg1 harg1 arg2 harg2 arg3 harg3 arg8 harg8 arg9 harg9 arg10 harg10 arg11 harg11 arg13 arg15 arg17 x0 x1 x2 x7 x8 x9 x10) k0_pay150 (kernelRun0_A.sl.v1899 (F := Ideal) c arg1 harg1 arg2 harg2 arg3 harg3 arg4 harg4 arg5 harg5 arg6 harg6 arg7 harg7 arg13 arg14 arg16 x0 x1 x2 x3 x4 x5 x6) (ix3 (0 : Fin 1) i j)
    = attended (fun n o => max (mid2 (mid1 (img2 x0 x1 x2) x7 x8) x9 x10 (n / 82) (n % 82) o) 0) (fun n o => Ideal.logistic (mid2 (mid1 (img2 x0 x1 x2) x3 x4) x5 x6 (n / 82) (n % 82) o)) i j := by
  have hmn : (kernelRun0_A.sl.v1793 (F := Ideal) c arg1 harg1 arg2 harg2 arg3 harg3 arg8 harg8 arg9 harg9 arg10 harg10 arg11 harg11 arg13 arg15 arg17 x0 x1 x2 x7 x8 x9 x10) (ix2 (0 : Fin 1) (0 : Fin 1)) = lowest (fun n o => max (mid2 (mid1 (img2 x0 x1 x2) x7 x8) x9 x10 (n / 82) (n % 82) o) 0) := least_at _ _ _ _ _ _ (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 0 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 738 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 1476 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 2214 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 2952 _ r o)
  have hmx : (kernelRun0_A.sl.v1794 (F := Ideal) c arg1 harg1 arg2 harg2 arg3 harg3 arg8 harg8 arg9 harg9 arg10 harg10 arg11 harg11 arg13 arg15 arg17 x0 x1 x2 x7 x8 x9 x10) (ix2 (0 : Fin 1) (0 : Fin 1)) = highest (fun n o => max (mid2 (mid1 (img2 x0 x1 x2) x7 x8) x9 x10 (n / 82) (n % 82) o) 0) := greatest_at _ _ _ _ _ _ (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 0 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 738 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 1476 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 2214 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 2952 _ r o)
  have hsc : (kernelRun0_A.sl.v1799 (F := Ideal) c arg1 harg1 arg2 harg2 arg3 harg3 arg8 harg8 arg9 harg9 arg10 harg10 arg11 harg11 arg13 arg15 arg17 x0 x1 x2 x7 x8 x9 x10) (ix2 (0 : Fin 1) (0 : Fin 1)) = spread (fun n o => max (mid2 (mid1 (img2 x0 x1 x2) x7 x8) x9 x10 (n / 82) (n % 82) o) 0) := scale_at _ _ _ hmn hmx
  exact stored_at _ _ _ _ _ _ _ _ _ _ _ _ (fun n o => max (mid2 (mid1 (img2 x0 x1 x2) x7 x8) x9 x10 (n / 82) (n % 82) o) 0) (fun n o => Ideal.logistic (mid2 (mid1 (img2 x0 x1 x2) x3 x4) x5 x6 (n / 82) (n % 82) o)) hmn hsc (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 0 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 738 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 1476 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 2214 _ r o) (fun r o => flat_read _ _ (fun n o => max (mid2 (mid1 (img2 x0 x1 x2) x7 x8) x9 x10 (n / 82) (n % 82) o) 0) (canon4 c arg1 harg1 arg2 harg2 arg3 harg3 arg8 harg8 arg9 harg9 arg10 harg10 arg11 harg11 arg13 arg15 x0 x1 x2 x7 x8 x9 x10) 2952 _ r o) (fun r o => flat_read _ _ (fun n o => Ideal.logistic (mid2 (mid1 (img2 x0 x1 x2) x3 x4) x5 x6 (n / 82) (n % 82) o)) (canon3 c arg1 harg1 arg2 harg2 arg3 harg3 arg4 harg4 arg5 harg5 arg6 harg6 arg7 harg7 arg13 arg14 x0 x1 x2 x3 x4 x5 x6) 0 _ r o) (fun r o => flat_read _ _ (fun n o => Ideal.logistic (mid2 (mid1 (img2 x0 x1 x2) x3 x4) x5 x6 (n / 82) (n % 82) o)) (canon3 c arg1 harg1 arg2 harg2 arg3 harg3 arg4 harg4 arg5 harg5 arg6 harg6 arg7 harg7 arg13 arg14 x0 x1 x2 x3 x4 x5 x6) 738 _ r o) (fun r o => flat_read _ _ (fun n o => Ideal.logistic (mid2 (mid1 (img2 x0 x1 x2) x3 x4) x5 x6 (n / 82) (n % 82) o)) (canon3 c arg1 harg1 arg2 harg2 arg3 harg3 arg4 harg4 arg5 harg5 arg6 harg6 arg7 harg7 arg13 arg14 x0 x1 x2 x3 x4 x5 x6) 1476 _ r o) (fun r o => flat_read _ _ (fun n o => Ideal.logistic (mid2 (mid1 (img2 x0 x1 x2) x3 x4) x5 x6 (n / 82) (n % 82) o)) (canon3 c arg1 harg1 arg2 harg2 arg3 harg3 arg4 harg4 arg5 harg5 arg6 harg6 arg7 harg7 arg13 arg14 x0 x1 x2 x3 x4 x5 x6) 2214 _ r o) (fun r o => flat_read _ _ (fun n o => Ideal.logistic (mid2 (mid1 (img2 x0 x1 x2) x3 x4) x5 x6 (n / 82) (n % 82) o)) (canon3 c arg1 harg1 arg2 harg2 arg3 harg3 arg4 harg4 arg5 harg5 arg6 harg6 arg7 harg7 arg13 arg14 x0 x1 x2 x3 x4 x5 x6) 2952 _ r o) i j

/-- A store over the whole output block leaves exactly its payload. -/
theorem whole_store (p : Vec Ideal S1x128x128 .f32) (inb : ∀ a, (![0, 0, 0] : Fin 3 → ℕ) a + (![1, 128, 128] : Fin 3 → ℕ) a ≤ S1x128x128.size a) (y : S1x128x128.Idx) :
    View.canon (Val := Elt Ideal) (s := S1x128x128) (e := .f32) [⟨Rect.unit (s := S1x128x128) ![0, 0, 0] ![1, 128, 128] inb, p⟩] y = p y := by
  have e : ∀ x, (Rect.unit (s := S1x128x128) ![0, 0, 0] ![1, 128, 128] inb).emb x = x := fun x => by
    funext a
    apply Fin.ext
    refine (Rect.idx_unit_val (s := S1x128x128) ![0, 0, 0] ![1, 128, 128] inb x a).trans ?_
    fin_cases a <;> exact Nat.zero_add _
  refine canon_of_pieces p _ ?_ y ⟨_, List.mem_cons_self, ?_⟩
  · exact ⟨fun x => by rw [e], trivial⟩
  rw [Rect.mem_set_unit]
  intro a
  have h0 : (y 0).val < 1 := (y 0).isLt
  have h1 : (y 1).val < 128 := (y 1).isLt
  have h2 : (y 2).val < 128 := (y 2).isLt
  fin_cases a
  · exact ⟨Nat.zero_le _, by show (y 0).val < 0 + 1; omega⟩
  · exact ⟨Nat.zero_le _, by show (y 1).val < 0 + 128; omega⟩
  · exact ⟨Nat.zero_le _, by show (y 2).val < 0 + 128; omega⟩

/-- What a run of the body leaves in its output block. -/
theorem left_at (v : View sig .tc .vmem S1x128x128 .f32) (i0 : grid0.Coords) (i j : Fin 128) :
    View.read (Elt Ideal) v (v.writes (Elt Ideal) v.junk (kernelRun0_A (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).1) (ix3 (0 : Fin 1) i j)
    = attended (fun n o => max (mid2 (mid1 (img2 x0 x1 x2) x7 x8) x9 x10 (n / 82) (n % 82) o) 0) (fun n o => Ideal.logistic (mid2 (mid1 (img2 x0 x1 x2) x3 x4) x5 x6 (n / 82) (n % 82) o)) i j := by
  rw [View.read_writes_junk_apply_eq_canon]
  refine Eq.trans ?_ (out_at c arg1 harg1 arg2 harg2 arg3 harg3 arg4 harg4 arg5 harg5 arg6 harg6 arg7 harg7 arg8 harg8 arg9 harg9 arg10 harg10 arg11 harg11 arg13 arg14 arg15 arg16 arg17 x0 x1 x2 x3 x4 x5 x6 x7 x8 x9 x10 i j)
  exact whole_store _ _ _

end Cert.KernelIdeal.Trunk

end
-- ==== Proof.Trunk.Blocks.lean ====
/- The kernel's result array after its run: at batch `n`, the trunk of that image with the folded weights. -/
module

public import proofs.«01_k».proof.Proof.Gen.KernelIdeal.Value
public import proofs.«01_k».proof.Proof.Trunk.Point
public import Idealize.ShloMosaic.Lib.Pipeline.ValueKit
public import Idealize.ShloMosaic.Lib.Claim

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen Cert.Trunk

/-- A weight tensor and a normalisation factor, folded: tap, input channel, output channel. -/
def foldW {O K : ℕ} (w : FVec Ideal ⟨4, ![O, K, 3, 3]⟩ .f32) (g : FVec Ideal ⟨1, ![O]⟩ .f32) (t : Fin 9) (k : Fin K) (o : Fin O) : EReal :=
  w (ix4 o k (⟨t.val / 3, by omega⟩ : Fin 3) (⟨t.val % 3, by omega⟩ : Fin 3)) * g (ix1 o)

/-- A bias, a normalisation factor and a shift, folded. -/
def foldB {O : ℕ} (b g s : FVec Ideal ⟨1, ![O]⟩ .f32) (o : Fin O) : EReal := b (ix1 o) * g (ix1 o) + s (ix1 o)

variable (m : (ℓ : Loc nD τ sig) → Buf (Elt Ideal) ℓ) (ρ : Dev nD → PrngReg)

/-- Which block each operand hands a grid point. -/
theorem idx : ∀ t : Fin cfg0.N, t.val < 32 ∧ win0_0.index t = ![t.val, 0, 0, 0] ∧ win0_1.index t = ![0, 0, 0] ∧ win0_2.index t = ![0, 0] ∧ win0_3.index t = ![0, 0, 0] ∧ win0_4.index t = ![0, 0] ∧ win0_5.index t = ![0, 0, 0] ∧ win0_6.index t = ![0, 0] ∧ win0_7.index t = ![0, 0, 0] ∧ win0_8.index t = ![0, 0] ∧ win0_9.index t = ![0, 0, 0] ∧ win0_10.index t = ![0, 0] ∧ win0_11.index t = ![t.val, 0, 0] :=
  (by decide +kernel : ∀ t : Fin grid0.N, _)

theorem image_blk (c : Dev nD) (t : Fin cfg0.N) (r : Fin 90) (q : Fin 165) (k : Fin 32) :
    (iblk m c 0 t : Vec Ideal S1x90x165x32 .f32) (ix4 (0 : Fin 1) r q k) = m ((c : Thread nD τ).loc main_arg0) (ix4 (⟨t.val, (idx t).1⟩ : Fin 32) k r q) := by
  blk_simp [iblk, idx t]
  entry_read
  pointwise
  blk_ext [idx t]

theorem w1_blk (c : Dev nD) (t : Fin cfg0.N) (u : Fin 9) (k : Fin 32) (o : Fin 64) :
    (iblk m c 1 t : Vec Ideal S9x32x64 .bf16) (ix3 u k o) = foldW (m ((c : Thread nD τ).loc main_arg1)) (m ((c : Thread nD τ).loc main_arg3)) u k o := by
  blk_simp [iblk, idx t]
  entry_read
  pointwise [foldW]
  blk_point [idx t]

theorem b1_blk (c : Dev nD) (t : Fin cfg0.N) (o : Fin 64) :
    (iblk m c 2 t : Vec Ideal S1x64 .f32) (ix2 (0 : Fin 1) o) = foldB (m ((c : Thread nD τ).loc main_arg2)) (m ((c : Thread nD τ).loc main_arg3)) (m ((c : Thread nD τ).loc main_arg4)) o := by
  blk_simp [iblk, idx t]
  entry_read
  pointwise [foldB]
  blk_point [idx t]

theorem w3_blk (c : Dev nD) (t : Fin cfg0.N) (u : Fin 9) (k : Fin 64) (o : Fin 128) :
    (iblk m c 3 t : Vec Ideal S9x64x128 .bf16) (ix3 u k o) = foldW (m ((c : Thread nD τ).loc main_arg5)) (m ((c : Thread nD τ).loc main_arg7)) u k o := by
  blk_simp [iblk, idx t]
  entry_read
  pointwise [foldW]
  blk_point [idx t]

theorem b3_blk (c : Dev nD) (t : Fin cfg0.N) (o : Fin 128) :
    (iblk m c 4 t : Vec Ideal S1x128 .f32) (ix2 (0 : Fin 1) o) = foldB (m ((c : Thread nD τ).loc main_arg6)) (m ((c : Thread nD τ).loc main_arg7)) (m ((c : Thread nD τ).loc main_arg8)) o := by
  blk_simp [iblk, idx t]
  entry_read
  pointwise [foldB]
  blk_point [idx t]

theorem w5_blk (c : Dev nD) (t : Fin cfg0.N) (u : Fin 9) (k : Fin 128) (o : Fin 128) :
    (iblk m c 5 t : Vec Ideal S9x128x128 .bf16) (ix3 u k o) = foldW (m ((c : Thread nD τ).loc main_arg9)) (m ((c : Thread nD τ).loc main_arg11)) u k o := by
  blk_simp [iblk, idx t]
  entry_read
  pointwise [foldW]
  blk_point [idx t]

theorem b5_blk (c : Dev nD) (t : Fin cfg0.N) (o : Fin 128) :
    (iblk m c 6 t : Vec Ideal S1x128 .f32) (ix2 (0 : Fin 1) o) = foldB (m ((c : Thread nD τ).loc main_arg10)) (m ((c : Thread nD τ).loc main_arg11)) (m ((c : Thread nD τ).loc main_arg12)) o := by
  blk_simp [iblk, idx t]
  entry_read
  pointwise [foldB]
  blk_point [idx t]

theorem w7_blk (c : Dev nD) (t : Fin cfg0.N) (u : Fin 9) (k : Fin 64) (o : Fin 128) :
    (iblk m c 7 t : Vec Ideal S9x64x128 .bf16) (ix3 u k o) = foldW (m ((c : Thread nD τ).loc main_arg13)) (m ((c : Thread nD τ).loc main_arg15)) u k o := by
  blk_simp [iblk, idx t]
  entry_read
  pointwise [foldW]
  blk_point [idx t]

theorem b7_blk (c : Dev nD) (t : Fin cfg0.N) (o : Fin 128) :
    (iblk m c 8 t : Vec Ideal S1x128 .f32) (ix2 (0 : Fin 1) o) = foldB (m ((c : Thread nD τ).loc main_arg14)) (m ((c : Thread nD τ).loc main_arg15)) (m ((c : Thread nD τ).loc main_arg16)) o := by
  blk_simp [iblk, idx t]
  entry_read
  pointwise [foldB]
  blk_point [idx t]

theorem w9_blk (c : Dev nD) (t : Fin cfg0.N) (u : Fin 9) (k : Fin 128) (o : Fin 128) :
    (iblk m c 9 t : Vec Ideal S9x128x128 .bf16) (ix3 u k o) = foldW (m ((c : Thread nD τ).loc main_arg17)) (m ((c : Thread nD τ).loc main_arg19)) u k o := by
  blk_simp [iblk, idx t]
  entry_read
  pointwise [foldW]
  blk_point [idx t]

theorem b9_blk (c : Dev nD) (t : Fin cfg0.N) (o : Fin 128) :
    (iblk m c 10 t : Vec Ideal S1x128 .f32) (ix2 (0 : Fin 1) o) = foldB (m ((c : Thread nD τ).loc main_arg18)) (m ((c : Thread nD τ).loc main_arg19)) (m ((c : Thread nD τ).loc main_arg20)) o := by
  blk_simp [iblk, idx t]
  entry_read
  pointwise [foldB]
  blk_point [idx t]

end Cert.KernelIdeal.Trunk

end
-- ==== Proof.Trunk.Result.lean ====
/- The kernel's result array after its run: at batch `n`, the trunk of that image with the folded weights. -/
module

public import proofs.«01_k».proof.Proof.Gen.KernelIdeal.Value
public import proofs.«01_k».proof.Proof.Trunk.Blocks
public import Idealize.ShloMosaic.Lib.Pipeline.ValueKit
public import Idealize.ShloMosaic.Lib.Claim

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen Cert.Trunk

/-- The kernel's result on its arguments: batch `n`, attention channel `i`, feature channel `j`. -/
def result (x : FVec Ideal ⟨4, ![32, 32, 90, 165]⟩ .f32) (c2w : FVec Ideal ⟨4, ![64, 32, 3, 3]⟩ .f32) (c2b : FVec Ideal ⟨1, ![64]⟩ .f32) (c2g : FVec Ideal ⟨1, ![64]⟩ .f32) (c2s : FVec Ideal ⟨1, ![64]⟩ .f32) (a1w : FVec Ideal ⟨4, ![128, 64, 3, 3]⟩ .f32) (a1b : FVec Ideal ⟨1, ![128]⟩ .f32) (a1g : FVec Ideal ⟨1, ![128]⟩ .f32) (a1s : FVec Ideal ⟨1, ![128]⟩ .f32) (a2w : FVec Ideal ⟨4, ![128, 128, 3, 3]⟩ .f32) (a2b : FVec Ideal ⟨1, ![128]⟩ .f32) (a2g : FVec Ideal ⟨1, ![128]⟩ .f32) (a2s : FVec Ideal ⟨1, ![128]⟩ .f32) (p1w : FVec Ideal ⟨4, ![128, 64, 3, 3]⟩ .f32) (p1b : FVec Ideal ⟨1, ![128]⟩ .f32) (p1g : FVec Ideal ⟨1, ![128]⟩ .f32) (p1s : FVec Ideal ⟨1, ![128]⟩ .f32) (p2w : FVec Ideal ⟨4, ![128, 128, 3, 3]⟩ .f32) (p2b : FVec Ideal ⟨1, ![128]⟩ .f32) (p2g : FVec Ideal ⟨1, ![128]⟩ .f32) (p2s : FVec Ideal ⟨1, ![128]⟩ .f32) (n : Fin 32) (i j : Fin 128) : EReal :=
  trunk (image fun (r : Fin 90) (q : Fin 165) (k : Fin 32) => x (ix4 n k r q)) (taps (foldW c2w c2g)) (foldB c2b c2g c2s) (taps (foldW a1w a1g)) (foldB a1b a1g a1s) (taps (foldW a2w a2g)) (foldB a2b a2g a2s) (taps (foldW p1w p1g)) (foldB p1b p1g p1s) (taps (foldW p2w p2g)) (foldB p2b p2g p2s) i j

variable (m : (ℓ : Loc nD τ sig) → Buf (Elt Ideal) ℓ) (ρ : Dev nD → PrngReg)

/-- What the body leaves in the output block at grid point `t`. -/
theorem point (c : Dev nD) (t : Fin cfg0.N) (i j : Fin 128) :
    outsAt0 m c t (ix3 (0 : Fin 1) i j) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (⟨t.val, (idx t).1⟩ : Fin 32) i j := by
  have key : ∀ (f f' : Fin 90 → Fin 165 → Fin 32 → EReal) (h : ∀ r q k, f r q k = f' r q k), image f = image f' := fun f f' h => congrArg image (funext fun r => funext fun q => funext fun k => h r q k)
  refine (left_at c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) VO0_11 (grid0.coords t) i j).trans ?_
  have e0 := key _ _ (image_blk m c t)
  have e1 := congrArg taps (funext fun u => funext fun k => funext fun o => w1_blk m c t u k o)
  have e2 := funext fun o => b1_blk m c t o
  have e3 := congrArg taps (funext fun u => funext fun k => funext fun o => w3_blk m c t u k o)
  have e4 := funext fun o => b3_blk m c t o
  have e5 := congrArg taps (funext fun u => funext fun k => funext fun o => w5_blk m c t u k o)
  have e6 := funext fun o => b5_blk m c t o
  have e7 := congrArg taps (funext fun u => funext fun k => funext fun o => w7_blk m c t u k o)
  have e8 := funext fun o => b7_blk m c t o
  have e9 := congrArg taps (funext fun u => funext fun k => funext fun o => w9_blk m c t u k o)
  have e10 := funext fun o => b9_blk m c t o
  unfold img2 mid1 mid2 result trunk
  rw [e0, e1, e2, e3, e4, e5, e6, e7, e8, e9, e10]
  rfl

/-- The result array after the run. -/
theorem final (c : Dev nD) : (dats m 0 c).arrAt 11 cfg0.N
    = (fun y => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (y 0) (y 1) (y 2) : FVec Ideal S32x128x128 .f32) := by
  refine (dats m 0 c).arrAt_eq_of_covers 11 _ (by decide +kernel) fun t _ y => ?_
  have h0 : (((cfg0.win 11).blk t).view.emb y 0 : Fin 32) = (⟨t.val, (idx t).1⟩ : Fin 32) := by
    apply Fin.ext
    blk_simp [idx t]
  have h1 : (((cfg0.win 11).blk t).view.emb y 1 : Fin 128) = y 1 := by
    apply Fin.ext
    blk_simp [idx t]
  have h2 : (((cfg0.win 11).blk t).view.emb y 2 : Fin 128) = y 2 := by
    apply Fin.ext
    blk_simp [idx t]
  blk_simp
  rw [after0_11]
  have hy : (y : S1x128x128.Idx) = ix3 0 (y 1) (y 2) := by
    funext a
    match a with
    | 0 => exact Subsingleton.elim (α := Fin 1) _ _
    | 1 => rfl
    | 2 => rfl
  refine (congrArg (outsAt0 m c t) hy).trans ((point m c t (y 1) (y 2)).trans ?_)
  exact (congr (congr (congrArg (result _ _ _ _ _ _ _ _ _ _ _ _ _ _ _ _ _ _ _ _ _) h0) h1) h2).symm

end Cert.KernelIdeal.Trunk

end
-- ==== Proof.Trunk.Plain.lean ====
/- The trunk's mathematics with the normalisations left where they stand, and why folding them into the weights changes
   nothing on real numbers: `(∑ x·w + b)·g + s = ∑ x·(w·g) + (b·g + s)`. -/
module

public import proofs.«01_k».proof.Proof.Trunk.Spec
public import Idealize.ShloMosaic.PureOps.Ideal.Laws
public import Mathlib.Tactic.NormNum
public import Mathlib.Tactic.Ring
public import Mathlib.Tactic.Choose
public import Mathlib.Tactic.Linarith

@[expose] public section

noncomputable section

namespace Cert.Trunk

open Idealize.ShloMosaic

/-- A convolution layer with its normalisation, before its activation. -/
def plain {K N : ℕ} (H W : ℕ) (x : ℕ → ℕ → Fin K → EReal) (w : ℕ → Fin K → Fin N → EReal) (b g s : Fin N → EReal) (r c : ℕ) (o : Fin N) : EReal :=
  (conv9 (bordered H W x) (fun t k => w t k o) r c + b o) * g o + s o

/-- A layer followed by the maximum with zero. -/
def reluPlain {K N : ℕ} (H W : ℕ) (x : ℕ → ℕ → Fin K → EReal) (w : ℕ → Fin K → Fin N → EReal) (b g s : Fin N → EReal) (r c : ℕ) (o : Fin N) : EReal :=
  max (plain H W x w b g s r c o) 0

/-- A layer followed by the maximum with zero and the 2×2 maximum. -/
def poolPlain {K N : ℕ} (H W : ℕ) (x : ℕ → ℕ → Fin K → EReal) (w : ℕ → Fin K → Fin N → EReal) (b g s : Fin N → EReal) (r c : ℕ) (o : Fin N) : EReal :=
  pool2 (fun r c => reluPlain H W x w b g s r c o) r c

/-- Being a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.max {x y : EReal} (hx : IsReal x) (hy : IsReal y) : IsReal (Max.max x y) := by
  rcases le_total x y with h | h
  · rwa [max_eq_right h]
  · rwa [max_eq_left h]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem bordered_real {α : Type} {H W : ℕ} {x : ℕ → ℕ → α → EReal} (hx : ∀ r c k, IsReal (x r c k)) (r c : ℕ) (k : α) : IsReal (bordered H W x r c k) := by
  unfold bordered
  split
  · exact hx _ _ _
  · exact isReal_zero

/-- One of the nine products, on real numbers. -/
theorem tap_coe {K : ℕ} (p : ℕ → ℕ → Fin K → ℝ) (v : Fin K → ℝ) (i j r c : ℕ) :
    tap (fun r c k => (p r c k : EReal)) (fun k => (v k : EReal)) i j r c = ((∑ k, p (r + i) (c + j) k * v k : ℝ) : EReal) := by
  rw [coe_sum]
  simp only [tap, EReal.coe_mul]

theorem tap_scaled {K : ℕ} (p : ℕ → ℕ → Fin K → ℝ) (v : Fin K → ℝ) (g : ℝ) (i j r c : ℕ) :
    tap (fun r c k => (p r c k : EReal)) (fun k => (v k : EReal) * (g : EReal)) i j r c = (((∑ k, p (r + i) (c + j) k * v k) * g : ℝ) : EReal) := by
  have h : (fun k => (v k : EReal) * (g : EReal)) = fun k => ((v k * g : ℝ) : EReal) := by
    funext k; rw [EReal.coe_mul]
  rw [h, tap_coe p (fun k => v k * g), Finset.sum_mul]
  simp only [mul_assoc]

/-- Folding a normalisation into the weights and the bias changes nothing, on real numbers. -/
theorem plain_eq {K N : ℕ} (H W : ℕ) (x : ℕ → ℕ → Fin K → EReal) (w : ℕ → Fin K → Fin N → EReal) (b g s : Fin N → EReal)
    (hx : ∀ r c k, IsReal (x r c k)) (hw : ∀ t k o, IsReal (w t k o)) (hb : ∀ o, IsReal (b o)) (hg : ∀ o, IsReal (g o)) (hs : ∀ o, IsReal (s o)) (r c : ℕ) (o : Fin N) :
    plain H W x w b g s r c o = layer H W x (fun t k o => w t k o * g o) (fun o => b o * g o + s o) r c o := by
  have hp := bordered_real (H := H) (W := W) hx
  unfold plain layer
  generalize bordered H W x = P at hp ⊢
  choose p hp using hp
  choose v hv using fun t k => hw t k o
  obtain ⟨b', hb⟩ := hb o
  obtain ⟨g', hg⟩ := hg o
  obtain ⟨s', hs⟩ := hs o
  have hP : P = fun r c k => (p r c k : EReal) := by funext r c k; exact hp r c k
  subst hP
  simp only [hv, hb, hg, hs, conv9, tap_coe, tap_scaled]
  simp only [← EReal.coe_add, ← EReal.coe_mul]
  congr 1
  ring

/-- A layer of real numbers is real. -/
theorem plain_real {K N : ℕ} (H W : ℕ) (x : ℕ → ℕ → Fin K → EReal) (w : ℕ → Fin K → Fin N → EReal) (b g s : Fin N → EReal)
    (hx : ∀ r c k, IsReal (x r c k)) (hw : ∀ t k o, IsReal (w t k o)) (hb : ∀ o, IsReal (b o)) (hg : ∀ o, IsReal (g o)) (hs : ∀ o, IsReal (s o)) (r c : ℕ) (o : Fin N) :
    IsReal (plain H W x w b g s r c o) := by
  have hp := bordered_real (H := H) (W := W) hx
  unfold plain
  generalize bordered H W x = P at hp ⊢
  choose p hp using hp
  choose v hv using fun t k => hw t k o
  have hP : P = fun r c k => (p r c k : EReal) := by funext r c k; exact hp r c k
  subst hP
  refine IsReal.add (IsReal.mul (IsReal.add ?_ (hb o)) (hg o)) (hs o)
  simp only [hv, conv9, tap_coe]
  simp only [← EReal.coe_add]
  exact ⟨_, rfl⟩

theorem reluPlain_real {K N : ℕ} (H W : ℕ) (x : ℕ → ℕ → Fin K → EReal) (w : ℕ → Fin K → Fin N → EReal) (b g s : Fin N → EReal)
    (hx : ∀ r c k, IsReal (x r c k)) (hw : ∀ t k o, IsReal (w t k o)) (hb : ∀ o, IsReal (b o)) (hg : ∀ o, IsReal (g o)) (hs : ∀ o, IsReal (s o)) (r c : ℕ) (o : Fin N) :
    IsReal (reluPlain H W x w b g s r c o) :=
  (plain_real H W x w b g s hx hw hb hg hs r c o).max isReal_zero

theorem poolPlain_real {K N : ℕ} (H W : ℕ) (x : ℕ → ℕ → Fin K → EReal) (w : ℕ → Fin K → Fin N → EReal) (b g s : Fin N → EReal)
    (hx : ∀ r c k, IsReal (x r c k)) (hw : ∀ t k o, IsReal (w t k o)) (hb : ∀ o, IsReal (b o)) (hg : ∀ o, IsReal (g o)) (hs : ∀ o, IsReal (s o)) (r c : ℕ) (o : Fin N) :
    IsReal (poolPlain H W x w b g s r c o) := by
  have h := fun r c => reluPlain_real H W x w b g s hx hw hb hg hs r c o
  exact ((h _ _).max (h _ _)).max ((h _ _).max (h _ _))

theorem reluPlain_eq {K N : ℕ} (H W : ℕ) (x : ℕ → ℕ → Fin K → EReal) (w : ℕ → Fin K → Fin N → EReal) (b g s : Fin N → EReal)
    (hx : ∀ r c k, IsReal (x r c k)) (hw : ∀ t k o, IsReal (w t k o)) (hb : ∀ o, IsReal (b o)) (hg : ∀ o, IsReal (g o)) (hs : ∀ o, IsReal (s o)) :
    reluPlain H W x w b g s = reluLayer H W x (fun t k o => w t k o * g o) (fun o => b o * g o + s o) := by
  funext r c o
  unfold reluPlain reluLayer
  rw [plain_eq H W x w b g s hx hw hb hg hs]

theorem poolPlain_eq {K N : ℕ} (H W : ℕ) (x : ℕ → ℕ → Fin K → EReal) (w : ℕ → Fin K → Fin N → EReal) (b g s : Fin N → EReal)
    (hx : ∀ r c k, IsReal (x r c k)) (hw : ∀ t k o, IsReal (w t k o)) (hb : ∀ o, IsReal (b o)) (hg : ∀ o, IsReal (g o)) (hs : ∀ o, IsReal (s o)) :
    poolPlain H W x w b g s = poolLayer H W x (fun t k o => w t k o * g o) (fun o => b o * g o + s o) := by
  funext r c o
  unfold poolPlain poolLayer
  rw [reluPlain_eq H W x w b g s hx hw hb hg hs]

end Cert.Trunk

end
-- ==== Proof.Trunk.PlainPool.lean ====
/- The attention-pooled features with the normalisation written as a difference and a quotient, and the agreement with the
   form that multiplies by one over the spread, on real attention values; the whole trunk on real arguments. -/
module

public import proofs.«01_k».proof.Proof.Trunk.Plain
public import Idealize.ShloMosaic.Lib.IdealHost
public import Mathlib.Order.ConditionallyCompleteLattice.Finset

@[expose] public section

noncomputable section

namespace Cert.Trunk

open Idealize.ShloMosaic

/-- The attention map: the attention values less their least one, over their then greatest one (taken at least the small
    constant), through the steep sigmoid. -/
def sharpened (Q : ℕ → Fin 128 → EReal) (n : ℕ) (o : Fin 128) : EReal :=
  Ideal.logistic (Ideal.ofBits FTy.f32 0x41200000#32 * (Ideal.div (Q n o - lowest Q)
    (max (highest fun n o => Q n o - lowest Q) (Ideal.ofBits FTy.f32 0x38D1B717#32)) - Ideal.ofBits FTy.f32 0x3F000000#32))

/-- The attention-pooled features, the sum over the pixels divided by their number. -/
def pooledPlain (Q G : ℕ → Fin 128 → EReal) (i j : Fin 128) : EReal :=
  Ideal.div (∑ n : Fin 3690, sharpened Q n i * G n j) (Ideal.ofBits FTy.f32 0x4566A000#32)

theorem pixels_bits : Ideal.ofBits FTy.f32 0x4566A000#32 = ((3690 : ℝ) : EReal) := by
  simp [Ideal.ofBits, Ideal.ieee, -EReal.coe_mul]
  norm_num

theorem small_bits : ∃ e : ℝ, 0 < e ∧ Ideal.ofBits FTy.f32 0x38D1B717#32 = (e : EReal) := by
  refine ⟨_, ?_, by simp [Ideal.ofBits, Ideal.ieee]; rfl⟩
  positivity

theorem lowest_attained (Q : ℕ → Fin 128 → EReal) : ∃ n : Fin 3690, ∃ o, lowest Q = Q n o := by
  obtain ⟨n, hn⟩ := exists_eq_ciInf_of_finite (f := fun n : Fin 3690 => ⨅ o : Fin 128, Q n o)
  obtain ⟨o, ho⟩ := exists_eq_ciInf_of_finite (f := fun o : Fin 128 => Q n o)
  exact ⟨n, o, hn.symm.trans ho.symm⟩

theorem highest_attained (Q : ℕ → Fin 128 → EReal) : ∃ n : Fin 3690, ∃ o, highest Q = Q n o := by
  obtain ⟨n, hn⟩ := exists_eq_ciSup_of_finite (f := fun n : Fin 3690 => ⨆ o : Fin 128, Q n o)
  obtain ⟨o, ho⟩ := exists_eq_ciSup_of_finite (f := fun o : Fin 128 => Q n o)
  exact ⟨n, o, hn.symm.trans ho.symm⟩

theorem le_highest (Q : ℕ → Fin 128 → EReal) (n : Fin 3690) (o : Fin 128) : Q n o ≤ highest Q :=
  le_iSup_of_le n (le_iSup_of_le o le_rfl)

/-- The greatest of the differences is the difference of the greatest. -/
theorem highest_sub (Q : ℕ → Fin 128 → EReal) (l : EReal) : (highest fun n o => Q n o - l) = highest Q - l := by
  refine le_antisymm (iSup_le fun n => iSup_le fun o => EReal.sub_le_sub (le_highest Q n o) le_rfl) ?_
  obtain ⟨n, o, h⟩ := highest_attained Q
  rw [h]
  exact le_highest (fun n o => Q n o - l) n o

theorem sharpened_eq (Q : ℕ → Fin 128 → EReal) (hQ : ∀ n o, IsReal (Q n o)) (n : ℕ) (o : Fin 128) : sharpened Q n o = focus Q n o := by
  unfold sharpened focus spread
  rw [highest_sub]
  obtain ⟨n0, o0, hl⟩ := lowest_attained Q
  obtain ⟨n1, o1, hh⟩ := highest_attained Q
  obtain ⟨l, hl'⟩ := hQ n0 o0
  obtain ⟨u, hu'⟩ := hQ n1 o1
  obtain ⟨e, he, he'⟩ := small_bits
  have hy : max (highest Q - lowest Q) (Ideal.ofBits FTy.f32 0x38D1B717#32) = ((max (u - l) e : ℝ) : EReal) := by
    rw [hl, hh, hl', hu', he', ← EReal.coe_sub]
    exact (EReal.coe_strictMono.monotone.map_max).symm
  have hne : max (u - l) e ≠ 0 := ne_of_gt (lt_max_of_lt_right he)
  rw [hy, Ideal.div_coe hne, Ideal.div_coe hne, one_mul]

theorem pooledPlain_eq (Q G : ℕ → Fin 128 → EReal) (hQ : ∀ n o, IsReal (Q n o)) (i j : Fin 128) : pooledPlain Q G i j = attended Q G i j := by
  unfold pooledPlain attended
  rw [pixels_bits, Ideal.div_coe (by norm_num), one_div]
  simp only [sharpened_eq Q hQ]

/-- The trunk with its normalisations where they stand. -/
def trunkPlain (X : ℕ → ℕ → Fin 32 → EReal) (w : ℕ → Fin 32 → Fin 64 → EReal) (b g s : Fin 64 → EReal)
    (wa1 : ℕ → Fin 64 → Fin 128 → EReal) (ba1 ga1 sa1 : Fin 128 → EReal) (wa2 : ℕ → Fin 128 → Fin 128 → EReal) (ba2 ga2 sa2 : Fin 128 → EReal)
    (wp1 : ℕ → Fin 64 → Fin 128 → EReal) (bp1 gp1 sp1 : Fin 128 → EReal) (wp2 : ℕ → Fin 128 → Fin 128 → EReal) (bp2 gp2 sp2 : Fin 128 → EReal)
    (i j : Fin 128) : EReal :=
  pooledPlain (fun n o => reluPlain 45 82 (reluPlain 45 82 (poolPlain 90 165 X w b g s) wp1 bp1 gp1 sp1) wp2 bp2 gp2 sp2 (n / 82) (n % 82) o)
    (fun n o => Ideal.logistic (plain 45 82 (reluPlain 45 82 (poolPlain 90 165 X w b g s) wa1 ba1 ga1 sa1) wa2 ba2 ga2 sa2 (n / 82) (n % 82) o)) i j

/-- On real arguments the trunk with its normalisations folded into the weights is the trunk with them where they stand. -/
theorem trunkPlain_eq (X : ℕ → ℕ → Fin 32 → EReal) (w : ℕ → Fin 32 → Fin 64 → EReal) (b g s : Fin 64 → EReal)
    (wa1 : ℕ → Fin 64 → Fin 128 → EReal) (ba1 ga1 sa1 : Fin 128 → EReal) (wa2 : ℕ → Fin 128 → Fin 128 → EReal) (ba2 ga2 sa2 : Fin 128 → EReal)
    (wp1 : ℕ → Fin 64 → Fin 128 → EReal) (bp1 gp1 sp1 : Fin 128 → EReal) (wp2 : ℕ → Fin 128 → Fin 128 → EReal) (bp2 gp2 sp2 : Fin 128 → EReal)
    (hX : ∀ r c k, IsReal (X r c k))
    (hw : ∀ t k o, IsReal (w t k o)) (hb : ∀ o, IsReal (b o)) (hg : ∀ o, IsReal (g o)) (hs : ∀ o, IsReal (s o))
    (hwa1 : ∀ t k o, IsReal (wa1 t k o)) (hba1 : ∀ o, IsReal (ba1 o)) (hga1 : ∀ o, IsReal (ga1 o)) (hsa1 : ∀ o, IsReal (sa1 o))
    (hwa2 : ∀ t k o, IsReal (wa2 t k o)) (hba2 : ∀ o, IsReal (ba2 o)) (hga2 : ∀ o, IsReal (ga2 o)) (hsa2 : ∀ o, IsReal (sa2 o))
    (hwp1 : ∀ t k o, IsReal (wp1 t k o)) (hbp1 : ∀ o, IsReal (bp1 o)) (hgp1 : ∀ o, IsReal (gp1 o)) (hsp1 : ∀ o, IsReal (sp1 o))
    (hwp2 : ∀ t k o, IsReal (wp2 t k o)) (hbp2 : ∀ o, IsReal (bp2 o)) (hgp2 : ∀ o, IsReal (gp2 o)) (hsp2 : ∀ o, IsReal (sp2 o)) (i j : Fin 128) :
    trunkPlain X w b g s wa1 ba1 ga1 sa1 wa2 ba2 ga2 sa2 wp1 bp1 gp1 sp1 wp2 bp2 gp2 sp2 i j
      = trunk X (fun t k o => w t k o * g o) (fun o => b o * g o + s o) (fun t k o => wa1 t k o * ga1 o) (fun o => ba1 o * ga1 o + sa1 o)
          (fun t k o => wa2 t k o * ga2 o) (fun o => ba2 o * ga2 o + sa2 o) (fun t k o => wp1 t k o * gp1 o) (fun o => bp1 o * gp1 o + sp1 o)
          (fun t k o => wp2 t k o * gp2 o) (fun o => bp2 o * gp2 o + sp2 o) i j := by
  have r2 := poolPlain_real 90 165 X w b g s hX hw hb hg hs
  have ra := reluPlain_real 45 82 _ wa1 ba1 ga1 sa1 r2 hwa1 hba1 hga1 hsa1
  have rp := reluPlain_real 45 82 _ wp1 bp1 gp1 sp1 r2 hwp1 hbp1 hgp1 hsp1
  have rq := reluPlain_real 45 82 _ wp2 bp2 gp2 sp2 rp hwp2 hbp2 hgp2 hsp2
  unfold trunkPlain trunk
  rw [pooledPlain_eq _ _ (fun n o => rq _ _ _), reluPlain_eq 45 82 _ wp2 bp2 gp2 sp2 rp hwp2 hbp2 hgp2 hsp2,
    reluPlain_eq 45 82 _ wp1 bp1 gp1 sp1 r2 hwp1 hbp1 hgp1 hsp1]
  simp only [plain_eq 45 82 _ wa2 ba2 ga2 sa2 ra hwa2 hba2 hga2 hsa2]
  rw [reluPlain_eq 45 82 _ wa1 ba1 ga1 sa1 r2 hwa1 hba1 hga1 hsa1, poolPlain_eq 90 165 X w b g s hX hw hb hg hs]

end Cert.Trunk

end
-- ==== Proof.Trunk.RefA.lean ====
/- The reference's operations read at an index: the border of zeros, the nine products, the normalisation, the 2×2 maximum. -/
module

public import proofs.«01_k».proof.Proof.Gen.ReferenceIdeal.Run
public import proofs.«01_k».proof.Proof.Trunk.PlainPool
public import Idealize.ShloMosaic.Lib.Pointwise

@[expose] public section

set_option maxRecDepth 16384

noncomputable section

namespace Cert.ReferenceIdeal.Trunk

open Idealize.ShloMosaic Idealize.ShloMosaic.TcCoe Idealize.SL.Sem
open Cert.ReferenceIdeal Cert.ReferenceIdeal.Gen Cert.ReferenceIdeal.Value Cert.Trunk

/-- The weights of a layer by tap, input channel and output channel. -/
def rawW {O K : ℕ} (w : FVec Ideal ⟨4, ![O, K, 3, 3]⟩ .f32) (t : Fin 9) (k : Fin K) (o : Fin O) : EReal :=
  w (ix4 o k (⟨t.val / 3, by omega⟩ : Fin 3) (⟨t.val % 3, by omega⟩ : Fin 3))

/-- One image of a batch by row, column and channel. -/
def plane {B K H W : ℕ} (x : FVec Ideal ⟨4, ![B, K, H, W]⟩ .f32) (n : Fin B) : ℕ → ℕ → Fin K → EReal :=
  image fun (r : Fin H) (c : Fin W) (k : Fin K) => x (ix4 n k r c)

theorem tap_at {K N H W : ℕ} (f : Fin H → Fin W → Fin K → EReal) (g : Fin 9 → Fin K → Fin N → EReal) (t i j r c : ℕ) (o : Fin N)
    (ht : t < 9) (hr : i + r < H) (hc : j + c < W) :
    tap (image f) (fun k => taps g t k o) i j r c = ∑ k, f ⟨i + r, hr⟩ ⟨j + c, hc⟩ k * g ⟨t, ht⟩ k o := by
  unfold tap image taps
  simp only [Nat.add_comm r i, Nat.add_comm c j, hr, hc, ht, and_self, dif_pos]

/-- The nine products of a 3×3 convolution at one position. -/
theorem conv9_at {K N H W : ℕ} (f : Fin H → Fin W → Fin K → EReal) (g : Fin 9 → Fin K → Fin N → EReal) (r c : ℕ) (o : Fin N)
    (hr : r + 2 < H) (hc : c + 2 < W) :
    conv9 (image f) (fun t k => taps g t k o) r c
      = (∑ k, f ⟨0 + r, by omega⟩ ⟨0 + c, by omega⟩ k * g 0 k o) + (∑ k, f ⟨0 + r, by omega⟩ ⟨1 + c, by omega⟩ k * g 1 k o)
        + (∑ k, f ⟨0 + r, by omega⟩ ⟨2 + c, by omega⟩ k * g 2 k o) + (∑ k, f ⟨1 + r, by omega⟩ ⟨0 + c, by omega⟩ k * g 3 k o)
        + (∑ k, f ⟨1 + r, by omega⟩ ⟨1 + c, by omega⟩ k * g 4 k o) + (∑ k, f ⟨1 + r, by omega⟩ ⟨2 + c, by omega⟩ k * g 5 k o)
        + (∑ k, f ⟨2 + r, by omega⟩ ⟨0 + c, by omega⟩ k * g 6 k o) + (∑ k, f ⟨2 + r, by omega⟩ ⟨1 + c, by omega⟩ k * g 7 k o)
        + (∑ k, f ⟨2 + r, by omega⟩ ⟨2 + c, by omega⟩ k * g 8 k o) := by
  unfold conv9
  rw [tap_at f g 0 0 0 r c o (by omega) (by omega) (by omega), tap_at f g 1 0 1 r c o (by omega) (by omega) (by omega),
    tap_at f g 2 0 2 r c o (by omega) (by omega) (by omega), tap_at f g 3 1 0 r c o (by omega) (by omega) (by omega),
    tap_at f g 4 1 1 r c o (by omega) (by omega) (by omega), tap_at f g 5 1 2 r c o (by omega) (by omega) (by omega),
    tap_at f g 6 2 0 r c o (by omega) (by omega) (by omega), tap_at f g 7 2 1 r c o (by omega) (by omega) (by omega),
    tap_at f g 8 2 2 r c o (by omega) (by omega) (by omega)]
  rfl

/-- Two images that agree inside a border of zeros give one convolution. -/
theorem conv9_border {K N H W : ℕ} (f : Fin (H + 2) → Fin (W + 2) → Fin K → EReal) (x : ℕ → ℕ → Fin K → EReal) (w : ℕ → Fin K → EReal) (r c : ℕ) (hr : r < H) (hc : c < W)
    (h : ∀ (r : Fin (H + 2)) (c : Fin (W + 2)) (k : Fin K), f r c k = bordered H W x r c k) :
    conv9 (image f) w r c = conv9 (bordered H W x) w r c := by
  refine conv9_congr (fun i j k hi hj => ?_) fun t k _ => rfl
  have h' := h ⟨r + i, by omega⟩ ⟨c + j, by omega⟩ k
  unfold image
  rw [dif_pos ⟨by omega, by omega⟩]
  exact h'

/-- The nine products over a padded batch of 90 by 165 images, 32 channels to 64. -/
def convA (X : FVec Ideal S32x32x92x167 .f32) (w : FVec Ideal S64x32x3x3 .f32) : FVec Ideal S32x64x90x165 .f32 :=
  (addf (addf (addf (addf (addf (addf (addf (addf (transpose S32x64x90x165 [0, 3, 1, 2] (Host.dotGeneral (F := Ideal) dot_S32x32x90x165_S64x32_S32x90x165x64_1_1_023_0_n_n none (extractStridedSlice S32x32x90x165 ![0, 0, 0, 0] X slices_S32x32x92x167_S32x32x90x165_0_0_0_0) (shapeCast _ (extractStridedSlice S64x32x1x1 ![0, 0, 0, 0] w slices_S64x32x3x3_S64x32x1x1_0_0_0_0) shapeCasts_S64x32x1x1_S64x32)) transposes_S32x90x165x64_S32x64x90x165_0_3_1_2)
      (transpose S32x64x90x165 [0, 3, 1, 2] (Host.dotGeneral (F := Ideal) dot_S32x32x90x165_S64x32_S32x90x165x64_1_1_023_0_n_n none (extractStridedSlice S32x32x90x165 ![0, 0, 0, 1] X slices_S32x32x92x167_S32x32x90x165_0_0_0_1) (shapeCast _ (extractStridedSlice S64x32x1x1 ![0, 0, 0, 1] w slices_S64x32x3x3_S64x32x1x1_0_0_0_1) shapeCasts_S64x32x1x1_S64x32)) transposes_S32x90x165x64_S32x64x90x165_0_3_1_2))
      (transpose S32x64x90x165 [0, 3, 1, 2] (Host.dotGeneral (F := Ideal) dot_S32x32x90x165_S64x32_S32x90x165x64_1_1_023_0_n_n none (extractStridedSlice S32x32x90x165 ![0, 0, 0, 2] X slices_S32x32x92x167_S32x32x90x165_0_0_0_2) (shapeCast _ (extractStridedSlice S64x32x1x1 ![0, 0, 0, 2] w slices_S64x32x3x3_S64x32x1x1_0_0_0_2) shapeCasts_S64x32x1x1_S64x32)) transposes_S32x90x165x64_S32x64x90x165_0_3_1_2))
      (transpose S32x64x90x165 [0, 3, 1, 2] (Host.dotGeneral (F := Ideal) dot_S32x32x90x165_S64x32_S32x90x165x64_1_1_023_0_n_n none (extractStridedSlice S32x32x90x165 ![0, 0, 1, 0] X slices_S32x32x92x167_S32x32x90x165_0_0_1_0) (shapeCast _ (extractStridedSlice S64x32x1x1 ![0, 0, 1, 0] w slices_S64x32x3x3_S64x32x1x1_0_0_1_0) shapeCasts_S64x32x1x1_S64x32)) transposes_S32x90x165x64_S32x64x90x165_0_3_1_2))
      (transpose S32x64x90x165 [0, 3, 1, 2] (Host.dotGeneral (F := Ideal) dot_S32x32x90x165_S64x32_S32x90x165x64_1_1_023_0_n_n none (extractStridedSlice S32x32x90x165 ![0, 0, 1, 1] X slices_S32x32x92x167_S32x32x90x165_0_0_1_1) (shapeCast _ (extractStridedSlice S64x32x1x1 ![0, 0, 1, 1] w slices_S64x32x3x3_S64x32x1x1_0_0_1_1) shapeCasts_S64x32x1x1_S64x32)) transposes_S32x90x165x64_S32x64x90x165_0_3_1_2))
      (transpose S32x64x90x165 [0, 3, 1, 2] (Host.dotGeneral (F := Ideal) dot_S32x32x90x165_S64x32_S32x90x165x64_1_1_023_0_n_n none (extractStridedSlice S32x32x90x165 ![0, 0, 1, 2] X slices_S32x32x92x167_S32x32x90x165_0_0_1_2) (shapeCast _ (extractStridedSlice S64x32x1x1 ![0, 0, 1, 2] w slices_S64x32x3x3_S64x32x1x1_0_0_1_2) shapeCasts_S64x32x1x1_S64x32)) transposes_S32x90x165x64_S32x64x90x165_0_3_1_2))
      (transpose S32x64x90x165 [0, 3, 1, 2] (Host.dotGeneral (F := Ideal) dot_S32x32x90x165_S64x32_S32x90x165x64_1_1_023_0_n_n none (extractStridedSlice S32x32x90x165 ![0, 0, 2, 0] X slices_S32x32x92x167_S32x32x90x165_0_0_2_0) (shapeCast _ (extractStridedSlice S64x32x1x1 ![0, 0, 2, 0] w slices_S64x32x3x3_S64x32x1x1_0_0_2_0) shapeCasts_S64x32x1x1_S64x32)) transposes_S32x90x165x64_S32x64x90x165_0_3_1_2))
      (transpose S32x64x90x165 [0, 3, 1, 2] (Host.dotGeneral (F := Ideal) dot_S32x32x90x165_S64x32_S32x90x165x64_1_1_023_0_n_n none (extractStridedSlice S32x32x90x165 ![0, 0, 2, 1] X slices_S32x32x92x167_S32x32x90x165_0_0_2_1) (shapeCast _ (extractStridedSlice S64x32x1x1 ![0, 0, 2, 1] w slices_S64x32x3x3_S64x32x1x1_0_0_2_1) shapeCasts_S64x32x1x1_S64x32)) transposes_S32x90x165x64_S32x64x90x165_0_3_1_2))
      (transpose S32x64x90x165 [0, 3, 1, 2] (Host.dotGeneral (F := Ideal) dot_S32x32x90x165_S64x32_S32x90x165x64_1_1_023_0_n_n none (extractStridedSlice S32x32x90x165 ![0, 0, 2, 2] X slices_S32x32x92x167_S32x32x90x165_0_0_2_2) (shapeCast _ (extractStridedSlice S64x32x1x1 ![0, 0, 2, 2] w slices_S64x32x3x3_S64x32x1x1_0_0_2_2) shapeCasts_S64x32x1x1_S64x32)) transposes_S32x90x165x64_S32x64x90x165_0_3_1_2))

theorem convA_at (X : FVec Ideal S32x32x92x167 .f32) (w : FVec Ideal S64x32x3x3 .f32) (n : Fin 32) (o : Fin 64) (r : Fin 90) (c : Fin 165) :
    convA X w (ix4 n o r c) = conv9 (plane X n) (fun t k => taps (rawW w) t k o) r c := by
  unfold plane
  rw [conv9_at _ _ _ _ _ (by omega) (by omega)]
  unfold convA
  pointwise
  rfl

/-- The nine products over a padded batch of 45 by 82 images, 64 channels to 128. -/
def convB (X : FVec Ideal S32x64x47x84 .f32) (w : FVec Ideal S128x64x3x3 .f32) : FVec Ideal S32x128x45x82 .f32 :=
  (addf (addf (addf (addf (addf (addf (addf (addf (transpose S32x128x45x82 [0, 3, 1, 2] (Host.dotGeneral (F := Ideal) dot_S32x64x45x82_S128x64_S32x45x82x128_1_1_023_0_n_n none (extractStridedSlice S32x64x45x82 ![0, 0, 0, 0] X slices_S32x64x47x84_S32x64x45x82_0_0_0_0) (shapeCast _ (extractStridedSlice S128x64x1x1 ![0, 0, 0, 0] w slices_S128x64x3x3_S128x64x1x1_0_0_0_0) shapeCasts_S128x64x1x1_S128x64)) transposes_S32x45x82x128_S32x128x45x82_0_3_1_2)
      (transpose S32x128x45x82 [0, 3, 1, 2] (Host.dotGeneral (F := Ideal) dot_S32x64x45x82_S128x64_S32x45x82x128_1_1_023_0_n_n none (extractStridedSlice S32x64x45x82 ![0, 0, 0, 1] X slices_S32x64x47x84_S32x64x45x82_0_0_0_1) (shapeCast _ (extractStridedSlice S128x64x1x1 ![0, 0, 0, 1] w slices_S128x64x3x3_S128x64x1x1_0_0_0_1) shapeCasts_S128x64x1x1_S128x64)) transposes_S32x45x82x128_S32x128x45x82_0_3_1_2))
      (transpose S32x128x45x82 [0, 3, 1, 2] (Host.dotGeneral (F := Ideal) dot_S32x64x45x82_S128x64_S32x45x82x128_1_1_023_0_n_n none (extractStridedSlice S32x64x45x82 ![0, 0, 0, 2] X slices_S32x64x47x84_S32x64x45x82_0_0_0_2) (shapeCast _ (extractStridedSlice S128x64x1x1 ![0, 0, 0, 2] w slices_S128x64x3x3_S128x64x1x1_0_0_0_2) shapeCasts_S128x64x1x1_S128x64)) transposes_S32x45x82x128_S32x128x45x82_0_3_1_2))
      (transpose S32x128x45x82 [0, 3, 1, 2] (Host.dotGeneral (F := Ideal) dot_S32x64x45x82_S128x64_S32x45x82x128_1_1_023_0_n_n none (extractStridedSlice S32x64x45x82 ![0, 0, 1, 0] X slices_S32x64x47x84_S32x64x45x82_0_0_1_0) (shapeCast _ (extractStridedSlice S128x64x1x1 ![0, 0, 1, 0] w slices_S128x64x3x3_S128x64x1x1_0_0_1_0) shapeCasts_S128x64x1x1_S128x64)) transposes_S32x45x82x128_S32x128x45x82_0_3_1_2))
      (transpose S32x128x45x82 [0, 3, 1, 2] (Host.dotGeneral (F := Ideal) dot_S32x64x45x82_S128x64_S32x45x82x128_1_1_023_0_n_n none (extractStridedSlice S32x64x45x82 ![0, 0, 1, 1] X slices_S32x64x47x84_S32x64x45x82_0_0_1_1) (shapeCast _ (extractStridedSlice S128x64x1x1 ![0, 0, 1, 1] w slices_S128x64x3x3_S128x64x1x1_0_0_1_1) shapeCasts_S128x64x1x1_S128x64)) transposes_S32x45x82x128_S32x128x45x82_0_3_1_2))
      (transpose S32x128x45x82 [0, 3, 1, 2] (Host.dotGeneral (F := Ideal) dot_S32x64x45x82_S128x64_S32x45x82x128_1_1_023_0_n_n none (extractStridedSlice S32x64x45x82 ![0, 0, 1, 2] X slices_S32x64x47x84_S32x64x45x82_0_0_1_2) (shapeCast _ (extractStridedSlice S128x64x1x1 ![0, 0, 1, 2] w slices_S128x64x3x3_S128x64x1x1_0_0_1_2) shapeCasts_S128x64x1x1_S128x64)) transposes_S32x45x82x128_S32x128x45x82_0_3_1_2))
      (transpose S32x128x45x82 [0, 3, 1, 2] (Host.dotGeneral (F := Ideal) dot_S32x64x45x82_S128x64_S32x45x82x128_1_1_023_0_n_n none (extractStridedSlice S32x64x45x82 ![0, 0, 2, 0] X slices_S32x64x47x84_S32x64x45x82_0_0_2_0) (shapeCast _ (extractStridedSlice S128x64x1x1 ![0, 0, 2, 0] w slices_S128x64x3x3_S128x64x1x1_0_0_2_0) shapeCasts_S128x64x1x1_S128x64)) transposes_S32x45x82x128_S32x128x45x82_0_3_1_2))
      (transpose S32x128x45x82 [0, 3, 1, 2] (Host.dotGeneral (F := Ideal) dot_S32x64x45x82_S128x64_S32x45x82x128_1_1_023_0_n_n none (extractStridedSlice S32x64x45x82 ![0, 0, 2, 1] X slices_S32x64x47x84_S32x64x45x82_0_0_2_1) (shapeCast _ (extractStridedSlice S128x64x1x1 ![0, 0, 2, 1] w slices_S128x64x3x3_S128x64x1x1_0_0_2_1) shapeCasts_S128x64x1x1_S128x64)) transposes_S32x45x82x128_S32x128x45x82_0_3_1_2))
      (transpose S32x128x45x82 [0, 3, 1, 2] (Host.dotGeneral (F := Ideal) dot_S32x64x45x82_S128x64_S32x45x82x128_1_1_023_0_n_n none (extractStridedSlice S32x64x45x82 ![0, 0, 2, 2] X slices_S32x64x47x84_S32x64x45x82_0_0_2_2) (shapeCast _ (extractStridedSlice S128x64x1x1 ![0, 0, 2, 2] w slices_S128x64x3x3_S128x64x1x1_0_0_2_2) shapeCasts_S128x64x1x1_S128x64)) transposes_S32x45x82x128_S32x128x45x82_0_3_1_2))

theorem convB_at (X : FVec Ideal S32x64x47x84 .f32) (w : FVec Ideal S128x64x3x3 .f32) (n : Fin 32) (o : Fin 128) (r : Fin 45) (c : Fin 82) :
    convB X w (ix4 n o r c) = conv9 (plane X n) (fun t k => taps (rawW w) t k o) r c := by
  unfold plane
  rw [conv9_at _ _ _ _ _ (by omega) (by omega)]
  unfold convB
  pointwise
  rfl

/-- The nine products over a padded batch of 45 by 82 images, 128 channels to 128. -/
def convC (X : FVec Ideal S32x128x47x84 .f32) (w : FVec Ideal S128x128x3x3 .f32) : FVec Ideal S32x128x45x82 .f32 :=
  (addf (addf (addf (addf (addf (addf (addf (addf (transpose S32x128x45x82 [0, 3, 1, 2] (Host.dotGeneral (F := Ideal) dot_S32x128x45x82_S128x128_S32x45x82x128_1_1_023_0_n_n none (extractStridedSlice S32x128x45x82 ![0, 0, 0, 0] X slices_S32x128x47x84_S32x128x45x82_0_0_0_0) (shapeCast _ (extractStridedSlice S128x128x1x1 ![0, 0, 0, 0] w slices_S128x128x3x3_S128x128x1x1_0_0_0_0) shapeCasts_S128x128x1x1_S128x128)) transposes_S32x45x82x128_S32x128x45x82_0_3_1_2)
      (transpose S32x128x45x82 [0, 3, 1, 2] (Host.dotGeneral (F := Ideal) dot_S32x128x45x82_S128x128_S32x45x82x128_1_1_023_0_n_n none (extractStridedSlice S32x128x45x82 ![0, 0, 0, 1] X slices_S32x128x47x84_S32x128x45x82_0_0_0_1) (shapeCast _ (extractStridedSlice S128x128x1x1 ![0, 0, 0, 1] w slices_S128x128x3x3_S128x128x1x1_0_0_0_1) shapeCasts_S128x128x1x1_S128x128)) transposes_S32x45x82x128_S32x128x45x82_0_3_1_2))
      (transpose S32x128x45x82 [0, 3, 1, 2] (Host.dotGeneral (F := Ideal) dot_S32x128x45x82_S128x128_S32x45x82x128_1_1_023_0_n_n none (extractStridedSlice S32x128x45x82 ![0, 0, 0, 2] X slices_S32x128x47x84_S32x128x45x82_0_0_0_2) (shapeCast _ (extractStridedSlice S128x128x1x1 ![0, 0, 0, 2] w slices_S128x128x3x3_S128x128x1x1_0_0_0_2) shapeCasts_S128x128x1x1_S128x128)) transposes_S32x45x82x128_S32x128x45x82_0_3_1_2))
      (transpose S32x128x45x82 [0, 3, 1, 2] (Host.dotGeneral (F := Ideal) dot_S32x128x45x82_S128x128_S32x45x82x128_1_1_023_0_n_n none (extractStridedSlice S32x128x45x82 ![0, 0, 1, 0] X slices_S32x128x47x84_S32x128x45x82_0_0_1_0) (shapeCast _ (extractStridedSlice S128x128x1x1 ![0, 0, 1, 0] w slices_S128x128x3x3_S128x128x1x1_0_0_1_0) shapeCasts_S128x128x1x1_S128x128)) transposes_S32x45x82x128_S32x128x45x82_0_3_1_2))
      (transpose S32x128x45x82 [0, 3, 1, 2] (Host.dotGeneral (F := Ideal) dot_S32x128x45x82_S128x128_S32x45x82x128_1_1_023_0_n_n none (extractStridedSlice S32x128x45x82 ![0, 0, 1, 1] X slices_S32x128x47x84_S32x128x45x82_0_0_1_1) (shapeCast _ (extractStridedSlice S128x128x1x1 ![0, 0, 1, 1] w slices_S128x128x3x3_S128x128x1x1_0_0_1_1) shapeCasts_S128x128x1x1_S128x128)) transposes_S32x45x82x128_S32x128x45x82_0_3_1_2))
      (transpose S32x128x45x82 [0, 3, 1, 2] (Host.dotGeneral (F := Ideal) dot_S32x128x45x82_S128x128_S32x45x82x128_1_1_023_0_n_n none (extractStridedSlice S32x128x45x82 ![0, 0, 1, 2] X slices_S32x128x47x84_S32x128x45x82_0_0_1_2) (shapeCast _ (extractStridedSlice S128x128x1x1 ![0, 0, 1, 2] w slices_S128x128x3x3_S128x128x1x1_0_0_1_2) shapeCasts_S128x128x1x1_S128x128)) transposes_S32x45x82x128_S32x128x45x82_0_3_1_2))
      (transpose S32x128x45x82 [0, 3, 1, 2] (Host.dotGeneral (F := Ideal) dot_S32x128x45x82_S128x128_S32x45x82x128_1_1_023_0_n_n none (extractStridedSlice S32x128x45x82 ![0, 0, 2, 0] X slices_S32x128x47x84_S32x128x45x82_0_0_2_0) (shapeCast _ (extractStridedSlice S128x128x1x1 ![0, 0, 2, 0] w slices_S128x128x3x3_S128x128x1x1_0_0_2_0) shapeCasts_S128x128x1x1_S128x128)) transposes_S32x45x82x128_S32x128x45x82_0_3_1_2))
      (transpose S32x128x45x82 [0, 3, 1, 2] (Host.dotGeneral (F := Ideal) dot_S32x128x45x82_S128x128_S32x45x82x128_1_1_023_0_n_n none (extractStridedSlice S32x128x45x82 ![0, 0, 2, 1] X slices_S32x128x47x84_S32x128x45x82_0_0_2_1) (shapeCast _ (extractStridedSlice S128x128x1x1 ![0, 0, 2, 1] w slices_S128x128x3x3_S128x128x1x1_0_0_2_1) shapeCasts_S128x128x1x1_S128x128)) transposes_S32x45x82x128_S32x128x45x82_0_3_1_2))
      (transpose S32x128x45x82 [0, 3, 1, 2] (Host.dotGeneral (F := Ideal) dot_S32x128x45x82_S128x128_S32x45x82x128_1_1_023_0_n_n none (extractStridedSlice S32x128x45x82 ![0, 0, 2, 2] X slices_S32x128x47x84_S32x128x45x82_0_0_2_2) (shapeCast _ (extractStridedSlice S128x128x1x1 ![0, 0, 2, 2] w slices_S128x128x3x3_S128x128x1x1_0_0_2_2) shapeCasts_S128x128x1x1_S128x128)) transposes_S32x45x82x128_S32x128x45x82_0_3_1_2))

theorem convC_at (X : FVec Ideal S32x128x47x84 .f32) (w : FVec Ideal S128x128x3x3 .f32) (n : Fin 32) (o : Fin 128) (r : Fin 45) (c : Fin 82) :
    convC X w (ix4 n o r c) = conv9 (plane X n) (fun t k => taps (rawW w) t k o) r c := by
  unfold plane
  rw [conv9_at _ _ _ _ _ (by omega) (by omega)]
  unfold convC
  pointwise
  rfl

theorem sitofp_zero : FloatOps.sitofp (F := Ideal) FTy.f32 0#32 = (0 : EReal) := by
  simp [FloatOps.sitofp]

/-- A batch of 90 by 165 images of 32 channels inside a border of zeros. -/
def padA (X : FVec Ideal S32x32x90x165 .f32) : FVec Ideal S32x32x92x167 .f32 :=
  pad S32x32x92x167 ![0, 0, 1, 1] ![0, 0, 1, 1] ![0, 0, 0, 0] X (sitofp .f32 (constantI S_ 32 0#32)) pads_S32x32x90x165_S32x32x92x167_000_000_110_110 h_S_

theorem padA_at (X : FVec Ideal S32x32x90x165 .f32) (n : Fin 32) (k : Fin 32) (r : Fin 92) (c : Fin 167) :
    padA X (ix4 n k r c) = bordered 90 165 (plane X n) r c k := by
  unfold padA bordered plane image
  pointwise
  have hz : FloatOps.sitofp (F := Ideal) FTy.f32 0#32 = (0 : EReal) := sitofp_zero
  have hr := r.isLt
  have hc := c.isLt
  by_cases h : (1 ≤ r.val ∧ r.val - 1 < 90) ∧ 1 ≤ c.val ∧ c.val - 1 < 165
  · rw [dif_pos h, if_pos (by omega), dif_pos (by omega)]
  · rw [dif_neg h, if_neg (by omega)]
    exact hz

/-- A batch of 45 by 82 images of 64 channels inside a border of zeros. -/
def padB (X : FVec Ideal S32x64x45x82 .f32) : FVec Ideal S32x64x47x84 .f32 :=
  pad S32x64x47x84 ![0, 0, 1, 1] ![0, 0, 1, 1] ![0, 0, 0, 0] X (sitofp .f32 (constantI S_ 32 0#32)) pads_S32x64x45x82_S32x64x47x84_000_000_110_110 h_S_

theorem padB_at (X : FVec Ideal S32x64x45x82 .f32) (n : Fin 32) (k : Fin 64) (r : Fin 47) (c : Fin 84) :
    padB X (ix4 n k r c) = bordered 45 82 (plane X n) r c k := by
  unfold padB bordered plane image
  pointwise
  have hz : FloatOps.sitofp (F := Ideal) FTy.f32 0#32 = (0 : EReal) := sitofp_zero
  have hr := r.isLt
  have hc := c.isLt
  by_cases h : (1 ≤ r.val ∧ r.val - 1 < 45) ∧ 1 ≤ c.val ∧ c.val - 1 < 82
  · rw [dif_pos h, if_pos (by omega), dif_pos (by omega)]
  · rw [dif_neg h, if_neg (by omega)]
    exact hz

/-- A batch of 45 by 82 images of 128 channels inside a border of zeros. -/
def padC (X : FVec Ideal S32x128x45x82 .f32) : FVec Ideal S32x128x47x84 .f32 :=
  pad S32x128x47x84 ![0, 0, 1, 1] ![0, 0, 1, 1] ![0, 0, 0, 0] X (sitofp .f32 (constantI S_ 32 0#32)) pads_S32x128x45x82_S32x128x47x84_000_000_110_110 h_S_

theorem padC_at (X : FVec Ideal S32x128x45x82 .f32) (n : Fin 32) (k : Fin 128) (r : Fin 47) (c : Fin 84) :
    padC X (ix4 n k r c) = bordered 45 82 (plane X n) r c k := by
  unfold padC bordered plane image
  pointwise
  have hz : FloatOps.sitofp (F := Ideal) FTy.f32 0#32 = (0 : EReal) := sitofp_zero
  have hr := r.isLt
  have hc := c.isLt
  by_cases h : (1 ≤ r.val ∧ r.val - 1 < 45) ∧ 1 ≤ c.val ∧ c.val - 1 < 82
  · rw [dif_pos h, if_pos (by omega), dif_pos (by omega)]
  · rw [dif_neg h, if_neg (by omega)]
    exact hz

/-- A bias, a factor and a shift for each channel. -/
def bnA (C : FVec Ideal S32x64x90x165 .f32) (b g s : FVec Ideal S64 .f32) : FVec Ideal S32x64x90x165 .f32 :=
  addf (mulf (addf C (broadcastInDim S32x64x90x165 ![0, 1, 2, 3] bcast_S1x64x1x1_S32x64x90x165_0_1_2_3 (broadcastInDim S1x64x1x1 ![1] bcast_S64_S1x64x1x1_1 b))) (broadcastInDim S32x64x90x165 ![0, 1, 2, 3] bcast_S1x64x1x1_S32x64x90x165_0_1_2_3 (broadcastInDim S1x64x1x1 ![1] bcast_S64_S1x64x1x1_1 g))) (broadcastInDim S32x64x90x165 ![0, 1, 2, 3] bcast_S1x64x1x1_S32x64x90x165_0_1_2_3 (broadcastInDim S1x64x1x1 ![1] bcast_S64_S1x64x1x1_1 s))

theorem bnA_at (C : FVec Ideal S32x64x90x165 .f32) (b g s : FVec Ideal S64 .f32) (n : Fin 32) (o : Fin 64) (r : Fin 90) (c : Fin 165) :
    bnA C b g s (ix4 n o r c) = (C (ix4 n o r c) + b (ix1 o)) * g (ix1 o) + s (ix1 o) := by
  unfold bnA
  pointwise

/-- The maximum with zero. -/
def bnARelu (C : FVec Ideal S32x64x90x165 .f32) : FVec Ideal S32x64x90x165 .f32 :=
  maximumf C (broadcastInDim S32x64x90x165 ![] bcast_S_S32x64x90x165 (constant S_ .f32 0x00000000#32))

theorem bnARelu_at (C : FVec Ideal S32x64x90x165 .f32) (n : Fin 32) (o : Fin 64) (r : Fin 90) (c : Fin 165) :
    bnARelu C (ix4 n o r c) = max (C (ix4 n o r c)) 0 := by
  unfold bnARelu
  pointwise

/-- A bias, a factor and a shift for each channel. -/
def bnB (C : FVec Ideal S32x128x45x82 .f32) (b g s : FVec Ideal S128 .f32) : FVec Ideal S32x128x45x82 .f32 :=
  addf (mulf (addf C (broadcastInDim S32x128x45x82 ![0, 1, 2, 3] bcast_S1x128x1x1_S32x128x45x82_0_1_2_3 (broadcastInDim S1x128x1x1 ![1] bcast_S128_S1x128x1x1_1 b))) (broadcastInDim S32x128x45x82 ![0, 1, 2, 3] bcast_S1x128x1x1_S32x128x45x82_0_1_2_3 (broadcastInDim S1x128x1x1 ![1] bcast_S128_S1x128x1x1_1 g))) (broadcastInDim S32x128x45x82 ![0, 1, 2, 3] bcast_S1x128x1x1_S32x128x45x82_0_1_2_3 (broadcastInDim S1x128x1x1 ![1] bcast_S128_S1x128x1x1_1 s))

theorem bnB_at (C : FVec Ideal S32x128x45x82 .f32) (b g s : FVec Ideal S128 .f32) (n : Fin 32) (o : Fin 128) (r : Fin 45) (c : Fin 82) :
    bnB C b g s (ix4 n o r c) = (C (ix4 n o r c) + b (ix1 o)) * g (ix1 o) + s (ix1 o) := by
  unfold bnB
  pointwise

/-- The maximum with zero. -/
def bnBRelu (C : FVec Ideal S32x128x45x82 .f32) : FVec Ideal S32x128x45x82 .f32 :=
  maximumf C (broadcastInDim S32x128x45x82 ![] bcast_S_S32x128x45x82 (constant S_ .f32 0x00000000#32))

theorem bnBRelu_at (C : FVec Ideal S32x128x45x82 .f32) (n : Fin 32) (o : Fin 128) (r : Fin 45) (c : Fin 82) :
    bnBRelu C (ix4 n o r c) = max (C (ix4 n o r c)) 0 := by
  unfold bnBRelu
  pointwise

/-- The layer of 32 channels to 64 on 90 by 165 images. -/
theorem layerA_plain (X : FVec Ideal S32x32x90x165 .f32) (w : FVec Ideal S64x32x3x3 .f32) (b g s : FVec Ideal S64 .f32) (n : Fin 32) (o : Fin 64) (r : Fin 90) (c : Fin 165) :
    bnA (convA (padA X) w) b g s (ix4 n o r c)
      = plain 90 165 (plane X n) (taps (rawW w)) (fun o => b (ix1 o)) (fun o => g (ix1 o)) (fun o => s (ix1 o)) r c o := by
  rw [bnA_at, convA_at]
  unfold plain plane
  rw [conv9_border (N := 64) (H := 90) (W := 165) _ (plane X n) _ r c r.isLt c.isLt fun r c k => padA_at X n k r c]
  rfl

/-- The layer of 64 channels to 128 on 45 by 82 images. -/
theorem layerB_plain (X : FVec Ideal S32x64x45x82 .f32) (w : FVec Ideal S128x64x3x3 .f32) (b g s : FVec Ideal S128 .f32) (n : Fin 32) (o : Fin 128) (r : Fin 45) (c : Fin 82) :
    bnB (convB (padB X) w) b g s (ix4 n o r c)
      = plain 45 82 (plane X n) (taps (rawW w)) (fun o => b (ix1 o)) (fun o => g (ix1 o)) (fun o => s (ix1 o)) r c o := by
  rw [bnB_at, convB_at]
  unfold plain plane
  rw [conv9_border (N := 128) (H := 45) (W := 82) _ (plane X n) _ r c r.isLt c.isLt fun r c k => padB_at X n k r c]
  rfl

/-- The layer of 128 channels to 128 on 45 by 82 images. -/
theorem layerC_plain (X : FVec Ideal S32x128x45x82 .f32) (w : FVec Ideal S128x128x3x3 .f32) (b g s : FVec Ideal S128 .f32) (n : Fin 32) (o : Fin 128) (r : Fin 45) (c : Fin 82) :
    bnB (convC (padC X) w) b g s (ix4 n o r c)
      = plain 45 82 (plane X n) (taps (rawW w)) (fun o => b (ix1 o)) (fun o => g (ix1 o)) (fun o => s (ix1 o)) r c o := by
  rw [bnB_at, convC_at]
  unfold plain plane
  rw [conv9_border (N := 128) (H := 45) (W := 82) _ (plane X n) _ r c r.isLt c.isLt fun r c k => padC_at X n k r c]
  rfl

theorem max4 (a b c d : EReal) : max (max (max a b) c) d = max (max a c) (max b d) := by
  rw [max_right_comm a b c, max_assoc]

/-- The 2×2 maximum of a batch of 90 by 165 images. -/
def poolA (X : FVec Ideal S32x64x90x165 .f32) : FVec Ideal S32x64x45x82 .f32 :=
  Host.reduceWindow FloatOps.maximumf ![1, 1, 2, 2] ![1, 1, 2, 2] ![0, 0, 0, 0] ![0, 0, 0, 0] X (broadcastInDim S_ ![] bcast_S_S_ (constant (F := Ideal) S_ .f32 0xFF800000#32)) reduceWindows_S32x64x90x165_S32x64x45x82_w1s1p0_0_w1s1p0_0_w2s2p0_0_w2s2p0_0 h_S_

theorem window_at : ∀ (n : Fin (Shape.numel ⟨4, ![1, 1, 2, 2]⟩)) (a : Fin 4), ((⟨4, ![1, 1, 2, 2]⟩ : Shape).rowMajor.symm n a).val = (![0, 0, n.val / 2, n.val % 2] : Fin 4 → ℕ) a := by
  decide +kernel

theorem poolA_at (X : FVec Ideal S32x64x90x165 .f32) (n : Fin 32) (o : Fin 64) (r : Fin 45) (c : Fin 82) :
    poolA X (ix4 n o r c) = pool2 (fun r c => plane X n r c o) r c := by
  have hbot : (broadcastInDim S_ ![] bcast_S_S_ (constant (F := Ideal) S_ .f32 0xFF800000#32) : FVec Ideal S_ .f32) (Shape.Idx.first h_S_) = (⊥ : EReal) := by
    show Ideal.ofBits FTy.f32 0xFF800000#32 = ⊥
    simp [Ideal.ofBits, Ideal.ieee]
  have key : ∀ n' : Fin (Shape.numel ⟨4, ![1, 1, 2, 2]⟩), (if hin : ∀ a : Fin 4, (![0, 0, 0, 0] : Fin 4 → ℕ) a ≤ ((ix4 n o r c : S32x64x45x82.Idx) a).val * (![1, 1, 2, 2] : Fin 4 → ℕ) a + ((⟨4, ![1, 1, 2, 2]⟩ : Shape).rowMajor.symm n' a).val
        ∧ ((ix4 n o r c : S32x64x45x82.Idx) a).val * (![1, 1, 2, 2] : Fin 4 → ℕ) a + ((⟨4, ![1, 1, 2, 2]⟩ : Shape).rowMajor.symm n' a).val - (![0, 0, 0, 0] : Fin 4 → ℕ) a < S32x64x90x165.size a
      then X (fun a => ⟨_, (hin a).2⟩) else (⊥ : EReal)) = plane X n (2 * r + n'.val / 2) (2 * c + n'.val % 2) o := by
    intro n'
    have hn : n'.val < 4 := n'.isLt
    have hr := r.isLt
    have hc := c.isLt
    rw [dif_pos]
    · unfold plane image
      rw [dif_pos ⟨by omega, by omega⟩]
      congr 1
      funext a
      apply Fin.ext
      simp only [window_at]
      match a with
      | 0 => simp
      | 1 => simp
      | 2 => simp; ring
      | 3 => simp; ring
    · intro a
      simp only [window_at]
      match a with
      | 0 => simp
      | 1 => simp
      | 2 => simp; omega
      | 3 => simp; omega
  unfold poolA Host.reduceWindow
  simp only [hbot]
  refine (congrArg (fun f => List.foldl f (⊥ : EReal) (List.finRange (Shape.numel ⟨4, ![1, 1, 2, 2]⟩))) (funext fun a => funext fun k => congrArg (max a) (key k))).trans ?_
  show List.foldl (fun (a : EReal) (k : Fin 4) => max a (plane X n (2 * r + k.val / 2) (2 * c + k.val % 2) o)) ⊥ [0, 1, 2, 3] = _
  simp only [List.foldl, pool2]
  rw [max_eq_right bot_le]
  exact max4 _ _ _ _

end Cert.ReferenceIdeal.Trunk

end
-- ==== Proof.Trunk.RefB.lean ====
/- The end of the reference read at an index: the least and the greatest attention value, the normalisation, the sigmoid,
   and the attention-pooled sum. -/
module

public import proofs.«01_k».proof.Proof.Trunk.RefA

@[expose] public section

set_option maxRecDepth 16384

noncomputable section

namespace Cert.ReferenceIdeal.Trunk

open Idealize.ShloMosaic Idealize.ShloMosaic.TcCoe Idealize.SL.Sem
open Cert.ReferenceIdeal Cert.ReferenceIdeal.Gen Cert.ReferenceIdeal.Value Cert.Trunk

/-- The values at the indices whose first coordinate is `n`, by pixel and channel: their least and their greatest. -/
theorem plane_pixel (Q : FVec Ideal S32x128x45x82 .f32) (n : Fin 32) (p : Fin 3690) (o : Fin 128) :
    plane Q n (p / 82) (p % 82) o = Q (ix4 n o (⟨p.val / 82, by omega⟩ : Fin 45) (⟨p.val % 82, by omega⟩ : Fin 82)) :=
  dif_pos ⟨by omega, by omega⟩

theorem min_fold (Q : FVec Ideal S32x128x45x82 .f32) (n : Fin 32) (s : Finset S32x128x45x82.Idx) (hs : ∀ i, i ∈ s ↔ i 0 = n) :
    Finset.fold min ⊤ Q s = lowest fun p o => plane Q n (p / 82) (p % 82) o := by
  refine le_antisymm (le_iInf fun p => le_iInf fun o => ?_) ((Finset.le_inf fun i hi => ?_ : _ ≤ Finset.inf s Q))
  · have e := plane_pixel Q n p o
    refine le_of_le_of_eq (Finset.inf_le ((hs _).2 rfl) : Finset.inf s Q ≤ _) e.symm
  · have h0 := (hs i).1 hi
    have h2 : (i 2).val < 45 := (i 2).isLt
    have h3 : (i 3).val < 82 := (i 3).isLt
    have hp : (i 2).val * 82 + (i 3).val < 3690 := by omega
    refine iInf_le_of_le (⟨(i 2).val * 82 + (i 3).val, hp⟩ : Fin 3690) (iInf_le_of_le (i 1) (le_of_eq ?_))
    refine (plane_pixel Q n ⟨(i 2).val * 82 + (i 3).val, hp⟩ (i 1)).trans (congrArg Q ?_)
    funext a
    match a with
    | 0 => exact h0.symm
    | 1 => rfl
    | 2 => exact Fin.ext (by show ((i 2).val * 82 + (i 3).val) / 82 = (i 2).val; omega)
    | 3 => exact Fin.ext (by show ((i 2).val * 82 + (i 3).val) % 82 = (i 3).val; omega)

theorem max_fold (Q : FVec Ideal S32x128x45x82 .f32) (n : Fin 32) (s : Finset S32x128x45x82.Idx) (hs : ∀ i, i ∈ s ↔ i 0 = n) :
    Finset.fold max ⊥ Q s = highest fun p o => plane Q n (p / 82) (p % 82) o := by
  refine le_antisymm ((Finset.sup_le fun i hi => ?_ : Finset.sup s Q ≤ _)) (iSup_le fun p => iSup_le fun o => ?_)
  · have h0 := (hs i).1 hi
    have h2 : (i 2).val < 45 := (i 2).isLt
    have h3 : (i 3).val < 82 := (i 3).isLt
    have hp : (i 2).val * 82 + (i 3).val < 3690 := by omega
    refine le_iSup_of_le (⟨(i 2).val * 82 + (i 3).val, hp⟩ : Fin 3690) (le_iSup_of_le (i 1) (le_of_eq ?_))
    refine ((plane_pixel Q n ⟨(i 2).val * 82 + (i 3).val, hp⟩ (i 1)).trans (congrArg Q ?_)).symm
    funext a
    match a with
    | 0 => exact h0.symm
    | 1 => rfl
    | 2 => exact Fin.ext (by show ((i 2).val * 82 + (i 3).val) / 82 = (i 2).val; omega)
    | 3 => exact Fin.ext (by show ((i 2).val * 82 + (i 3).val) % 82 = (i 3).val; omega)
  · have e := plane_pixel Q n p o
    refine le_of_eq_of_le e (Finset.le_sup (f := Q) ((hs _).2 rfl))

theorem fiber (n : Fin 32) (i : S32x128x45x82.Idx) :
    i ∈ (Finset.univ.filter fun i : S32x128x45x82.Idx => reducesTo_S32x128x45x82_S32_d1_2_3.drop i = ix1 n) ↔ i 0 = n := by
  have hd : (reducesTo_S32x128x45x82_S32_d1_2_3.drop i 0).val = (i 0).val :=
    Shape.ReducesTo.drop_apply_val_of_eq reducesTo_S32x128x45x82_S32_d1_2_3 i 0 0
  rw [Finset.mem_filter]
  constructor
  · intro h
    exact Fin.ext (hd.symm.trans (congrArg (fun f : S32.Idx => (f 0).val) h.2))
  · intro h
    refine ⟨Finset.mem_univ _, ?_⟩
    funext a
    match a with
    | 0 => exact Fin.ext (hd.trans (congrArg Fin.val h))

/-- The least of each image's values over rows, columns and channels. -/
def leastOf (Q : FVec Ideal S32x128x45x82 .f32) : FVec Ideal S32 .f32 :=
  Host.reduce FloatOps.minimumf Q (constant (F := Ideal) S_ .f32 0x7F800000#32) reducesTo_S32x128x45x82_S32_d1_2_3 h_S_

theorem leastOf_at (Q : FVec Ideal S32x128x45x82 .f32) (n : Fin 32) : leastOf Q (ix1 n) = lowest fun p o => plane Q n (p / 82) (p % 82) o := by
  have htop : Ideal.ofBits FTy.f32 2139095040#32 = ⊤ := by simp [Ideal.ofBits, Ideal.ieee]
  rw [← min_fold Q n _ (fiber n)]
  unfold leastOf
  pointwise
  rw [htop]

/-- The greatest of each image's values over rows, columns and channels. -/
def greatestOf (Q : FVec Ideal S32x128x45x82 .f32) : FVec Ideal S32 .f32 :=
  Host.reduce FloatOps.maximumf Q (constant (F := Ideal) S_ .f32 0xFF800000#32) reducesTo_S32x128x45x82_S32_d1_2_3 h_S_

theorem greatestOf_at (Q : FVec Ideal S32x128x45x82 .f32) (n : Fin 32) : greatestOf Q (ix1 n) = highest fun p o => plane Q n (p / 82) (p % 82) o := by
  have hbot : Ideal.ofBits FTy.f32 4286578688#32 = ⊥ := by simp [Ideal.ofBits, Ideal.ieee]
  rw [← max_fold Q n _ (fiber n)]
  unfold greatestOf
  pointwise
  rw [hbot]

/-- One over one plus the exponential of the opposite. -/
def sigm (X : FVec Ideal S32x128x45x82 .f32) : FVec Ideal S32x128x45x82 .f32 :=
  Host.divf (broadcastInDim S32x128x45x82 ![] bcast_S_S32x128x45x82 (constant S_ .f32 0x3F800000#32)) (addf (broadcastInDim S32x128x45x82 ![] bcast_S_S32x128x45x82 (constant S_ .f32 0x3F800000#32)) (Host.exp (Host.negf X)))

theorem sigm_at (X : FVec Ideal S32x128x45x82 .f32) (n : Fin 32) (o : Fin 128) (r : Fin 45) (c : Fin 82) :
    sigm X (ix4 n o r c) = Ideal.logistic (X (ix4 n o r c)) := by
  unfold sigm Ideal.logistic
  pointwise

/-- The differences from one value for each image. -/
def lowered (Q : FVec Ideal S32x128x45x82 .f32) (M : FVec Ideal S32 .f32) : FVec Ideal S32x128x45x82 .f32 :=
  subf Q (broadcastInDim S32x128x45x82 ![0, 1, 2, 3] bcast_S32x1x1x1_S32x128x45x82_0_1_2_3 (broadcastInDim S32x1x1x1 ![0] bcast_S32_S32x1x1x1_0 M))

theorem lowered_at (Q : FVec Ideal S32x128x45x82 .f32) (M : FVec Ideal S32 .f32) (n : Fin 32) (o : Fin 128) (r : Fin 45) (c : Fin 82) :
    lowered Q M (ix4 n o r c) = Q (ix4 n o r c) - M (ix1 n) := by
  unfold lowered
  pointwise

/-- The argument of the steep sigmoid, from one divisor for each image. -/
def steepArg (P : FVec Ideal S32x128x45x82 .f32) (M : FVec Ideal S32 .f32) : FVec Ideal S32x128x45x82 .f32 :=
  mulf (broadcastInDim S32x128x45x82 ![] bcast_S_S32x128x45x82 (constant S_ .f32 0x41200000#32)) (subf (Host.divf P (broadcastInDim S32x128x45x82 ![0, 1, 2, 3] bcast_S32x1x1x1_S32x128x45x82_0_1_2_3 (maximumf (broadcastInDim S32x1x1x1 ![0] bcast_S32_S32x1x1x1_0 M) (broadcastInDim S32x1x1x1 ![] bcast_S_S32x1x1x1 (constant S_ .f32 0x38D1B717#32))))) (broadcastInDim S32x128x45x82 ![] bcast_S_S32x128x45x82 (constant S_ .f32 0x3F000000#32)))

theorem steepArg_at (P : FVec Ideal S32x128x45x82 .f32) (M : FVec Ideal S32 .f32) (n : Fin 32) (o : Fin 128) (r : Fin 45) (c : Fin 82) :
    steepArg P M (ix4 n o r c) = Ideal.ofBits FTy.f32 0x41200000#32 * (Ideal.div (P (ix4 n o r c))
      (max (M (ix1 n)) (Ideal.ofBits FTy.f32 0x38D1B717#32)) - Ideal.ofBits FTy.f32 0x3F000000#32) := by
  unfold steepArg
  pointwise

/-- The attention-pooled products, over the number of pixels. -/
def gathered (X Y : FVec Ideal S32x128x45x82 .f32) : FVec Ideal S32x128x128 .f32 :=
  Host.divf (Host.dotGeneral dot_S32x128x45x82_S32x128x45x82_S32x128x128_23_23_1_1_0_0 none X Y) (broadcastInDim S32x128x128 ![] bcast_S_S32x128x128 (constant S_ .f32 0x4566A000#32))

/-- A sum over rows and columns is a sum over the pixels. -/
theorem sum_pixels (F : ℕ → ℕ → EReal) : ∑ r : Fin 45, ∑ c : Fin 82, F r c = ∑ p : Fin 3690, F (p / 82) (p % 82) := by
  rw [← Fintype.sum_prod_type' (f := fun (r : Fin 45) (c : Fin 82) => F r c)]
  refine Fintype.sum_equiv (finProdFinEquiv (m := 45) (n := 82)) _ _ fun x => ?_
  obtain ⟨r, c⟩ := x
  have hc := c.isLt
  have h : ((finProdFinEquiv (r, c) : Fin (45 * 82)) : ℕ) = c + 82 * r := rfl
  rw [h, show (c.val + 82 * r.val) / 82 = r.val by omega, show (c.val + 82 * r.val) % 82 = c.val by omega]

theorem gathered_at (X Y : FVec Ideal S32x128x45x82 .f32) (n : Fin 32) (i j : Fin 128) :
    gathered X Y (ix3 n i j) = Ideal.div (∑ r : Fin 45, ∑ c : Fin 82, X (ix4 n i r c) * Y (ix4 n j r c)) (Ideal.ofBits FTy.f32 0x4566A000#32) := by
  unfold gathered
  pointwise

theorem pixels_sum (X Y : FVec Ideal S32x128x45x82 .f32) (n : Fin 32) (i j : Fin 128) :
    ∑ r : Fin 45, ∑ c : Fin 82, X (ix4 n i r c) * Y (ix4 n j r c) = ∑ p : Fin 3690, plane X n (p / 82) (p % 82) i * plane Y n (p / 82) (p % 82) j := by
  refine Eq.trans ?_ (sum_pixels fun r c => plane X n r c i * plane Y n r c j)
  refine Finset.sum_congr rfl fun r _ => Finset.sum_congr rfl fun c _ => ?_
  have hx : plane X n r c i = X (ix4 n i r c) := dif_pos ⟨r.isLt, c.isLt⟩
  have hy : plane Y n r c j = Y (ix4 n j r c) := dif_pos ⟨r.isLt, c.isLt⟩
  exact (congrArg₂ (· * ·) hx hy).symm

end Cert.ReferenceIdeal.Trunk

end
-- ==== Proof.Trunk.RefC.lean ====
/- The reference's result read at an index is the trunk with its normalisations where they stand. -/
module

public import proofs.«01_k».proof.Proof.Trunk.RefB

@[expose] public section

set_option maxRecDepth 16384

noncomputable section

namespace Cert.ReferenceIdeal.Trunk

open Idealize.ShloMosaic Idealize.ShloMosaic.TcCoe Idealize.SL.Sem
open Cert.ReferenceIdeal Cert.ReferenceIdeal.Gen Cert.ReferenceIdeal.Value Cert.Trunk

theorem bordered_congr {α : Type} {H W : ℕ} {x y : ℕ → ℕ → α → EReal} (h : ∀ r c k, r < H → c < W → x r c k = y r c k) :
    bordered H W x = bordered H W y := by
  funext r c k
  unfold bordered
  split
  · exact h _ _ _ (by omega) (by omega)
  · rfl

theorem plain_congr {K N H W : ℕ} {x y : ℕ → ℕ → Fin K → EReal} (h : ∀ r c k, r < H → c < W → x r c k = y r c k)
    (w : ℕ → Fin K → Fin N → EReal) (b g s : Fin N → EReal) : plain H W x w b g s = plain H W y w b g s := by
  funext r c o
  unfold plain
  rw [bordered_congr h]

theorem plane_in {B K H W : ℕ} (x : FVec Ideal ⟨4, ![B, K, H, W]⟩ .f32) (n : Fin B) (r c : ℕ) (k : Fin K) (hr : r < H) (hc : c < W) :
    plane x n r c k = x (ix4 n k ⟨r, hr⟩ ⟨c, hc⟩) := dif_pos ⟨hr, hc⟩

theorem lowest_congr {Q Q' : ℕ → Fin 128 → EReal} (h : ∀ (p : Fin 3690) o, Q p o = Q' p o) : lowest Q = lowest Q' :=
  iInf_congr fun p => iInf_congr fun o => h p o

theorem highest_congr {Q Q' : ℕ → Fin 128 → EReal} (h : ∀ (p : Fin 3690) o, Q p o = Q' p o) : highest Q = highest Q' :=
  iSup_congr fun p => iSup_congr fun o => h p o

/-- The pooled layer. -/
def pooledT (x : FVec Ideal S32x32x90x165 .f32) (w : FVec Ideal S64x32x3x3 .f32) (b g s : FVec Ideal S64 .f32) : FVec Ideal S32x64x45x82 .f32 :=
  poolA (bnARelu (bnA (convA (padA x) w) b g s))

theorem pooledT_at (x : FVec Ideal S32x32x90x165 .f32) (w : FVec Ideal S64x32x3x3 .f32) (b g s : FVec Ideal S64 .f32) (n : Fin 32)
    (r c : ℕ) (o : Fin 64) (hr : r < 45) (hc : c < 82) :
    plane (pooledT x w b g s) n r c o
      = poolPlain 90 165 (plane x n) (taps (rawW w)) (fun o => b (ix1 o)) (fun o => g (ix1 o)) (fun o => s (ix1 o)) r c o := by
  have key : ∀ r c, r < 90 → c < 165 → plane (bnARelu (bnA (convA (padA x) w) b g s)) n r c o
      = reluPlain 90 165 (plane x n) (taps (rawW w)) (fun o => b (ix1 o)) (fun o => g (ix1 o)) (fun o => s (ix1 o)) r c o := by
    intro r c hr hc
    rw [plane_in _ n r c o hr hc, bnARelu_at, layerA_plain]
    rfl
  refine (plane_in (pooledT x w b g s) n r c o hr hc).trans ((poolA_at _ n o ⟨r, hr⟩ ⟨c, hc⟩).trans ?_)
  unfold poolPlain pool2
  exact congrArg₂ max (congrArg₂ max (key _ _ (by omega) (by omega)) (key _ _ (by omega) (by omega)))
    (congrArg₂ max (key _ _ (by omega) (by omega)) (key _ _ (by omega) (by omega)))

/-- A layer on the pooled images. -/
def firstT (x : FVec Ideal S32x64x45x82 .f32) (w : FVec Ideal S128x64x3x3 .f32) (b g s : FVec Ideal S128 .f32) : FVec Ideal S32x128x45x82 .f32 :=
  bnBRelu (bnB (convB (padB x) w) b g s)

theorem firstT_at (x : FVec Ideal S32x64x45x82 .f32) (w : FVec Ideal S128x64x3x3 .f32) (b g s : FVec Ideal S128 .f32) (n : Fin 32)
    (f : ℕ → ℕ → Fin 64 → EReal) (hf : ∀ r c k, r < 45 → c < 82 → plane x n r c k = f r c k) (r c : ℕ) (o : Fin 128) (hr : r < 45) (hc : c < 82) :
    plane (firstT x w b g s) n r c o
      = reluPlain 45 82 f (taps (rawW w)) (fun o => b (ix1 o)) (fun o => g (ix1 o)) (fun o => s (ix1 o)) r c o := by
  refine (plane_in (firstT x w b g s) n r c o hr hc).trans ((bnBRelu_at _ n o ⟨r, hr⟩ ⟨c, hc⟩).trans ?_)
  unfold reluPlain
  rw [layerB_plain, plain_congr hf]

/-- A layer on the 128-channel images, before its activation. -/
def secondT (x : FVec Ideal S32x128x45x82 .f32) (w : FVec Ideal S128x128x3x3 .f32) (b g s : FVec Ideal S128 .f32) : FVec Ideal S32x128x45x82 .f32 :=
  bnB (convC (padC x) w) b g s

theorem secondT_at (x : FVec Ideal S32x128x45x82 .f32) (w : FVec Ideal S128x128x3x3 .f32) (b g s : FVec Ideal S128 .f32) (n : Fin 32)
    (f : ℕ → ℕ → Fin 128 → EReal) (hf : ∀ r c k, r < 45 → c < 82 → plane x n r c k = f r c k) (o : Fin 128) (r : Fin 45) (c : Fin 82) :
    secondT x w b g s (ix4 n o r c)
      = plain 45 82 f (taps (rawW w)) (fun o => b (ix1 o)) (fun o => g (ix1 o)) (fun o => s (ix1 o)) r c o := by
  unfold secondT
  rw [layerC_plain, plain_congr hf]

/-- The attention-pooled features of an attention batch and a feature batch. -/
def endT (Q G : FVec Ideal S32x128x45x82 .f32) : FVec Ideal S32x128x128 .f32 :=
  gathered (sigm (steepArg (lowered Q (leastOf Q)) (greatestOf (lowered Q (leastOf Q))))) (sigm G)

theorem endT_at (Q G : FVec Ideal S32x128x45x82 .f32) (n : Fin 32) (q g : ℕ → Fin 128 → EReal)
    (hq : ∀ o (r : Fin 45) (c : Fin 82), Q (ix4 n o r c) = q (r * 82 + c) o) (hg : ∀ o (r : Fin 45) (c : Fin 82), G (ix4 n o r c) = g (r * 82 + c) o) (i j : Fin 128) :
    endT Q G (ix3 n i j) = pooledPlain q (fun p o => Ideal.logistic (g p o)) i j := by
  have num : ∀ p : Fin 3690, p.val / 82 * 82 + p.val % 82 = p.val := fun p => by omega
  have hQ : ∀ (p : Fin 3690) o, plane Q n (p / 82) (p % 82) o = q p o := fun p o => by
    rw [plane_in Q n _ _ o (by omega) (by omega), hq]
    show q (p.val / 82 * 82 + p.val % 82) o = _
    rw [num]
  have hl : leastOf Q (ix1 n) = lowest q := (leastOf_at Q n).trans (lowest_congr hQ)
  have hL : ∀ o (r : Fin 45) (c : Fin 82), lowered Q (leastOf Q) (ix4 n o r c) = q (r * 82 + c) o - lowest q := fun o r c => by
    rw [lowered_at, hl, hq]
  have hh : greatestOf (lowered Q (leastOf Q)) (ix1 n) = highest fun p o => q p o - lowest q := by
    refine (greatestOf_at _ n).trans (highest_congr fun p o => ?_)
    rw [plane_in _ n _ _ o (by omega) (by omega), hL]
    show q (p.val / 82 * 82 + p.val % 82) o - _ = _
    rw [num]
  unfold endT pooledPlain
  rw [gathered_at, pixels_sum]
  refine congrArg (fun s => Ideal.div s (Ideal.ofBits FTy.f32 0x4566A000#32)) (Finset.sum_congr rfl fun p _ => congrArg₂ (· * ·) ?_ ?_)
  · rw [plane_in _ n _ _ i (by omega) (by omega), sigm_at, steepArg_at, hh, hL]
    unfold sharpened
    show Ideal.logistic (_ * (Ideal.div (q (p.val / 82 * 82 + p.val % 82) i - _) _ - _)) = _
    rw [num]
  · rw [plane_in _ n _ _ j (by omega) (by omega), sigm_at, hg]
    show Ideal.logistic (g (p.val / 82 * 82 + p.val % 82) j) = _
    rw [num]

/-- The whole reference on its arguments. -/
def whole (x : FVec Ideal S32x32x90x165 .f32) (c2w : FVec Ideal S64x32x3x3 .f32) (c2b c2g c2s : FVec Ideal S64 .f32)
    (a1w : FVec Ideal S128x64x3x3 .f32) (a1b a1g a1s : FVec Ideal S128 .f32) (a2w : FVec Ideal S128x128x3x3 .f32) (a2b a2g a2s : FVec Ideal S128 .f32)
    (p1w : FVec Ideal S128x64x3x3 .f32) (p1b p1g p1s : FVec Ideal S128 .f32) (p2w : FVec Ideal S128x128x3x3 .f32) (p2b p2g p2s : FVec Ideal S128 .f32) :
    FVec Ideal S32x128x128 .f32 :=
  endT (bnBRelu (secondT (firstT (pooledT x c2w c2b c2g c2s) p1w p1b p1g p1s) p2w p2b p2g p2s))
    (secondT (firstT (pooledT x c2w c2b c2g c2s) a1w a1b a1g a1s) a2w a2b a2g a2s)

theorem whole_at (x : FVec Ideal S32x32x90x165 .f32) (c2w : FVec Ideal S64x32x3x3 .f32) (c2b c2g c2s : FVec Ideal S64 .f32)
    (a1w : FVec Ideal S128x64x3x3 .f32) (a1b a1g a1s : FVec Ideal S128 .f32) (a2w : FVec Ideal S128x128x3x3 .f32) (a2b a2g a2s : FVec Ideal S128 .f32)
    (p1w : FVec Ideal S128x64x3x3 .f32) (p1b p1g p1s : FVec Ideal S128 .f32) (p2w : FVec Ideal S128x128x3x3 .f32) (p2b p2g p2s : FVec Ideal S128 .f32)
    (n : Fin 32) (i j : Fin 128) :
    whole x c2w c2b c2g c2s a1w a1b a1g a1s a2w a2b a2g a2s p1w p1b p1g p1s p2w p2b p2g p2s (ix3 n i j)
      = trunkPlain (plane x n) (taps (rawW c2w)) (fun o => c2b (ix1 o)) (fun o => c2g (ix1 o)) (fun o => c2s (ix1 o))
          (taps (rawW a1w)) (fun o => a1b (ix1 o)) (fun o => a1g (ix1 o)) (fun o => a1s (ix1 o))
          (taps (rawW a2w)) (fun o => a2b (ix1 o)) (fun o => a2g (ix1 o)) (fun o => a2s (ix1 o))
          (taps (rawW p1w)) (fun o => p1b (ix1 o)) (fun o => p1g (ix1 o)) (fun o => p1s (ix1 o))
          (taps (rawW p2w)) (fun o => p2b (ix1 o)) (fun o => p2g (ix1 o)) (fun o => p2s (ix1 o)) i j := by
  have h2 := fun r c k hr hc => pooledT_at x c2w c2b c2g c2s n r c k hr hc
  have ha := fun r c k hr hc => firstT_at _ a1w a1b a1g a1s n _ h2 r c k hr hc
  have hp := fun r c k hr hc => firstT_at _ p1w p1b p1g p1s n _ h2 r c k hr hc
  have d : ∀ (r : Fin 45) (c : Fin 82), (r.val * 82 + c.val) / 82 = r.val := fun r c => by omega
  have e : ∀ (r : Fin 45) (c : Fin 82), (r.val * 82 + c.val) % 82 = c.val := fun r c => by omega
  unfold whole trunkPlain
  refine (endT_at _ _ n
    (fun p o => reluPlain 45 82 (reluPlain 45 82 (poolPlain 90 165 (plane x n) (taps (rawW c2w)) (fun o => c2b (ix1 o)) (fun o => c2g (ix1 o)) (fun o => c2s (ix1 o))) (taps (rawW p1w)) (fun o => p1b (ix1 o)) (fun o => p1g (ix1 o)) (fun o => p1s (ix1 o))) (taps (rawW p2w)) (fun o => p2b (ix1 o)) (fun o => p2g (ix1 o)) (fun o => p2s (ix1 o)) (p / 82) (p % 82) o)
    (fun p o => plain 45 82 (reluPlain 45 82 (poolPlain 90 165 (plane x n) (taps (rawW c2w)) (fun o => c2b (ix1 o)) (fun o => c2g (ix1 o)) (fun o => c2s (ix1 o))) (taps (rawW a1w)) (fun o => a1b (ix1 o)) (fun o => a1g (ix1 o)) (fun o => a1s (ix1 o))) (taps (rawW a2w)) (fun o => a2b (ix1 o)) (fun o => a2g (ix1 o)) (fun o => a2s (ix1 o)) (p / 82) (p % 82) o)
    ?_ ?_ i j).trans rfl
  · intro o r c
    rw [bnBRelu_at, secondT_at _ p2w p2b p2g p2s n _ hp, d, e]
    rfl
  · intro o r c
    rw [secondT_at _ a2w a2b a2g a2s n _ ha, d, e]

end Cert.ReferenceIdeal.Trunk

end
-- ==== Proof.Trunk.Agree.lean ====
/- On real arguments the kernel's result is the reference's. -/
module

public import proofs.«01_k».proof.Proof.Trunk.Blocks
public import proofs.«01_k».proof.Proof.Trunk.Result
public import proofs.«01_k».proof.Proof.Trunk.RefC

@[expose] public section

set_option maxRecDepth 16384

noncomputable section

namespace Cert.Trunk

open Idealize.ShloMosaic
open Cert.KernelIdeal.Trunk (foldW foldB result)
open Cert.ReferenceIdeal.Trunk (rawW plane whole whole_at)

theorem taps_fold {O K : ℕ} (w : FVec Ideal ⟨4, ![O, K, 3, 3]⟩ .f32) (g : FVec Ideal ⟨1, ![O]⟩ .f32) :
    taps (foldW w g) = fun t k o => taps (rawW w) t k o * g (ix1 o) := by
  funext t k o
  unfold taps
  split
  · rfl
  · rw [zero_mul]

theorem bias_fold {O : ℕ} (b g s : FVec Ideal ⟨1, ![O]⟩ .f32) : foldB b g s = fun o => b (ix1 o) * g (ix1 o) + s (ix1 o) := rfl

theorem taps_real {O K : ℕ} (w : FVec Ideal ⟨4, ![O, K, 3, 3]⟩ .f32) (h : ∀ i, IsReal (w i)) (t : ℕ) (k : Fin K) (o : Fin O) : IsReal (taps (rawW w) t k o) := by
  unfold taps
  split
  · exact h _
  · exact isReal_zero

theorem plane_real {B K H W : ℕ} (x : FVec Ideal ⟨4, ![B, K, H, W]⟩ .f32) (h : ∀ i, IsReal (x i)) (n : Fin B) (r c : ℕ) (k : Fin K) : IsReal (plane x n r c k) := by
  unfold plane image
  split
  · exact h _
  · exact isReal_zero

/-- The kernel's result at an index is the reference's, on real arguments. -/
theorem agree (x : FVec Ideal ⟨4, ![32, 32, 90, 165]⟩ .f32) (c2w : FVec Ideal ⟨4, ![64, 32, 3, 3]⟩ .f32) (c2b : FVec Ideal ⟨1, ![64]⟩ .f32) (c2g : FVec Ideal ⟨1, ![64]⟩ .f32) (c2s : FVec Ideal ⟨1, ![64]⟩ .f32) (a1w : FVec Ideal ⟨4, ![128, 64, 3, 3]⟩ .f32) (a1b : FVec Ideal ⟨1, ![128]⟩ .f32) (a1g : FVec Ideal ⟨1, ![128]⟩ .f32) (a1s : FVec Ideal ⟨1, ![128]⟩ .f32) (a2w : FVec Ideal ⟨4, ![128, 128, 3, 3]⟩ .f32) (a2b : FVec Ideal ⟨1, ![128]⟩ .f32) (a2g : FVec Ideal ⟨1, ![128]⟩ .f32) (a2s : FVec Ideal ⟨1, ![128]⟩ .f32) (p1w : FVec Ideal ⟨4, ![128, 64, 3, 3]⟩ .f32) (p1b : FVec Ideal ⟨1, ![128]⟩ .f32) (p1g : FVec Ideal ⟨1, ![128]⟩ .f32) (p1s : FVec Ideal ⟨1, ![128]⟩ .f32) (p2w : FVec Ideal ⟨4, ![128, 128, 3, 3]⟩ .f32) (p2b : FVec Ideal ⟨1, ![128]⟩ .f32) (p2g : FVec Ideal ⟨1, ![128]⟩ .f32) (p2s : FVec Ideal ⟨1, ![128]⟩ .f32)
    (hx : ∀ i, IsReal (x i)) (hc2w : ∀ i, IsReal (c2w i)) (hc2b : ∀ i, IsReal (c2b i)) (hc2g : ∀ i, IsReal (c2g i)) (hc2s : ∀ i, IsReal (c2s i)) (ha1w : ∀ i, IsReal (a1w i)) (ha1b : ∀ i, IsReal (a1b i)) (ha1g : ∀ i, IsReal (a1g i)) (ha1s : ∀ i, IsReal (a1s i)) (ha2w : ∀ i, IsReal (a2w i)) (ha2b : ∀ i, IsReal (a2b i)) (ha2g : ∀ i, IsReal (a2g i)) (ha2s : ∀ i, IsReal (a2s i)) (hp1w : ∀ i, IsReal (p1w i)) (hp1b : ∀ i, IsReal (p1b i)) (hp1g : ∀ i, IsReal (p1g i)) (hp1s : ∀ i, IsReal (p1s i)) (hp2w : ∀ i, IsReal (p2w i)) (hp2b : ∀ i, IsReal (p2b i)) (hp2g : ∀ i, IsReal (p2g i)) (hp2s : ∀ i, IsReal (p2s i)) (n : Fin 32) (i j : Fin 128) :
    result x c2w c2b c2g c2s a1w a1b a1g a1s a2w a2b a2g a2s p1w p1b p1g p1s p2w p2b p2g p2s n i j = whole x c2w c2b c2g c2s a1w a1b a1g a1s a2w a2b a2g a2s p1w p1b p1g p1s p2w p2b p2g p2s (ix3 n i j) := by
  rw [whole_at, trunkPlain_eq _ _ _ _ _ _ _ _ _ _ _ _ _ _ _ _ _ _ _ _ _ (fun r c k => plane_real x hx n r c k)
    (taps_real _ hc2w) (fun o => hc2b _) (fun o => hc2g _) (fun o => hc2s _) (taps_real _ ha1w) (fun o => ha1b _) (fun o => ha1g _) (fun o => ha1s _) (taps_real _ ha2w) (fun o => ha2b _) (fun o => ha2g _) (fun o => ha2s _) (taps_real _ hp1w) (fun o => hp1b _) (fun o => hp1g _) (fun o => hp1s _) (taps_real _ hp2w) (fun o => hp2b _) (fun o => hp2g _) (fun o => hp2s _)]
  unfold result
  rw [taps_fold c2w c2g, bias_fold c2b c2g c2s, taps_fold a1w a1g, bias_fold a1b a1g a1s, taps_fold a2w a2g, bias_fold a2b a2g a2s, taps_fold p1w p1g, bias_fold p1b p1g p1s, taps_fold p2w p2g, bias_fold p2b p2g p2s]
  rfl

end Cert.Trunk

end
-- ==== Proof.Trunk.RefRun.lean ====
/- The reference's run ends with the whole reference's value, arguments kept. -/
module

public import proofs.«01_k».proof.Proof.Trunk.RefC

@[expose] public section

set_option maxRecDepth 16384

noncomputable section

namespace Cert.ReferenceIdeal.Trunk

open Idealize.ShloMosaic Idealize.ShloMosaic.TcCoe Idealize.SL.Sem Idealize.ShloMosaic.StableHlo
open Cert.ReferenceIdeal Cert.ReferenceIdeal.Gen Cert.ReferenceIdeal.Value Cert.Trunk

variable (V : Valuation τ sig (Elt Ideal))

theorem t65 : res_main_v65 (F := Ideal) V = pooledT (V (Proc.devRef .tc main_arg0)) (V (Proc.devRef .tc main_arg1)) (V (Proc.devRef .tc main_arg2)) (V (Proc.devRef .tc main_arg3)) (V (Proc.devRef .tc main_arg4)) := rfl

theorem t183 : res_main_v183 (F := Ideal) V = convC (padC (firstT (res_main_v65 V) (V (Proc.devRef .tc main_arg5)) (V (Proc.devRef .tc main_arg6)) (V (Proc.devRef .tc main_arg7)) (V (Proc.devRef .tc main_arg8)))) (V (Proc.devRef .tc main_arg9)) := rfl

theorem t326 : res_main_v326 (F := Ideal) V = bnBRelu (secondT (firstT (res_main_v65 V) (V (Proc.devRef .tc main_arg13)) (V (Proc.devRef .tc main_arg14)) (V (Proc.devRef .tc main_arg15)) (V (Proc.devRef .tc main_arg16))) (V (Proc.devRef .tc main_arg17)) (V (Proc.devRef .tc main_arg18)) (V (Proc.devRef .tc main_arg19)) (V (Proc.devRef .tc main_arg20))) := rfl

theorem t330 : res_main_v330 (F := Ideal) V = lowered (res_main_v326 V) (leastOf (res_main_v326 V)) := rfl

/-- The composed term of the result is the whole reference. -/
theorem term_whole :
    (Host.divf (Host.dotGeneral dot_S32x128x45x82_S32x128x45x82_S32x128x128_23_23_1_1_0_0 none (Host.divf (broadcastInDim S32x128x45x82 ![] bcast_S_S32x128x45x82 (constant S_ .f32 0x3F800000#32)) (addf (broadcastInDim S32x128x45x82 ![] bcast_S_S32x128x45x82 (constant S_ .f32 0x3F800000#32)) (Host.exp (Host.negf (mulf (broadcastInDim S32x128x45x82 ![] bcast_S_S32x128x45x82 (constant S_ .f32 0x41200000#32)) (subf (Host.divf (res_main_v330 V) (broadcastInDim S32x128x45x82 ![0, 1, 2, 3] bcast_S32x1x1x1_S32x128x45x82_0_1_2_3 (maximumf (broadcastInDim S32x1x1x1 ![0] bcast_S32_S32x1x1x1_0 (Host.reduce FloatOps.maximumf (res_main_v330 V) (constant S_ .f32 0xFF800000#32) reducesTo_S32x128x45x82_S32_d1_2_3 h_S_)) (broadcastInDim S32x1x1x1 ![] bcast_S_S32x1x1x1 (constant S_ .f32 0x38D1B717#32))))) (broadcastInDim S32x128x45x82 ![] bcast_S_S32x128x45x82 (constant S_ .f32 0x3F000000#32)))))))) (Host.divf (broadcastInDim S32x128x45x82 ![] bcast_S_S32x128x45x82 (constant S_ .f32 0x3F800000#32)) (addf (broadcastInDim S32x128x45x82 ![] bcast_S_S32x128x45x82 (constant S_ .f32 0x3F800000#32)) (Host.exp (Host.negf (addf (mulf (addf (res_main_v183 V) (broadcastInDim S32x128x45x82 ![0, 1, 2, 3] bcast_S1x128x1x1_S32x128x45x82_0_1_2_3 (broadcastInDim S1x128x1x1 ![1] bcast_S128_S1x128x1x1_1 (V (Proc.devRef .tc main_arg10))))) (broadcastInDim S32x128x45x82 ![0, 1, 2, 3] bcast_S1x128x1x1_S32x128x45x82_0_1_2_3 (broadcastInDim S1x128x1x1 ![1] bcast_S128_S1x128x1x1_1 (V (Proc.devRef .tc main_arg11))))) (broadcastInDim S32x128x45x82 ![0, 1, 2, 3] bcast_S1x128x1x1_S32x128x45x82_0_1_2_3 (broadcastInDim S1x128x1x1 ![1] bcast_S128_S1x128x1x1_1 (V (Proc.devRef .tc main_arg12)))))))))) (broadcastInDim S32x128x128 ![] bcast_S_S32x128x128 (constant S_ .f32 0x4566A000#32)) : FVec Ideal S32x128x128 .f32)
      = whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  refine Eq.trans (b := endT (res_main_v326 V) (bnB (res_main_v183 V) (V (Proc.devRef .tc main_arg10)) (V (Proc.devRef .tc main_arg11)) (V (Proc.devRef .tc main_arg12)))) ?_ ?_
  · rfl
  · rw [t326, t183, t65]
    rfl

end Cert.ReferenceIdeal.Trunk

end
-- ==== Proof.Trunk.Finite.lean ====
/- What the precondition says: every element of every argument is a real number. -/
module

public import proofs.«01_k».proof.Proof.Gen.Pre_finite
public import proofs.«01_k».proof.Proof.Trunk.Plain
public import Idealize.ShloMosaic.Lib.ReduceAll
public import Idealize.ShloMosaic.Lib.Pointwise

@[expose] public section

set_option maxRecDepth 16384

noncomputable section

namespace Cert.Pre_finite.Trunk

open Idealize.ShloMosaic Idealize.SL.Sem
open Cert.Pre_finite Cert.Pre_finite.Gen Cert.Trunk

/-- A magnitude below the infinite pattern is a real number. -/
theorem real_of_lt (x : EReal) (h : FloatOps.cmpf (F := Ideal) (φ := .f32) .olt (FloatOps.hostAbsf (F := Ideal) (φ := .f32) x) (Ideal.ofBits FTy.f32 0x7F800000#32) = 1#1) : IsReal x := by
  have htop : Ideal.ofBits FTy.f32 0x7F800000#32 = ⊤ := by simp [Ideal.ofBits, Ideal.ieee]
  rw [htop] at h
  induction x using EReal.rec with
  | bot => exact absurd h (by simp [FloatOps.cmpf, FloatOps.hostAbsf, Ideal.cmp])
  | top => exact absurd h (by simp [FloatOps.cmpf, FloatOps.hostAbsf, Ideal.cmp])
  | coe r => exact ⟨r, rfl⟩

theorem real_of_all {s : Shape} {axes : List (Fin s.rank)} (bc : S_.BroadcastsInDim s ![]) (hr : s.ReducesTo axes S_) (hu : 0 < S_.numel)
    (x : FVec Ideal s .f32) (j : S_.Idx)
    (h : Host.reduce IntOp.andi (cmpf .olt (Host.absf x) (broadcastInDim s ![] bc (constant S_ .f32 0x7F800000#32))) (constantI S_ 1 1#1) hr hu j = 1#1) (i : s.Idx) :
    IsReal (x i) := by
  haveI : Subsingleton S_.Idx := ⟨fun a b => funext fun k => k.elim0⟩
  exact real_of_lt (x i) (Host.reduce_andi_all _ _ hr hu j h i)

theorem andi_at (a b : IVec S_ 1) (j : S_.Idx) (h : andi a b j = 1#1) : a j = 1#1 ∧ b j = 1#1 := IntOp.andi_eq_one.1 h

theorem all_real (x0 : FVec Ideal S32x32x90x165 .f32) (x1 : FVec Ideal S64x32x3x3 .f32) (x2 : FVec Ideal S64 .f32) (x3 : FVec Ideal S64 .f32) (x4 : FVec Ideal S64 .f32) (x5 : FVec Ideal S128x64x3x3 .f32) (x6 : FVec Ideal S128 .f32) (x7 : FVec Ideal S128 .f32) (x8 : FVec Ideal S128 .f32) (x9 : FVec Ideal S128x128x3x3 .f32) (x10 : FVec Ideal S128 .f32) (x11 : FVec Ideal S128 .f32) (x12 : FVec Ideal S128 .f32) (x13 : FVec Ideal S128x64x3x3 .f32) (x14 : FVec Ideal S128 .f32) (x15 : FVec Ideal S128 .f32) (x16 : FVec Ideal S128 .f32) (x17 : FVec Ideal S128x128x3x3 .f32) (x18 : FVec Ideal S128 .f32) (x19 : FVec Ideal S128 .f32) (x20 : FVec Ideal S128 .f32)
    (h : fn x0 x1 x2 x3 x4 x5 x6 x7 x8 x9 x10 x11 x12 x13 x14 x15 x16 x17 x18 x19 x20 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) ∧ (∀ i, IsReal (x18 i)) ∧ (∀ i, IsReal (x19 i)) ∧ (∀ i, IsReal (x20 i)) := by
  have e := congrFun h (fun k => k.elim0)
  simp only [fn, fn_part1, fn_part2, fn_part3, fn_part4, fn_part5, fn_part6] at e
  obtain ⟨e, e20⟩ := andi_at _ _ _ e
  obtain ⟨e, e19⟩ := andi_at _ _ _ e
  obtain ⟨e, e18⟩ := andi_at _ _ _ e
  obtain ⟨e, e17⟩ := andi_at _ _ _ e
  obtain ⟨e, e16⟩ := andi_at _ _ _ e
  obtain ⟨e, e15⟩ := andi_at _ _ _ e
  obtain ⟨e, e14⟩ := andi_at _ _ _ e
  obtain ⟨e, e13⟩ := andi_at _ _ _ e
  obtain ⟨e, e12⟩ := andi_at _ _ _ e
  obtain ⟨e, e11⟩ := andi_at _ _ _ e
  obtain ⟨e, e10⟩ := andi_at _ _ _ e
  obtain ⟨e, e9⟩ := andi_at _ _ _ e
  obtain ⟨e, e8⟩ := andi_at _ _ _ e
  obtain ⟨e, e7⟩ := andi_at _ _ _ e
  obtain ⟨e, e6⟩ := andi_at _ _ _ e
  obtain ⟨e, e5⟩ := andi_at _ _ _ e
  obtain ⟨e, e4⟩ := andi_at _ _ _ e
  obtain ⟨e, e3⟩ := andi_at _ _ _ e
  obtain ⟨e, e2⟩ := andi_at _ _ _ e
  obtain ⟨e, e1⟩ := andi_at _ _ _ e
  exact ⟨real_of_all _ _ _ _ _ e, real_of_all _ _ _ _ _ e1, real_of_all _ _ _ _ _ e2, real_of_all _ _ _ _ _ e3, real_of_all _ _ _ _ _ e4, real_of_all _ _ _ _ _ e5, real_of_all _ _ _ _ _ e6, real_of_all _ _ _ _ _ e7, real_of_all _ _ _ _ _ e8, real_of_all _ _ _ _ _ e9, real_of_all _ _ _ _ _ e10, real_of_all _ _ _ _ _ e11, real_of_all _ _ _ _ _ e12, real_of_all _ _ _ _ _ e13, real_of_all _ _ _ _ _ e14, real_of_all _ _ _ _ _ e15, real_of_all _ _ _ _ _ e16, real_of_all _ _ _ _ _ e17, real_of_all _ _ _ _ _ e18, real_of_all _ _ _ _ _ e19, real_of_all _ _ _ _ _ e20⟩

end Cert.Pre_finite.Trunk

end
-- ==== Proof.Trunk.Claims.lean ====
/- The claims, one theorem each. -/
module

public import proofs.«01_k».proof.Defs
public import proofs.«01_k».proof.Proof.Gen.Kernel.Frame
public import proofs.«01_k».proof.Proof.Gen.KernelIdeal.Value
public import proofs.«01_k».proof.Proof.Trunk.Agree
public import proofs.«01_k».proof.Proof.Trunk.RefRun
public import proofs.«01_k».proof.Proof.Trunk.Finite
public import Idealize.ShloMosaic.Adequacy
public import Idealize.ShloMosaic.Init

@[expose] public section

set_option maxRecDepth 16384

noncomputable section

namespace Cert.Trunk

open Idealize.ShloMosaic Idealize.ShloMosaic.TcCoe Idealize.SL.Sem

theorem frame_kernel : Cert.quiescent_Kernel := fun m g _ => Cert.Kernel.Gen.frame m g

theorem frame_ideal : Cert.quiescent_KernelIdeal := fun m g _ => Cert.KernelIdeal.Gen.frame m g

theorem frame_ideal_finite : Cert.quiescent_KernelIdeal_pre_finite := fun m g _ => Cert.KernelIdeal.Gen.frame m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_finite : Cert.quiescent_ReferenceIdeal_pre_finite := fun m g _ => frame_reference m g trivial

/-- The one named constant: one over the 3690 pixels. -/
theorem preserves : Cert.preserves_Kernel_KernelIdeal :=
  IdealRules.named_const.statement Cert.KernelIdeal.κ "inv_p" .f32 0x398E155E#32 ((3690⁻¹ : ℝ) : EReal) rfl

/-- The two results on one device's arguments. -/
theorem results (m : (ℓ : Loc Cert.KernelIdeal.nD Cert.KernelIdeal.τ Cert.KernelIdeal.sig) → Buf (Elt Ideal) ℓ) (c : Dev Cert.KernelIdeal.nD) (h : Cert.Pre_KernelIdeal_finite m) :
    (Cert.ReferenceIdeal.Trunk.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) : FVec Ideal Cert.KernelIdeal.S32x128x128 .f32)
      = (Cert.KernelIdeal.Gen.dats m 0 c).arrAt 11 Cert.KernelIdeal.cfg0.N := by
  obtain ⟨h0, h1, h2, h3, h4, h5, h6, h7, h8, h9, h10, h11, h12, h13, h14, h15, h16, h17, h18, h19, h20⟩ := Cert.Pre_finite.Trunk.all_real _ _ _ _ _ _ _ _ _ _ _ _ _ _ _ _ _ _ _ _ _ (h c)
  refine Eq.trans ?_ (Cert.KernelIdeal.Trunk.final m c).symm
  funext y
  have hy : y = ix3 (y 0) (y 1) (y 2) := by
    funext a
    match a with
    | 0 => rfl
    | 1 => rfl
    | 2 => rfl
  exact (congrArg _ hy).trans (agree _ _ _ _ _ _ _ _ _ _ _ _ _ _ _ _ _ _ _ _ _ h0 h1 h2 h3 h4 h5 h6 h7 h8 h9 h10 h11 h12 h13 h14 h15 h16 h17 h18 h19 h20 (y 0) (y 1) (y 2)).symm

theorem algebraic : Cert.algebraic_KernelIdeal_ReferenceIdeal_pre_finite := by
  intro m g m' g' hpre hagree
  refine ⟨fun c => (Cert.KernelIdeal.Gen.dats m 0 c).arrAt 11 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, e9, e10, e11, e12, e13, e14, e15, e16, e17, e18, e19, e20⟩ := hagree c
  refine (Cert.ReferenceIdeal.Trunk.term_whole (StableHlo.launchContents m' c)).trans (Eq.trans ?_ (results m c hpre))
  show Cert.ReferenceIdeal.Trunk.whole (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) = _
  rw [e0, e1, e2, e3, e4, e5, e6, e7, e8, e9, e10, e11, e12, e13, e14, e15, e16, e17, e18, e19, e20]

end Cert.Trunk

end
-- ==== Proof.First.Place.lean ====
/- The heatmap of a list of points, in plain mathematics: where a point's 37×37 patch lies, and what it adds to a pixel. -/
module

public import Idealize.ShloMosaic.Lib.Pointwise

@[expose] public section

set_option maxRecDepth 16384

noncomputable section

namespace Cert.First

open Idealize.ShloMosaic

/-- A 32-bit integer clipped to the range from zero to `H`. -/
def clip (H : ℕ) (p : BitVec 32) : BitVec 32 := IntOp.minsi (BitVec.ofNat 32 H) (IntOp.maxsi 0#32 p)

/-- The first pixel of the patch around `p`, at most `A`. -/
def lo (A : ℕ) (p : BitVec 32) : ℕ := (clip A (p - 18#32)).toNat

/-- The end of the patch around `p`, at most `B`. -/
def up (B : ℕ) (p : BitVec 32) : ℕ := (clip B (p + 18#32)).toNat

/-- The row a point's first coordinate falls in. -/
def rowOf (x : EReal) : BitVec 32 :=
  180#32 - Ideal.fptosi 32 ((x - Ideal.ofBits FTy.f32 0x41F00000#32) * Ideal.ofBits FTy.f32 0x43340000#32)

/-- The column a point's second coordinate falls in. -/
def colOf (y : EReal) : BitVec 32 :=
  Ideal.fptosi 32 ((y - Ideal.ofBits FTy.f32 0x42F00000#32) * Ideal.ofBits FTy.f32 0x43250000#32)

/-- The bell curve at position `d` of a patch of 37. -/
def bell (d : ℕ) : EReal := ((Real.exp (-(((d : ℝ) - 18) * ((d : ℝ) - 18)) / 18) : ℝ) : EReal)

/-- The bell curve around a point along one axis, at pixel `n`. -/
def along (A B : ℕ) (p : BitVec 32) (n : ℕ) : EReal := if lo A p ≤ n ∧ n < up B p then bell (n - lo A p) else 0

/-- What makes the patch sum to one. -/
def norm : EReal := Ideal.ofBits FTy.f32 0x3C90DDCA#32

/-- The heatmap: every point's patch added up. -/
def heat (xs ys : Fin 1024 → EReal) (h w : ℕ) : EReal :=
  ∑ t, along 144 180 (rowOf (xs t)) h * norm * along 294 330 (colOf (ys t)) w

theorem clip_toInt (H : ℕ) (hH : H < 1000) (p : BitVec 32) : (clip H p).toInt = min (H : ℤ) (max 0 p.toInt) := by
  have h1 : (BitVec.ofNat 32 H).toInt = H := by
    rw [BitVec.toInt_eq_toNat_of_lt] <;> rw [BitVec.toNat_ofNat] <;> omega
  unfold clip IntOp.minsi IntOp.maxsi
  simp only [BitVec.slt, h1]
  have h0 : (0#32).toInt = 0 := by decide
  split_ifs with a b b <;> simp only [h0, h1, decide_eq_true_eq] at * <;> omega

theorem clip_toNat (H : ℕ) (hH : H < 1000) (p : BitVec 32) : ((clip H p).toNat : ℤ) = min (H : ℤ) (max 0 p.toInt) := by
  have h := clip_toInt H hH p
  have h2 := (clip H p).isLt
  rw [BitVec.toInt_eq_toNat_cond] at h
  split_ifs at h with h3 <;> omega

theorem lo_le (A : ℕ) (hA : A < 1000) (p : BitVec 32) : lo A p ≤ A := by
  have := clip_toNat A hA (p - 18#32)
  unfold lo
  omega

theorem up_le (B : ℕ) (hB : B < 1000) (p : BitVec 32) : up B p ≤ B := by
  have := clip_toNat B hB (p + 18#32)
  unfold up
  omega

/-- A patch is never longer than 36 pixels. -/
theorem up_lo (A : ℕ) (hA : A < 900) (p : BitVec 32) : up (A + 36) p ≤ lo A p + 36 := by
  have h1 := clip_toNat A (by omega) (p - 18#32)
  have h2 := clip_toNat (A + 36) (by omega) (p + 18#32)
  have e1 : (p - 18#32).toInt = (p.toInt - 18).bmod (2 ^ 32) := by rw [BitVec.toInt_sub, show (18#32).toInt = 18 by decide]
  have e2 : (p + 18#32).toInt = (p.toInt + 18).bmod (2 ^ 32) := by rw [BitVec.toInt_add, show (18#32).toInt = 18 by decide]
  have l1 := p.toInt_lt
  have l2 := p.le_toInt
  unfold lo up
  generalize (p - 18#32).toInt = a at h1 e1
  generalize (p + 18#32).toInt = b at h2 e2
  rw [Int.bmod_def] at e1 e2
  norm_num at e1 e2 l1 l2
  split_ifs at e1 e2 <;> omega

/-- Small integers compare as their values. -/
theorem small_toInt (r : ℕ) (hr : r < 1000000000) : (BitVec.ofNat 32 r).toInt = r := by
  rw [BitVec.toInt_eq_toNat_of_lt] <;> rw [BitVec.toNat_ofNat] <;> omega

theorem sub_toInt (a b : BitVec 32) (ha : a.toNat < 1000) (hb : b.toNat < 1000) : (a - b).toInt = (a.toNat : ℤ) - b.toNat := by
  have h1 : a.toInt = a.toNat := by rw [BitVec.toInt_eq_toNat_of_lt]; omega
  have h2 : b.toInt = b.toNat := by rw [BitVec.toInt_eq_toNat_of_lt]; omega
  rw [BitVec.toInt_sub, h1, h2, Int.bmod_def]
  norm_num
  split_ifs <;> omega

end Cert.First

end
-- ==== Proof.First.Bell.lean ====
/- The patch's mask and bell curve, as the integers and exponentials of the two programs compute them. -/
module

public import proofs.«01_k».proof.Proof.First.Place

@[expose] public section

set_option maxRecDepth 16384

noncomputable section

namespace Cert.First

open Idealize.ShloMosaic

theorem eighteen : Ideal.ofBits FTy.f32 0x41900000#32 = ((18 : ℝ) : EReal) := by
  simp [Ideal.ofBits, Ideal.ieee, -EReal.coe_mul]
  norm_num

theorem minus_eighteen : Ideal.ofBits FTy.f32 0xC1900000#32 = ((-18 : ℝ) : EReal) := by
  simp [Ideal.ofBits, Ideal.ieee, -EReal.coe_mul]
  norm_num

/-- A mask of the distance from the patch's first pixel says whether the pixel lies in the patch. -/
theorem inside (A B : ℕ) (hA : A < 900) (hB : B < 900) (p : BitVec 32) (n : ℕ) (hn : n < 900) :
    IntOp.andi (IntOp.cmpi CmpIPredicate.sge (IntOp.subi (BitVec.ofNat 32 n) (clip A (p - 18#32))) 0#32)
      (IntOp.cmpi CmpIPredicate.slt (IntOp.subi (BitVec.ofNat 32 n) (clip A (p - 18#32)))
        (IntOp.subi (clip B (p + 18#32)) (clip A (p - 18#32)))) = BitVec.ofBool (decide (lo A p ≤ n ∧ n < up B p)) := by
  have h1 := lo_le A (by omega) p
  have h2 := up_le B (by omega) p
  unfold lo at h1
  unfold up at h2
  have hn' : (BitVec.ofNat 32 n).toNat = n := by rw [BitVec.toNat_ofNat]; omega
  have e1 := sub_toInt (BitVec.ofNat 32 n) (clip A (p - 18#32)) (by omega) (by omega)
  have e2 := sub_toInt (clip B (p + 18#32)) (clip A (p - 18#32)) (by omega) (by omega)
  rw [hn'] at e1
  unfold IntOp.andi IntOp.cmpi IntOp.subi lo up
  simp only [BitVec.sle, BitVec.slt, e1, e2, show (0#32).toInt = 0 by decide]
  rw [show ∀ a b : Bool, BitVec.ofBool a &&& BitVec.ofBool b = BitVec.ofBool (a && b) by decide]
  congr 1
  rw [← Bool.decide_and]
  exact decide_eq_decide.2 (by omega)

/-- Past the first pixel, the distance counts the pixels. -/
theorem distance (A : ℕ) (hA : A < 900) (p : BitVec 32) (n : ℕ) (hn : n < 900) (h : lo A p ≤ n) :
    (IntOp.subi (BitVec.ofNat 32 n) (clip A (p - 18#32))).toInt = ((n - lo A p : ℕ) : ℤ) := by
  have h1 := lo_le A (by omega) p
  have hn' : (BitVec.ofNat 32 n).toNat = n := by rw [BitVec.toNat_ofNat]; omega
  have e1 := sub_toInt (BitVec.ofNat 32 n) (clip A (p - 18#32)) (by omega) (by unfold lo at h1; omega)
  rw [hn'] at e1
  refine e1.trans ?_
  unfold lo at *
  omega

/-- The bell curve from the product with a reciprocal. -/
theorem bell_product (b : BitVec 32) (d : ℕ) (h : b.toInt = d) :
    Ideal.exp ((0 - (((b.toInt : ℝ) : EReal) - Ideal.ofBits FTy.f32 0x41900000#32) * (((b.toInt : ℝ) : EReal) - Ideal.ofBits FTy.f32 0x41900000#32))
      * (((18 : ℝ)⁻¹ : ℝ) : EReal)) = bell d := by
  rw [eighteen, h]
  unfold bell
  rw [← EReal.coe_sub, ← EReal.coe_mul, ← EReal.coe_zero, ← EReal.coe_sub, ← EReal.coe_mul, Ideal.exp_coe]
  congr 2
  push_cast
  ring

/-- The bell curve from the quotient. -/
theorem bell_quotient (d : ℕ) :
    Ideal.exp (Ideal.div (-((((-18 : ℝ) : EReal) + ((d : ℝ) : EReal)) * (((-18 : ℝ) : EReal) + ((d : ℝ) : EReal)))) ((18 : ℝ) : EReal)) = bell d := by
  unfold bell
  rw [Ideal.div_coe (by norm_num), ← EReal.coe_add, ← EReal.coe_mul, ← EReal.coe_neg, ← EReal.coe_mul, Ideal.exp_coe]
  congr 2
  ring

theorem select_bit {α : Type} (c : Prop) [Decidable c] (y z : α) : Scalar.select (BitVec.ofBool (decide c)) y z = if c then y else z := by
  unfold Scalar.select
  by_cases h : c <;> simp [h]

theorem bell_real (d : ℕ) : ∃ r : ℝ, bell d = (r : EReal) ∧ 0 ≤ r := ⟨_, rfl, (Real.exp_pos _).le⟩

theorem norm_real : ∃ r : ℝ, norm = (r : EReal) ∧ 0 ≤ r := by
  refine ⟨9493962 / 536870912, ?_, by norm_num⟩
  unfold norm
  simp [Ideal.ofBits, Ideal.ieee, -EReal.coe_mul]
  norm_num

theorem along_real (A B : ℕ) (p : BitVec 32) (n : ℕ) : ∃ r : ℝ, along A B p n = (r : EReal) ∧ 0 ≤ r := by
  unfold along
  split_ifs
  · exact bell_real _
  · exact ⟨0, EReal.coe_zero.symm, le_rfl⟩

/-- Every pixel of the heatmap is a real number, and none is negative. -/
theorem heat_real (xs ys : Fin 1024 → EReal) (h w : ℕ) : ∃ r : ℝ, heat xs ys h w = (r : EReal) ∧ 0 ≤ r := by
  choose a ha ha0 using fun t => along_real 144 180 (rowOf (xs t)) h
  choose b hb hb0 using fun t => along_real 294 330 (colOf (ys t)) w
  obtain ⟨q, hq, hq0⟩ := norm_real
  refine ⟨∑ t, a t * q * b t, ?_, Finset.sum_nonneg fun t _ => mul_nonneg (mul_nonneg (ha0 t) hq0) (hb0 t)⟩
  unfold heat
  simp only [ha, hb, hq, ← EReal.coe_mul]
  exact (map_sum (⟨⟨fun x : ℝ => (x : EReal), EReal.coe_zero⟩, EReal.coe_add⟩ : ℝ →+ EReal) _ _).symm

end Cert.First

end
-- ==== Proof.First.Picture.lean ====
/- The fused picture, in plain mathematics: the heatmap scaled by its largest pixel, mixed with the image. -/
module

public import proofs.«01_k».proof.Proof.First.Bell
public import proofs.«01_k».proof.Proof.Trunk.Spec

@[expose] public section

set_option maxRecDepth 16384

noncomputable section

namespace Cert.First

open Idealize.ShloMosaic Cert.Trunk

/-- The largest pixel of a heatmap. -/
def peak (H : ℕ → ℕ → EReal) : EReal := ⨆ h : Fin 180, ⨆ w : Fin 330, H h w

/-- Seven tenths of the heatmap over its largest pixel, three tenths of the image; the scale is worked out first. -/
def fused (H img : ℕ → ℕ → EReal) (r c : ℕ) (k : Fin 1) : EReal :=
  Ideal.div (Ideal.ofBits FTy.f32 0x3F333333#32) (peak H + Ideal.ofBits FTy.f32 0x2EDBE6FF#32) * H r c + Ideal.ofBits FTy.f32 0x3E99999A#32 * img r c

theorem fold_max_least {ι : Type} [Fintype ι] (f : ι → EReal) : Finset.fold max ⊥ f Finset.univ = ⨆ i, f i := by
  rw [← Finset.sup_univ_eq_iSup]
  rfl

theorem fold_pair (f : Fin 2 → EReal) : Finset.fold max ⊥ f Finset.univ = max (f 0) (f 1) := by
  rw [fold_max_least]
  refine le_antisymm (iSup_le fun i => ?_) (max_le (le_iSup f 0) (le_iSup f 1))
  fin_cases i
  · exact le_max_left _ _
  · exact le_max_right _ _

end Cert.First

end
-- ==== Proof.First.Table.T0.lean ====
/- The selection table's entries from 0 on: one where the row is twice the column, zero elsewhere. -/
module

public import proofs.«01_k».proof.Stage1Ideal

@[expose] public section

set_option maxRecDepth 16384

noncomputable section

namespace Cert.Stage1Ideal.First

open Cert.Stage1Ideal

theorem table0 : ∀ b : Fin 8, ∀ i : Fin 128, lit0t (0 + 128 * b.val + i.val)
    = if (0 + 128 * b.val + i.val) / 165 = 2 * ((0 + 128 * b.val + i.val) % 165) then 0x3F800000#32 else 0x00000000#32 := by
  decide +kernel

theorem table1 : ∀ b : Fin 8, ∀ i : Fin 128, lit0t (1024 + 128 * b.val + i.val)
    = if (1024 + 128 * b.val + i.val) / 165 = 2 * ((1024 + 128 * b.val + i.val) % 165) then 0x3F800000#32 else 0x00000000#32 := by
  decide +kernel

theorem table2 : ∀ b : Fin 8, ∀ i : Fin 128, lit0t (2048 + 128 * b.val + i.val)
    = if (2048 + 128 * b.val + i.val) / 165 = 2 * ((2048 + 128 * b.val + i.val) % 165) then 0x3F800000#32 else 0x00000000#32 := by
  decide +kernel

theorem table3 : ∀ b : Fin 8, ∀ i : Fin 128, lit0t (3072 + 128 * b.val + i.val)
    = if (3072 + 128 * b.val + i.val) / 165 = 2 * ((3072 + 128 * b.val + i.val) % 165) then 0x3F800000#32 else 0x00000000#32 := by
  decide +kernel

theorem table4 : ∀ b : Fin 8, ∀ i : Fin 128, lit0t (4096 + 128 * b.val + i.val)
    = if (4096 + 128 * b.val + i.val) / 165 = 2 * ((4096 + 128 * b.val + i.val) % 165) then 0x3F800000#32 else 0x00000000#32 := by
  decide +kernel

theorem table5 : ∀ b : Fin 8, ∀ i : Fin 128, lit0t (5120 + 128 * b.val + i.val)
    = if (5120 + 128 * b.val + i.val) / 165 = 2 * ((5120 + 128 * b.val + i.val) % 165) then 0x3F800000#32 else 0x00000000#32 := by
  decide +kernel

theorem table6 : ∀ b : Fin 8, ∀ i : Fin 128, lit0t (6144 + 128 * b.val + i.val)
    = if (6144 + 128 * b.val + i.val) / 165 = 2 * ((6144 + 128 * b.val + i.val) % 165) then 0x3F800000#32 else 0x00000000#32 := by
  decide +kernel

theorem table7 : ∀ b : Fin 8, ∀ i : Fin 128, lit0t (7168 + 128 * b.val + i.val)
    = if (7168 + 128 * b.val + i.val) / 165 = 2 * ((7168 + 128 * b.val + i.val) % 165) then 0x3F800000#32 else 0x00000000#32 := by
  decide +kernel

end Cert.Stage1Ideal.First

end
-- ==== Proof.First.Table.T1.lean ====
/- The selection table's entries from 8192 on: one where the row is twice the column, zero elsewhere. -/
module

public import proofs.«01_k».proof.Stage1Ideal

@[expose] public section

set_option maxRecDepth 16384

noncomputable section

namespace Cert.Stage1Ideal.First

open Cert.Stage1Ideal

theorem table8 : ∀ b : Fin 8, ∀ i : Fin 128, lit0t (8192 + 128 * b.val + i.val)
    = if (8192 + 128 * b.val + i.val) / 165 = 2 * ((8192 + 128 * b.val + i.val) % 165) then 0x3F800000#32 else 0x00000000#32 := by
  decide +kernel

theorem table9 : ∀ b : Fin 8, ∀ i : Fin 128, lit0t (9216 + 128 * b.val + i.val)
    = if (9216 + 128 * b.val + i.val) / 165 = 2 * ((9216 + 128 * b.val + i.val) % 165) then 0x3F800000#32 else 0x00000000#32 := by
  decide +kernel

theorem table10 : ∀ b : Fin 8, ∀ i : Fin 128, lit0t (10240 + 128 * b.val + i.val)
    = if (10240 + 128 * b.val + i.val) / 165 = 2 * ((10240 + 128 * b.val + i.val) % 165) then 0x3F800000#32 else 0x00000000#32 := by
  decide +kernel

theorem table11 : ∀ b : Fin 8, ∀ i : Fin 128, lit0t (11264 + 128 * b.val + i.val)
    = if (11264 + 128 * b.val + i.val) / 165 = 2 * ((11264 + 128 * b.val + i.val) % 165) then 0x3F800000#32 else 0x00000000#32 := by
  decide +kernel

theorem table12 : ∀ b : Fin 8, ∀ i : Fin 128, lit0t (12288 + 128 * b.val + i.val)
    = if (12288 + 128 * b.val + i.val) / 165 = 2 * ((12288 + 128 * b.val + i.val) % 165) then 0x3F800000#32 else 0x00000000#32 := by
  decide +kernel

theorem table13 : ∀ b : Fin 8, ∀ i : Fin 128, lit0t (13312 + 128 * b.val + i.val)
    = if (13312 + 128 * b.val + i.val) / 165 = 2 * ((13312 + 128 * b.val + i.val) % 165) then 0x3F800000#32 else 0x00000000#32 := by
  decide +kernel

theorem table14 : ∀ b : Fin 8, ∀ i : Fin 128, lit0t (14336 + 128 * b.val + i.val)
    = if (14336 + 128 * b.val + i.val) / 165 = 2 * ((14336 + 128 * b.val + i.val) % 165) then 0x3F800000#32 else 0x00000000#32 := by
  decide +kernel

theorem table15 : ∀ b : Fin 8, ∀ i : Fin 128, lit0t (15360 + 128 * b.val + i.val)
    = if (15360 + 128 * b.val + i.val) / 165 = 2 * ((15360 + 128 * b.val + i.val) % 165) then 0x3F800000#32 else 0x00000000#32 := by
  decide +kernel

end Cert.Stage1Ideal.First

end
-- ==== Proof.First.Table.T2.lean ====
/- The selection table's entries from 16384 on: one where the row is twice the column, zero elsewhere. -/
module

public import proofs.«01_k».proof.Stage1Ideal

@[expose] public section

set_option maxRecDepth 16384

noncomputable section

namespace Cert.Stage1Ideal.First

open Cert.Stage1Ideal

theorem table16 : ∀ b : Fin 8, ∀ i : Fin 128, lit0t (16384 + 128 * b.val + i.val)
    = if (16384 + 128 * b.val + i.val) / 165 = 2 * ((16384 + 128 * b.val + i.val) % 165) then 0x3F800000#32 else 0x00000000#32 := by
  decide +kernel

theorem table17 : ∀ b : Fin 8, ∀ i : Fin 128, lit0t (17408 + 128 * b.val + i.val)
    = if (17408 + 128 * b.val + i.val) / 165 = 2 * ((17408 + 128 * b.val + i.val) % 165) then 0x3F800000#32 else 0x00000000#32 := by
  decide +kernel

theorem table18 : ∀ b : Fin 8, ∀ i : Fin 128, lit0t (18432 + 128 * b.val + i.val)
    = if (18432 + 128 * b.val + i.val) / 165 = 2 * ((18432 + 128 * b.val + i.val) % 165) then 0x3F800000#32 else 0x00000000#32 := by
  decide +kernel

theorem table19 : ∀ b : Fin 8, ∀ i : Fin 128, lit0t (19456 + 128 * b.val + i.val)
    = if (19456 + 128 * b.val + i.val) / 165 = 2 * ((19456 + 128 * b.val + i.val) % 165) then 0x3F800000#32 else 0x00000000#32 := by
  decide +kernel

theorem table20 : ∀ b : Fin 8, ∀ i : Fin 128, lit0t (20480 + 128 * b.val + i.val)
    = if (20480 + 128 * b.val + i.val) / 165 = 2 * ((20480 + 128 * b.val + i.val) % 165) then 0x3F800000#32 else 0x00000000#32 := by
  decide +kernel

theorem table21 : ∀ b : Fin 8, ∀ i : Fin 128, lit0t (21504 + 128 * b.val + i.val)
    = if (21504 + 128 * b.val + i.val) / 165 = 2 * ((21504 + 128 * b.val + i.val) % 165) then 0x3F800000#32 else 0x00000000#32 := by
  decide +kernel

theorem table22 : ∀ b : Fin 8, ∀ i : Fin 128, lit0t (22528 + 128 * b.val + i.val)
    = if (22528 + 128 * b.val + i.val) / 165 = 2 * ((22528 + 128 * b.val + i.val) % 165) then 0x3F800000#32 else 0x00000000#32 := by
  decide +kernel

theorem table23 : ∀ b : Fin 8, ∀ i : Fin 128, lit0t (23552 + 128 * b.val + i.val)
    = if (23552 + 128 * b.val + i.val) / 165 = 2 * ((23552 + 128 * b.val + i.val) % 165) then 0x3F800000#32 else 0x00000000#32 := by
  decide +kernel

end Cert.Stage1Ideal.First

end
-- ==== Proof.First.Table.T3.lean ====
/- The selection table's entries from 24576 on: one where the row is twice the column, zero elsewhere. -/
module

public import proofs.«01_k».proof.Stage1Ideal

@[expose] public section

set_option maxRecDepth 16384

noncomputable section

namespace Cert.Stage1Ideal.First

open Cert.Stage1Ideal

theorem table24 : ∀ b : Fin 8, ∀ i : Fin 128, lit0t (24576 + 128 * b.val + i.val)
    = if (24576 + 128 * b.val + i.val) / 165 = 2 * ((24576 + 128 * b.val + i.val) % 165) then 0x3F800000#32 else 0x00000000#32 := by
  decide +kernel

theorem table25 : ∀ b : Fin 8, ∀ i : Fin 128, lit0t (25600 + 128 * b.val + i.val)
    = if (25600 + 128 * b.val + i.val) / 165 = 2 * ((25600 + 128 * b.val + i.val) % 165) then 0x3F800000#32 else 0x00000000#32 := by
  decide +kernel

theorem table26 : ∀ b : Fin 8, ∀ i : Fin 128, lit0t (26624 + 128 * b.val + i.val)
    = if (26624 + 128 * b.val + i.val) / 165 = 2 * ((26624 + 128 * b.val + i.val) % 165) then 0x3F800000#32 else 0x00000000#32 := by
  decide +kernel

theorem table27 : ∀ b : Fin 8, ∀ i : Fin 128, lit0t (27648 + 128 * b.val + i.val)
    = if (27648 + 128 * b.val + i.val) / 165 = 2 * ((27648 + 128 * b.val + i.val) % 165) then 0x3F800000#32 else 0x00000000#32 := by
  decide +kernel

theorem table28 : ∀ b : Fin 8, ∀ i : Fin 128, lit0t (28672 + 128 * b.val + i.val)
    = if (28672 + 128 * b.val + i.val) / 165 = 2 * ((28672 + 128 * b.val + i.val) % 165) then 0x3F800000#32 else 0x00000000#32 := by
  decide +kernel

theorem table29 : ∀ b : Fin 8, ∀ i : Fin 128, lit0t (29696 + 128 * b.val + i.val)
    = if (29696 + 128 * b.val + i.val) / 165 = 2 * ((29696 + 128 * b.val + i.val) % 165) then 0x3F800000#32 else 0x00000000#32 := by
  decide +kernel

theorem table30 : ∀ b : Fin 8, ∀ i : Fin 128, lit0t (30720 + 128 * b.val + i.val)
    = if (30720 + 128 * b.val + i.val) / 165 = 2 * ((30720 + 128 * b.val + i.val) % 165) then 0x3F800000#32 else 0x00000000#32 := by
  decide +kernel

theorem table31 : ∀ b : Fin 8, ∀ i : Fin 128, lit0t (31744 + 128 * b.val + i.val)
    = if (31744 + 128 * b.val + i.val) / 165 = 2 * ((31744 + 128 * b.val + i.val) % 165) then 0x3F800000#32 else 0x00000000#32 := by
  decide +kernel

end Cert.Stage1Ideal.First

end
-- ==== Proof.First.Table.T4.lean ====
/- The selection table's entries from 32768 on: one where the row is twice the column, zero elsewhere. -/
module

public import proofs.«01_k».proof.Stage1Ideal

@[expose] public section

set_option maxRecDepth 16384

noncomputable section

namespace Cert.Stage1Ideal.First

open Cert.Stage1Ideal

theorem table32 : ∀ b : Fin 8, ∀ i : Fin 128, lit0t (32768 + 128 * b.val + i.val)
    = if (32768 + 128 * b.val + i.val) / 165 = 2 * ((32768 + 128 * b.val + i.val) % 165) then 0x3F800000#32 else 0x00000000#32 := by
  decide +kernel

theorem table33 : ∀ b : Fin 8, ∀ i : Fin 128, lit0t (33792 + 128 * b.val + i.val)
    = if (33792 + 128 * b.val + i.val) / 165 = 2 * ((33792 + 128 * b.val + i.val) % 165) then 0x3F800000#32 else 0x00000000#32 := by
  decide +kernel

theorem table34 : ∀ b : Fin 8, ∀ i : Fin 128, lit0t (34816 + 128 * b.val + i.val)
    = if (34816 + 128 * b.val + i.val) / 165 = 2 * ((34816 + 128 * b.val + i.val) % 165) then 0x3F800000#32 else 0x00000000#32 := by
  decide +kernel

theorem table35 : ∀ b : Fin 8, ∀ i : Fin 128, lit0t (35840 + 128 * b.val + i.val)
    = if (35840 + 128 * b.val + i.val) / 165 = 2 * ((35840 + 128 * b.val + i.val) % 165) then 0x3F800000#32 else 0x00000000#32 := by
  decide +kernel

theorem table36 : ∀ b : Fin 8, ∀ i : Fin 128, lit0t (36864 + 128 * b.val + i.val)
    = if (36864 + 128 * b.val + i.val) / 165 = 2 * ((36864 + 128 * b.val + i.val) % 165) then 0x3F800000#32 else 0x00000000#32 := by
  decide +kernel

theorem table37 : ∀ b : Fin 8, ∀ i : Fin 128, lit0t (37888 + 128 * b.val + i.val)
    = if (37888 + 128 * b.val + i.val) / 165 = 2 * ((37888 + 128 * b.val + i.val) % 165) then 0x3F800000#32 else 0x00000000#32 := by
  decide +kernel

theorem table38 : ∀ b : Fin 8, ∀ i : Fin 128, lit0t (38912 + 128 * b.val + i.val)
    = if (38912 + 128 * b.val + i.val) / 165 = 2 * ((38912 + 128 * b.val + i.val) % 165) then 0x3F800000#32 else 0x00000000#32 := by
  decide +kernel

theorem table39 : ∀ b : Fin 8, ∀ i : Fin 128, lit0t (39936 + 128 * b.val + i.val)
    = if (39936 + 128 * b.val + i.val) / 165 = 2 * ((39936 + 128 * b.val + i.val) % 165) then 0x3F800000#32 else 0x00000000#32 := by
  decide +kernel

end Cert.Stage1Ideal.First

end
-- ==== Proof.First.Table.T5.lean ====
/- The selection table's entries from 40960 on: one where the row is twice the column, zero elsewhere. -/
module

public import proofs.«01_k».proof.Stage1Ideal

@[expose] public section

set_option maxRecDepth 16384

noncomputable section

namespace Cert.Stage1Ideal.First

open Cert.Stage1Ideal

theorem table40 : ∀ b : Fin 8, ∀ i : Fin 128, lit0t (40960 + 128 * b.val + i.val)
    = if (40960 + 128 * b.val + i.val) / 165 = 2 * ((40960 + 128 * b.val + i.val) % 165) then 0x3F800000#32 else 0x00000000#32 := by
  decide +kernel

theorem table41 : ∀ b : Fin 8, ∀ i : Fin 128, lit0t (41984 + 128 * b.val + i.val)
    = if (41984 + 128 * b.val + i.val) / 165 = 2 * ((41984 + 128 * b.val + i.val) % 165) then 0x3F800000#32 else 0x00000000#32 := by
  decide +kernel

theorem table42 : ∀ b : Fin 8, ∀ i : Fin 128, lit0t (43008 + 128 * b.val + i.val)
    = if (43008 + 128 * b.val + i.val) / 165 = 2 * ((43008 + 128 * b.val + i.val) % 165) then 0x3F800000#32 else 0x00000000#32 := by
  decide +kernel

theorem table43 : ∀ b : Fin 8, ∀ i : Fin 128, lit0t (44032 + 128 * b.val + i.val)
    = if (44032 + 128 * b.val + i.val) / 165 = 2 * ((44032 + 128 * b.val + i.val) % 165) then 0x3F800000#32 else 0x00000000#32 := by
  decide +kernel

theorem table44 : ∀ b : Fin 8, ∀ i : Fin 128, lit0t (45056 + 128 * b.val + i.val)
    = if (45056 + 128 * b.val + i.val) / 165 = 2 * ((45056 + 128 * b.val + i.val) % 165) then 0x3F800000#32 else 0x00000000#32 := by
  decide +kernel

theorem table45 : ∀ b : Fin 8, ∀ i : Fin 128, lit0t (46080 + 128 * b.val + i.val)
    = if (46080 + 128 * b.val + i.val) / 165 = 2 * ((46080 + 128 * b.val + i.val) % 165) then 0x3F800000#32 else 0x00000000#32 := by
  decide +kernel

theorem table46 : ∀ b : Fin 8, ∀ i : Fin 128, lit0t (47104 + 128 * b.val + i.val)
    = if (47104 + 128 * b.val + i.val) / 165 = 2 * ((47104 + 128 * b.val + i.val) % 165) then 0x3F800000#32 else 0x00000000#32 := by
  decide +kernel

theorem table47 : ∀ b : Fin 8, ∀ i : Fin 128, lit0t (48128 + 128 * b.val + i.val)
    = if (48128 + 128 * b.val + i.val) / 165 = 2 * ((48128 + 128 * b.val + i.val) % 165) then 0x3F800000#32 else 0x00000000#32 := by
  decide +kernel

end Cert.Stage1Ideal.First

end
-- ==== Proof.First.Table.T6.lean ====
/- The selection table's entries from 49152 on: one where the row is twice the column, zero elsewhere. -/
module

public import proofs.«01_k».proof.Stage1Ideal

@[expose] public section

set_option maxRecDepth 16384

noncomputable section

namespace Cert.Stage1Ideal.First

open Cert.Stage1Ideal

theorem table48 : ∀ b : Fin 8, ∀ i : Fin 128, lit0t (49152 + 128 * b.val + i.val)
    = if (49152 + 128 * b.val + i.val) / 165 = 2 * ((49152 + 128 * b.val + i.val) % 165) then 0x3F800000#32 else 0x00000000#32 := by
  decide +kernel

theorem table49 : ∀ b : Fin 8, ∀ i : Fin 128, lit0t (50176 + 128 * b.val + i.val)
    = if (50176 + 128 * b.val + i.val) / 165 = 2 * ((50176 + 128 * b.val + i.val) % 165) then 0x3F800000#32 else 0x00000000#32 := by
  decide +kernel

theorem table50 : ∀ b : Fin 8, ∀ i : Fin 128, lit0t (51200 + 128 * b.val + i.val)
    = if (51200 + 128 * b.val + i.val) / 165 = 2 * ((51200 + 128 * b.val + i.val) % 165) then 0x3F800000#32 else 0x00000000#32 := by
  decide +kernel

theorem table51 : ∀ b : Fin 8, ∀ i : Fin 128, lit0t (52224 + 128 * b.val + i.val)
    = if (52224 + 128 * b.val + i.val) / 165 = 2 * ((52224 + 128 * b.val + i.val) % 165) then 0x3F800000#32 else 0x00000000#32 := by
  decide +kernel

theorem table52 : ∀ b : Fin 8, ∀ i : Fin 128, lit0t (53248 + 128 * b.val + i.val)
    = if (53248 + 128 * b.val + i.val) / 165 = 2 * ((53248 + 128 * b.val + i.val) % 165) then 0x3F800000#32 else 0x00000000#32 := by
  decide +kernel

theorem table53 : ∀ b : Fin 1, ∀ i : Fin 128, lit0t (54272 + 128 * b.val + i.val)
    = if (54272 + 128 * b.val + i.val) / 165 = 2 * ((54272 + 128 * b.val + i.val) % 165) then 0x3F800000#32 else 0x00000000#32 := by
  decide +kernel

end Cert.Stage1Ideal.First

end
-- ==== Proof.First.Table.lean ====
/- The selection table, entry by entry. -/
module

public import proofs.«01_k».proof.Proof.First.Table.T0
public import proofs.«01_k».proof.Proof.First.Table.T1
public import proofs.«01_k».proof.Proof.First.Table.T2
public import proofs.«01_k».proof.Proof.First.Table.T3
public import proofs.«01_k».proof.Proof.First.Table.T4
public import proofs.«01_k».proof.Proof.First.Table.T5
public import proofs.«01_k».proof.Proof.First.Table.T6

@[expose] public section

set_option maxRecDepth 16384

noncomputable section

namespace Cert.Stage1Ideal.First

open Cert.Stage1Ideal

/-- A run of entries checked in rows of 128, read at one of them. -/
theorem block (a n : ℕ) (h : ∀ b : Fin n, ∀ i : Fin 128, lit0t (a + 128 * b.val + i.val)
    = if (a + 128 * b.val + i.val) / 165 = 2 * ((a + 128 * b.val + i.val) % 165) then 0x3F800000#32 else 0x00000000#32)
    (i : ℕ) (ha : a ≤ i) (hi : i < a + 128 * n) : lit0t i = if i / 165 = 2 * (i % 165) then 0x3F800000#32 else 0x00000000#32 := by
  have e := h ⟨(i - a) / 128, by omega⟩ ⟨(i - a) % 128, by omega⟩
  have q : a + 128 * ((i - a) / 128) + (i - a) % 128 = i := by omega
  simp only [q] at e
  exact e

/-- The table holds one where the row is twice the column, and zero elsewhere. -/
theorem table_at (i : ℕ) (hi : i < 54285) : lit0t i = if i / 165 = 2 * (i % 165) then 0x3F800000#32 else 0x00000000#32 := by
  by_cases h0 : i < 1024
  · exact block 0 8 table0 i (by omega) (by omega)
  by_cases h1 : i < 2048
  · exact block 1024 8 table1 i (by omega) (by omega)
  by_cases h2 : i < 3072
  · exact block 2048 8 table2 i (by omega) (by omega)
  by_cases h3 : i < 4096
  · exact block 3072 8 table3 i (by omega) (by omega)
  by_cases h4 : i < 5120
  · exact block 4096 8 table4 i (by omega) (by omega)
  by_cases h5 : i < 6144
  · exact block 5120 8 table5 i (by omega) (by omega)
  by_cases h6 : i < 7168
  · exact block 6144 8 table6 i (by omega) (by omega)
  by_cases h7 : i < 8192
  · exact block 7168 8 table7 i (by omega) (by omega)
  by_cases h8 : i < 9216
  · exact block 8192 8 table8 i (by omega) (by omega)
  by_cases h9 : i < 10240
  · exact block 9216 8 table9 i (by omega) (by omega)
  by_cases h10 : i < 11264
  · exact block 10240 8 table10 i (by omega) (by omega)
  by_cases h11 : i < 12288
  · exact block 11264 8 table11 i (by omega) (by omega)
  by_cases h12 : i < 13312
  · exact block 12288 8 table12 i (by omega) (by omega)
  by_cases h13 : i < 14336
  · exact block 13312 8 table13 i (by omega) (by omega)
  by_cases h14 : i < 15360
  · exact block 14336 8 table14 i (by omega) (by omega)
  by_cases h15 : i < 16384
  · exact block 15360 8 table15 i (by omega) (by omega)
  by_cases h16 : i < 17408
  · exact block 16384 8 table16 i (by omega) (by omega)
  by_cases h17 : i < 18432
  · exact block 17408 8 table17 i (by omega) (by omega)
  by_cases h18 : i < 19456
  · exact block 18432 8 table18 i (by omega) (by omega)
  by_cases h19 : i < 20480
  · exact block 19456 8 table19 i (by omega) (by omega)
  by_cases h20 : i < 21504
  · exact block 20480 8 table20 i (by omega) (by omega)
  by_cases h21 : i < 22528
  · exact block 21504 8 table21 i (by omega) (by omega)
  by_cases h22 : i < 23552
  · exact block 22528 8 table22 i (by omega) (by omega)
  by_cases h23 : i < 24576
  · exact block 23552 8 table23 i (by omega) (by omega)
  by_cases h24 : i < 25600
  · exact block 24576 8 table24 i (by omega) (by omega)
  by_cases h25 : i < 26624
  · exact block 25600 8 table25 i (by omega) (by omega)
  by_cases h26 : i < 27648
  · exact block 26624 8 table26 i (by omega) (by omega)
  by_cases h27 : i < 28672
  · exact block 27648 8 table27 i (by omega) (by omega)
  by_cases h28 : i < 29696
  · exact block 28672 8 table28 i (by omega) (by omega)
  by_cases h29 : i < 30720
  · exact block 29696 8 table29 i (by omega) (by omega)
  by_cases h30 : i < 31744
  · exact block 30720 8 table30 i (by omega) (by omega)
  by_cases h31 : i < 32768
  · exact block 31744 8 table31 i (by omega) (by omega)
  by_cases h32 : i < 33792
  · exact block 32768 8 table32 i (by omega) (by omega)
  by_cases h33 : i < 34816
  · exact block 33792 8 table33 i (by omega) (by omega)
  by_cases h34 : i < 35840
  · exact block 34816 8 table34 i (by omega) (by omega)
  by_cases h35 : i < 36864
  · exact block 35840 8 table35 i (by omega) (by omega)
  by_cases h36 : i < 37888
  · exact block 36864 8 table36 i (by omega) (by omega)
  by_cases h37 : i < 38912
  · exact block 37888 8 table37 i (by omega) (by omega)
  by_cases h38 : i < 39936
  · exact block 38912 8 table38 i (by omega) (by omega)
  by_cases h39 : i < 40960
  · exact block 39936 8 table39 i (by omega) (by omega)
  by_cases h40 : i < 41984
  · exact block 40960 8 table40 i (by omega) (by omega)
  by_cases h41 : i < 43008
  · exact block 41984 8 table41 i (by omega) (by omega)
  by_cases h42 : i < 44032
  · exact block 43008 8 table42 i (by omega) (by omega)
  by_cases h43 : i < 45056
  · exact block 44032 8 table43 i (by omega) (by omega)
  by_cases h44 : i < 46080
  · exact block 45056 8 table44 i (by omega) (by omega)
  by_cases h45 : i < 47104
  · exact block 46080 8 table45 i (by omega) (by omega)
  by_cases h46 : i < 48128
  · exact block 47104 8 table46 i (by omega) (by omega)
  by_cases h47 : i < 49152
  · exact block 48128 8 table47 i (by omega) (by omega)
  by_cases h48 : i < 50176
  · exact block 49152 8 table48 i (by omega) (by omega)
  by_cases h49 : i < 51200
  · exact block 50176 8 table49 i (by omega) (by omega)
  by_cases h50 : i < 52224
  · exact block 51200 8 table50 i (by omega) (by omega)
  by_cases h51 : i < 53248
  · exact block 52224 8 table51 i (by omega) (by omega)
  by_cases h52 : i < 54272
  · exact block 53248 8 table52 i (by omega) (by omega)
  exact block 54272 1 table53 i (by omega) (by omega)

end Cert.Stage1Ideal.First

end
-- ==== Proof.First.Blocks.lean ====
/- What each grid point of the kernel is handed: its points, its image, the folded weights and the selection table. -/
module

public import proofs.«01_k».proof.Proof.Gen.Stage1Ideal.Value
public import proofs.«01_k».proof.Proof.First.Picture
public import proofs.«01_k».proof.Proof.First.Table
public import Idealize.ShloMosaic.Lib.Pipeline.ValueKit
public import Idealize.ShloMosaic.Lib.Claim

@[expose] public section

set_option maxRecDepth 16384

noncomputable section

namespace Cert.Stage1Ideal.First

open Idealize.ShloMosaic Idealize.ShloMosaic.TcCoe Idealize.SL.Sem
open Idealize.ShloMosaic.Pipeline (Dat)
open Cert.Stage1Ideal Cert.Stage1Ideal.Gen Cert.First Cert.Trunk

variable (m : (ℓ : Loc nD τ sig) → Buf (Elt Ideal) ℓ)

/-- Which block each operand hands a grid point. -/
theorem idx : ∀ t : Fin cfg0.N, t.val < 32 ∧ win0_0.index t = ![t.val, 0, 0] ∧ win0_1.index t = ![t.val, 0, 0] ∧ win0_2.index t = ![t.val, 0, 0] ∧ win0_3.index t = ![0, 0] ∧ win0_4.index t = ![0] ∧ win0_5.index t = ![0, 0] ∧ win0_6.index t = ![t.val, 0, 0] :=
  (by decide +kernel : ∀ t : Fin grid0.N, _)

theorem points_blk (c : Dev nD) (t : Fin cfg0.N) (p : Fin 1024) (k : Fin 2) :
    (iblk m c 0 t : Vec Ideal S1x1024x2 .f32) (ix3 (0 : Fin 1) p k) = m ((c : Thread nD τ).loc main_arg0) (ix3 (⟨t.val, (idx t).1⟩ : Fin 32) p k) := by
  blk_simp [iblk, idx t]
  entry_read
  pointwise
  blk_ext [idx t]

theorem turned_blk (c : Dev nD) (t : Fin cfg0.N) (p : Fin 1024) (k : Fin 2) :
    (iblk m c 1 t : Vec Ideal S1x2x1024 .f32) (ix3 (0 : Fin 1) k p) = m ((c : Thread nD τ).loc main_arg0) (ix3 (⟨t.val, (idx t).1⟩ : Fin 32) p k) := by
  blk_simp [iblk, idx t]
  entry_read
  pointwise
  blk_ext [idx t]

theorem picture_blk (c : Dev nD) (t : Fin cfg0.N) (r : Fin 180) (q : Fin 330) :
    (iblk m c 2 t : Vec Ideal S1x180x330 .f32) (ix3 (0 : Fin 1) r q) = m ((c : Thread nD τ).loc main_arg1) (ix3 (⟨t.val, (idx t).1⟩ : Fin 32) r q) := by
  blk_simp [iblk, idx t]
  entry_read
  pointwise
  blk_ext [idx t]

/-- A weight and a normalisation factor, multiplied: output channel and tap. -/
def scaledW (w : FVec Ideal S32x1x3x3 .f32) (g : FVec Ideal S32 .f32) (o : Fin 32) (t : Fin 9) : EReal :=
  w (ix4 o (0 : Fin 1) (⟨t.val / 3, by omega⟩ : Fin 3) (⟨t.val % 3, by omega⟩ : Fin 3)) * g (ix1 o)

theorem weights_blk (c : Dev nD) (t : Fin cfg0.N) (o : Fin 32) (u : Fin 9) :
    (iblk m c 3 t : Vec Ideal S32x9 .f32) (ix2 o u) = scaledW (m ((c : Thread nD τ).loc main_arg2)) (m ((c : Thread nD τ).loc main_arg4)) o u := by
  blk_simp [iblk, idx t]
  entry_read
  pointwise [scaledW]
  blk_point [idx t]

/-- A bias, a normalisation factor and a shift, put together. -/
def scaledB (b g s : FVec Ideal S32 .f32) (o : Fin 32) : EReal := b (ix1 o) * g (ix1 o) + s (ix1 o)

theorem biases_blk (c : Dev nD) (t : Fin cfg0.N) (o : Fin 32) :
    (iblk m c 4 t : Vec Ideal S32 .f32) (ix1 o) = scaledB (m ((c : Thread nD τ).loc main_arg3)) (m ((c : Thread nD τ).loc main_arg4)) (m ((c : Thread nD τ).loc main_arg5)) o := by
  blk_simp [iblk, idx t]
  entry_read
  pointwise [scaledB]
  blk_point [idx t]

theorem sel_blk (c : Dev nD) (t : Fin cfg0.N) (k : Fin 329) (j : Fin 165) :
    (iblk m c 5 t : Vec Ideal S329x165 .f32) (ix2 k j) = if (k : ℕ) = 2 * j then (1 : EReal) else 0 := by
  have hk := k.isLt
  have hj := j.isLt
  blk_simp [iblk, idx t]
  entry_read
  pointwise
  have he : ((View.whole main_cst).slice (win0_5.rect t)).emb (ix2 k j) = (ix2 k j : S329x165.Idx) := by
    blk_ext [idx t]
  rw [he]
  have hv : (S329x165.rowMajor (ix2 k j)).val = 165 * k + j := by
    exact (Shape.rowMajor_val_two _).trans (by show (k : ℕ) * 165 + j = _; omega)
  have hl : lit0 (S329x165.rowMajor (ix2 k j)) = lit0t (165 * k + j) := by
    rw [← hv]
  rw [hl, table_at _ (by omega), show (165 * (k : ℕ) + j) / 165 = k by omega, show (165 * (k : ℕ) + j) % 165 = j by omega]
  split_ifs
  · exact Ideal.ofBits_one_f32
  · exact Ideal.ofBits_zero_f32

end Cert.Stage1Ideal.First

end
-- ==== Proof.First.Heat.lean ====
/- The kernel's two bell-curve tables, read at a position. -/
module

public import proofs.«01_k».proof.Proof.Gen.Stage1Ideal.Skeleton
public import proofs.«01_k».proof.Proof.First.Bell

@[expose] public section

set_option maxRecDepth 16384

noncomputable section

namespace Cert.Stage1Ideal.First

open Idealize.ShloMosaic Idealize.ShloMosaic.TcCoe Idealize.SL.Sem
open Cert.Stage1Ideal Cert.Stage1Ideal.Gen Cert.First

theorem named_eighteenth : Named.named (F := Ideal) κ (φ := .f32) "inv_two_sigma_sq" 0x3D638E39#32 = (((18 : ℝ)⁻¹ : ℝ) : EReal) := by
  rfl

theorem place_at (v0 : Vec Ideal S1x1x1024 .f32) (t : Fin 1024) :
    k0_pay3 (F := Ideal) v0 (ix2 (0 : Fin 1) t) = rowOf (v0 (ix3 (0 : Fin 1) (0 : Fin 1) t)) := by
  pointwise [k0_pay3, k0_pay2]
  rfl

theorem start_at (v0 : Vec Ideal S1x1x1024 .f32) (t : Fin 1024) :
    k0_pay4 (F := Ideal) v0 (ix2 (0 : Fin 1) t) = clip 144 (rowOf (v0 (ix3 (0 : Fin 1) (0 : Fin 1) t)) - 18#32) := by
  pointwise [k0_pay4, k0_pay3, k0_pay2]
  rfl

theorem sideways_at (v51 : Vec Ideal S1x1024x1 .f32) (t : Fin 1024) :
    k0_pay9 (F := Ideal) v51 (ix2 t (0 : Fin 1)) = colOf (v51 (ix3 (0 : Fin 1) t (0 : Fin 1))) := by
  pointwise [k0_pay9]
  rfl

theorem left_at (v51 : Vec Ideal S1x1024x1 .f32) (t : Fin 1024) :
    k0_pay10 (F := Ideal) v51 (ix2 t (0 : Fin 1)) = clip 294 (colOf (v51 (ix3 (0 : Fin 1) t (0 : Fin 1))) - 18#32) := by
  pointwise [k0_pay10, k0_pay9]
  rfl

/-- The table of the rows: a point's bell curve down the picture, already scaled. -/
theorem rows_at (v0 v2 : Vec Ideal S1x1x1024 .f32) (h : Fin 180) (t : Fin 1024) :
    k0_pay8 (F := Ideal) (k0_pay6 v0 v2) (k0_pay7 v0) (ix2 h t) = along 144 180 (rowOf (v0 (ix3 (0 : Fin 1) (0 : Fin 1) t))) h * norm := by
  have hh := h.isLt
  pointwise [k0_pay8, k0_pay6, k0_pay7, k0_pay5]
  rw [place_at, start_at, named_eighteenth]
  generalize rowOf (v0 (ix3 0 0 t)) = p
  have hm := inside 144 180 (by norm_num) (by norm_num) p h (by omega)
  unfold clip IntOp.subi at *
  have hx : IntOp.xori (IntOp.ori (BitVec.ofBool (decide (k0_pay2 (F := Ideal) v0 (ix2 (0 : Fin 1) t) ≠ k0_pay2 (F := Ideal) v0 (ix2 (0 : Fin 1) t))))
      (BitVec.ofBool (decide (v2 (ix3 (0 : Fin 1) (0 : Fin 1) t) ≠ v2 (ix3 (0 : Fin 1) (0 : Fin 1) t))))) 1#1 = 1#1 := by
    simp [IntOp.xori, IntOp.ori]
  rw [hx]
  rw [show IntOp.addi p 18#32 = p + 18#32 from rfl]
  rw [hm, show ∀ b : BitVec 1, IntOp.andi b 1#1 = b by decide, select_bit]
  unfold along
  split_ifs with hc
  · refine congrArg (· * norm) ?_
    exact bell_product _ _ (distance 144 (by norm_num) p h (by omega) hc.1)
  · exact (zero_mul _).symm

/-- The table of the columns, from its mask and squared distances. -/
def table (v78 : IVec S1024x330 1) (v82 : FVec Ideal S1024x330 .f32) (z : EReal) : FVec Ideal S1024x330 .f32 :=
  select v78 (exp (mulf (subf (broadcast S1024x330 z) v82) (broadcast S1024x330 (Named.named (F := Ideal) κ "inv_two_sigma_sq" 0x3D638E39#32))))
    (broadcast S1024x330 (Scalar.ofBits .f32 0x00000000#32))

theorem columns_at (v51 : Vec Ideal S1x1024x1 .f32) (t : Fin 1024) (w : Fin 330) :
    table (k0_pay12 (F := Ideal) v51) (k0_pay13 v51) 0 (ix2 t w) = along 294 330 (colOf (v51 (ix3 (0 : Fin 1) t (0 : Fin 1)))) w := by
  have hw := w.isLt
  pointwise [table, k0_pay12, k0_pay13, k0_pay11]
  rw [sideways_at, left_at, named_eighteenth]
  generalize colOf (v51 (ix3 0 t 0)) = p
  have hm := inside 294 330 (by norm_num) (by norm_num) p w (by omega)
  unfold clip IntOp.subi at *
  rw [show IntOp.addi p 18#32 = p + 18#32 from rfl]
  rw [hm, select_bit]
  unfold along
  split_ifs with hc
  · exact bell_product _ _ (distance 294 (by norm_num) p w (by omega) hc.1)
  · rfl

end Cert.Stage1Ideal.First

end
-- ==== Proof.First.Fuse.lean ====
/- The kernel's fused image with its zero border, read at a position. -/
module

public import proofs.«01_k».proof.Proof.First.Heat
public import proofs.«01_k».proof.Proof.First.Picture

@[expose] public section

set_option maxRecDepth 16384

noncomputable section

namespace Cert.Stage1Ideal.First

open Idealize.ShloMosaic Idealize.ShloMosaic.TcCoe Idealize.SL.Sem
open Cert.Stage1Ideal Cert.Stage1Ideal.Gen Cert.First Cert.Trunk

/-- The product of the two tables. -/
def splat (v50 : FVec Ideal S180x1024 .f32) (v89 : FVec Ideal S1024x330 .f32) : FVec Ideal S180x330 .f32 :=
  matmul dot_S180x1024_S1024x330_S180x330_1_0_0_1_n_n none (truncf .bf16 v50 bitsLt_bf16_f32) (truncf .bf16 v89 bitsLt_bf16_f32)
    (constant S180x330 .f32 0x00000000#32)

/-- The largest pixel. -/
def most (v92 : FVec Ideal S180x330 .f32) : EReal :=
  extractAt ![0, 0, 0] (shapeCast S1x1x1 (multiReduction .maximumf [1, 2] S1 (shapeCast S1x180x330 v92 shapeCasts_S180x330_S1x180x330)
    0xFF800000#32 reduces_S1x180x330_S1 (.inl rfl) rfl) shapeCasts_S1_S1x1x1) inpos_S1x1x1_p0_0_0

/-- Seven tenths of the scaled heatmap and three tenths of the image. -/
def blend (v92 : FVec Ideal S180x330 .f32) (m : EReal) (v104 : Vec Ideal S1x180x330 .f32) : FVec Ideal S180x330 .f32 :=
  addf (mulf (broadcastTo S180x330 (divf (broadcast S1x1 (Scalar.ofBits .f32 0x3F333333#32)) (addf (broadcast S1x1 m)
      (broadcast S1x1 (Scalar.ofBits .f32 0x2EDBE6FF#32)))) broadcasts_S1x1_S180x330) v92)
    (mulf (broadcast S180x330 (Scalar.ofBits .f32 0x3E99999A#32)) (shapeCast S180x330 v104 shapeCasts_S1x180x330_S180x330))

/-- A zero border around the picture. -/
def framed (v108 : FVec Ideal S180x330 .f32) : FVec Ideal S182x332 .f32 :=
  concatenate S182x332 0 [⟨S1x332, broadcast S1x332 (Scalar.ofBits .f32 0x00000000#32)⟩, ⟨S180x332,
    concatenate S180x332 1 [⟨S180x1, broadcast S180x1 (Scalar.ofBits .f32 0x00000000#32)⟩, ⟨S180x330, v108⟩,
      ⟨S180x1, broadcast S180x1 (Scalar.ofBits .f32 0x00000000#32)⟩] concatenates_S180x1_S180x330_S180x1_S180x332_d1⟩,
    ⟨S1x332, broadcast S1x332 (Scalar.ofBits .f32 0x00000000#32)⟩] concatenates_S1x332_S180x332_S1x332_S182x332_d0

theorem framed_eq (v50 : FVec Ideal S180x1024 .f32) (v78 : IVec S1024x330 1) (v82 : FVec Ideal S1024x330 .f32) (z : EReal) (v104 : Vec Ideal S1x180x330 .f32) :
    k0_pay14 (F := Ideal) v50 v78 v82 z v104 = framed (blend (splat v50 (table v78 v82 z)) (most (splat v50 (table v78 v82 z))) v104) := rfl

theorem splat_at (v50 : FVec Ideal S180x1024 .f32) (v89 : FVec Ideal S1024x330 .f32) (h : Fin 180) (w : Fin 330) :
    splat v50 v89 (ix2 h w) = ∑ t : Fin 1024, v50 (ix2 h t) * v89 (ix2 t w) := by
  pointwise [splat]

theorem most_at (v92 : FVec Ideal S180x330 .f32) : most v92 = ⨆ h : Fin 180, ⨆ w : Fin 330, v92 (ix2 h w) := by
  have hbot : Ideal.ofBits FTy.f32 0xFF800000#32 = ⊥ := by simp [Ideal.ofBits, Ideal.ieee]
  pointwise [most]
  exact (congrArg (fun b => Finset.fold max b _ _) hbot).trans ((fold_max_least _).trans (iSup_prod ..))

theorem blend_at (v92 : FVec Ideal S180x330 .f32) (m : EReal) (v104 : Vec Ideal S1x180x330 .f32) (r : Fin 180) (c : Fin 330) :
    blend v92 m v104 (ix2 r c) = Ideal.div (Ideal.ofBits FTy.f32 0x3F333333#32) (m + Ideal.ofBits FTy.f32 0x2EDBE6FF#32) * v92 (ix2 r c)
      + Ideal.ofBits FTy.f32 0x3E99999A#32 * v104 (ix3 (0 : Fin 1) r c) := by
  pointwise [blend]

theorem framed_at (v108 : FVec Ideal S180x330 .f32) (P : ℕ → ℕ → Fin 1 → EReal) (h : ∀ (r : Fin 180) (c : Fin 330), v108 (ix2 r c) = P r c 0)
    (r : Fin 182) (c : Fin 332) : framed v108 (ix2 r c) = bordered 180 330 P r c 0 := by
  pointwise [framed]
  simp only [h, bordered]
  have := r.isLt
  have := c.isLt
  split_ifs <;> first | rfl | omega | (congr 1 <;> omega)

/-- The kernel's bordered picture is the fused picture inside a zero border. -/
theorem picture_at (v0 v2 : Vec Ideal S1x1x1024 .f32) (v51 : Vec Ideal S1x1024x1 .f32) (v104 : Vec Ideal S1x180x330 .f32)
    (xs ys : Fin 1024 → EReal) (img : ℕ → ℕ → EReal)
    (hx : ∀ t : Fin 1024, v0 (ix3 (0 : Fin 1) (0 : Fin 1) t) = xs t) (hy : ∀ t : Fin 1024, v51 (ix3 (0 : Fin 1) t (0 : Fin 1)) = ys t)
    (hi : ∀ (r : Fin 180) (c : Fin 330), v104 (ix3 (0 : Fin 1) r c) = img r c) (r : Fin 182) (c : Fin 332) :
    k0_pay14 (F := Ideal) (k0_pay8 (k0_pay6 v0 v2) (k0_pay7 v0)) (k0_pay12 v51) (k0_pay13 v51) (0 : EReal) v104 (ix2 r c)
      = bordered 180 330 (fused (heat xs ys) img) r c 0 := by
  rw [framed_eq]
  have hs : ∀ (h : Fin 180) (w : Fin 330), splat (k0_pay8 (k0_pay6 v0 v2) (k0_pay7 v0)) (table (k0_pay12 v51) (k0_pay13 v51) 0) (ix2 h w) = heat xs ys h w := by
    intro h w
    rw [splat_at]
    unfold heat
    refine Finset.sum_congr rfl fun t _ => ?_
    rw [rows_at, columns_at, hx, hy]
  refine framed_at _ _ (fun r c => ?_) r c
  rw [blend_at, hs, hi, most_at]
  simp only [hs]
  rfl

end Cert.Stage1Ideal.First

end
-- ==== Proof.First.Plane.lean ====
/- One output channel of the kernel's convolution, its row maxima, the stack of channels and the column maxima, read at a position. -/
module

public import proofs.«01_k».proof.Proof.Gen.Stage1Ideal.Skeleton
public import proofs.«01_k».proof.Proof.First.Picture

@[expose] public section

set_option maxRecDepth 16384

noncomputable section

namespace Cert.Stage1Ideal.First

open Idealize.ShloMosaic Idealize.ShloMosaic.TcCoe Idealize.SL.Sem
open Cert.Stage1Ideal Cert.Stage1Ideal.Gen Cert.First Cert.Trunk

/-- Nine shifted pictures, each times one weight, added up, plus a bias, at least zero. -/
def channel (s0 s1 s2 s3 s4 s5 s6 s7 s8 : FVec Ideal S180x330 .f32) (w0 w1 w2 w3 w4 w5 w6 w7 w8 b : EReal) : FVec Ideal S180x330 .f32 :=
  maximumf (addf (addf (addf (addf (addf (addf (addf (addf (addf (mulf s0 (broadcast S180x330 w0)) (mulf s1 (broadcast S180x330 w1)))
    (mulf s2 (broadcast S180x330 w2))) (mulf s3 (broadcast S180x330 w3))) (mulf s4 (broadcast S180x330 w4))) (mulf s5 (broadcast S180x330 w5)))
    (mulf s6 (broadcast S180x330 w6))) (mulf s7 (broadcast S180x330 w7))) (mulf s8 (broadcast S180x330 w8))) (broadcast S180x330 b))
    (broadcast S180x330 (Scalar.ofBits .f32 0x00000000#32))

/-- The larger of every two rows. -/
def halved (q : FVec Ideal S180x330 .f32) : FVec Ideal S1x90x330 .f32 :=
  shapeCast S1x90x330 (multiReduction .maximumf [1] S90x330 (shapeCast S90x2x330 q shapeCasts_S180x330_S90x2x330) 0xFF800000#32
    reduces_S90x2x330_S90x330 (.inl rfl) rfl) shapeCasts_S90x330_S1x90x330

theorem channel_at (s0 s1 s2 s3 s4 s5 s6 s7 s8 : FVec Ideal S180x330 .f32) (w0 w1 w2 w3 w4 w5 w6 w7 w8 b : EReal) (P : ℕ → ℕ → Fin 1 → EReal)
    (W : ℕ → Fin 1 → EReal)
    (h0 : ∀ (r : Fin 180) (c : Fin 330), s0 (ix2 r c) = P (r + 0) (c + 0) 0) (e0 : w0 = W 0 0)
    (h1 : ∀ (r : Fin 180) (c : Fin 330), s1 (ix2 r c) = P (r + 0) (c + 1) 0) (e1 : w1 = W 1 0)
    (h2 : ∀ (r : Fin 180) (c : Fin 330), s2 (ix2 r c) = P (r + 0) (c + 2) 0) (e2 : w2 = W 2 0)
    (h3 : ∀ (r : Fin 180) (c : Fin 330), s3 (ix2 r c) = P (r + 1) (c + 0) 0) (e3 : w3 = W 3 0)
    (h4 : ∀ (r : Fin 180) (c : Fin 330), s4 (ix2 r c) = P (r + 1) (c + 1) 0) (e4 : w4 = W 4 0)
    (h5 : ∀ (r : Fin 180) (c : Fin 330), s5 (ix2 r c) = P (r + 1) (c + 2) 0) (e5 : w5 = W 5 0)
    (h6 : ∀ (r : Fin 180) (c : Fin 330), s6 (ix2 r c) = P (r + 2) (c + 0) 0) (e6 : w6 = W 6 0)
    (h7 : ∀ (r : Fin 180) (c : Fin 330), s7 (ix2 r c) = P (r + 2) (c + 1) 0) (e7 : w7 = W 7 0)
    (h8 : ∀ (r : Fin 180) (c : Fin 330), s8 (ix2 r c) = P (r + 2) (c + 2) 0) (e8 : w8 = W 8 0)
    (r : Fin 180) (c : Fin 330) :
    channel s0 s1 s2 s3 s4 s5 s6 s7 s8 w0 w1 w2 w3 w4 w5 w6 w7 w8 b (ix2 r c) = max (conv9 P W r c + b) 0 := by
  pointwise [channel]
  simp only [h0, h1, h2, h3, h4, h5, h6, h7, h8, e0, e1, e2, e3, e4, e5, e6, e7, e8, conv9, tap, Fin.sum_univ_one]

theorem halved_at (q : FVec Ideal S180x330 .f32) (Q : ℕ → ℕ → EReal) (h : ∀ (r : Fin 180) (c : Fin 330), q (ix2 r c) = Q r c) (r : Fin 90) (c : Fin 330) :
    halved q (ix3 (0 : Fin 1) r c) = max (Q (2 * r) c) (Q (2 * r + 1) c) := by
  have hbot : Ideal.ofBits FTy.f32 0xFF800000#32 = ⊥ := by simp [Ideal.ofBits, Ideal.ieee]
  pointwise [halved]
  refine (congrArg (fun b => Finset.fold max b _ _) hbot).trans ((fold_pair _).trans ?_)
  simp only [h]
  have := r.isLt
  have := c.isLt
  congr 1 <;> congr 1 <;> simp <;> omega

/-- Thirty-two channels, one above the other. -/
def stack (q : Fin 32 → FVec Ideal S1x90x330 .f32) : FVec Ideal S32x90x330 .f32 :=
  concatenate S32x90x330 0 [⟨S1x90x330, q 0⟩, ⟨S1x90x330, q 1⟩, ⟨S1x90x330, q 2⟩, ⟨S1x90x330, q 3⟩, ⟨S1x90x330, q 4⟩, ⟨S1x90x330, q 5⟩, ⟨S1x90x330, q 6⟩, ⟨S1x90x330, q 7⟩, ⟨S1x90x330, q 8⟩, ⟨S1x90x330, q 9⟩, ⟨S1x90x330, q 10⟩, ⟨S1x90x330, q 11⟩, ⟨S1x90x330, q 12⟩, ⟨S1x90x330, q 13⟩, ⟨S1x90x330, q 14⟩, ⟨S1x90x330, q 15⟩, ⟨S1x90x330, q 16⟩, ⟨S1x90x330, q 17⟩, ⟨S1x90x330, q 18⟩, ⟨S1x90x330, q 19⟩, ⟨S1x90x330, q 20⟩, ⟨S1x90x330, q 21⟩, ⟨S1x90x330, q 22⟩, ⟨S1x90x330, q 23⟩, ⟨S1x90x330, q 24⟩, ⟨S1x90x330, q 25⟩, ⟨S1x90x330, q 26⟩, ⟨S1x90x330, q 27⟩, ⟨S1x90x330, q 28⟩, ⟨S1x90x330, q 29⟩, ⟨S1x90x330, q 30⟩, ⟨S1x90x330, q 31⟩] concatenates_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S1x90x330_S32x90x330_d0

theorem stack_at (q : Fin 32 → FVec Ideal S1x90x330 .f32) (o : Fin 32) (r : Fin 90) (c : Fin 330) :
    stack q (ix3 o r c) = q o (ix3 (0 : Fin 1) r c) := by
  unfold stack
  fin_cases o
  all_goals pointwise []

/-- What the body stores: the larger of neighbouring columns, and of these every second one. -/
theorem stored_at (v1498 : FVec Ideal S32x90x330 .f32) (v1503 : Vec Ideal S329x165 .f32)
    (hs : ∀ (k : Fin 329) (j : Fin 165), v1503 (ix2 k j) = if (k : ℕ) = 2 * j then 1 else 0)
    (o : Fin 32) (r : Fin 90) (j : Fin 165) (i : Fin 2880) (hi : (i : ℕ) = o * 90 + r) (c0 c1 : Fin 330) (hc0 : (c0 : ℕ) = 2 * j) (hc1 : (c1 : ℕ) = 2 * j + 1) :
    k0_pay1 (F := Ideal) v1498 v1503 (ix3 (0 : Fin 1) i j) = max (v1498 (ix3 o r c0)) (v1498 (ix3 o r c1)) := by
  pointwise [k0_pay1]
  have hj := j.isLt
  have hr := r.isLt
  rw [Finset.sum_eq_single ⟨2 * (j : ℕ), by omega⟩]
  · rw [hs, if_pos rfl, mul_one]
    have ho : (⟨(i : ℕ) / 90, by omega⟩ : Fin 32) = o := Fin.ext (by simp only; omega)
    have hr' : (⟨(i : ℕ) % 90, by omega⟩ : Fin 90) = r := Fin.ext (by simp only; omega)
    have hc0' : (⟨2 * (j : ℕ), by omega⟩ : Fin 330) = c0 := Fin.ext hc0.symm
    have hc1' : (⟨1 + 2 * (j : ℕ), by omega⟩ : Fin 330) = c1 := Fin.ext (by simp only; omega)
    simp only [ho, hr', hc0', hc1']
  · intro k _ hk
    rw [hs, if_neg, mul_zero]
    intro h
    exact hk (Fin.ext h)
  · intro h
    exact absurd (Finset.mem_univ _) h

end Cert.Stage1Ideal.First

end
-- ==== Proof.First.Channels.lean ====
/- What the kernel's body loads and stores, channel by channel. -/
module

public import proofs.«01_k».proof.Proof.Gen.Stage1Ideal.Frame.RunA
public import proofs.«01_k».proof.Proof.First.Fuse
public import proofs.«01_k».proof.Proof.First.Plane
public import Idealize.ShloMosaic.Lib.Pipeline.ValueKit

@[expose] public section

set_option maxRecDepth 16384

noncomputable section

namespace Cert.Stage1Ideal.First

open Idealize.ShloMosaic Idealize.ShloMosaic.TcCoe Idealize.SL.Sem
open Cert.Stage1Ideal Cert.Stage1Ideal.Gen Cert.First Cert.Trunk

/-- A block of a three-axis operand, loaded at an offset. -/
theorem read3 {A B C a b c : ℕ} (mm : Memref sig .tc .vmem ⟨3, ![A, B, C]⟩ .f32) (hm : mm.IsWhole) (x : Vec Ideal ⟨3, ![A, B, C]⟩ .f32) (p q s : ℕ)
    (inb : ∀ d, (![p, q, s] : Fin 3 → ℕ) d + (![a, b, c] : Fin 3 → ℕ) d ≤ (⟨3, ![A, B, C]⟩ : Shape).size d) (i : Fin a) (j : Fin b) (k : Fin c)
    (i' : Fin A) (j' : Fin B) (k' : Fin C) (hi : (i' : ℕ) = p + i) (hj : (j' : ℕ) = q + j) (hk : (k' : ℕ) = s + k) :
    View.readAt (Elt Ideal) mm.view (Rect.unit (s := ⟨3, ![A, B, C]⟩) ![p, q, s] ![a, b, c] inb).toLoadRect (hm.unread x) (ix3 i j k) = x (ix3 i' j' k') := by
  rw [View.readAt_eq_ld, Memref.IsWhole.read_unread]
  refine View.ld_unit_apply_of _ _ _ _ _ _ fun d => ?_
  fin_cases d
  · exact hi
  · exact hj
  · exact hk

theorem in9 (o : Fin 32) (k : Fin 9) : ∀ d, (![(o : ℕ), (k : ℕ)] : Fin 2 → ℕ) d + S1x1.size d ≤ S32x9.size d := by
  intro d
  have := o.isLt
  have := k.isLt
  fin_cases d
  · show (o : ℕ) + 1 ≤ 32
    omega
  · show (k : ℕ) + 1 ≤ 9
    omega

theorem in32 (o : Fin 32) : ∀ d, (![(o : ℕ)] : Fin 1 → ℕ) d + S1.size d ≤ S32.size d := by
  intro d
  have := o.isLt
  fin_cases d
  show (o : ℕ) + 1 ≤ 32
  omega

/-- One weight, loaded as a scalar. -/
def weight (arg4 : Memref sig .tc .smem S32x9 .f32) (harg4 : arg4.IsWhole) (x3 : Vec Ideal S32x9 .f32) (o : Fin 32) (k : Fin 9) : EReal :=
  View.readAt (Elt Ideal) arg4.view (Rect.unit (s := S32x9) ![(o : ℕ), (k : ℕ)] S1x1.size (in9 o k)).toLoadRect (harg4.unread x3) (Shape.Idx.first (show 0 < S1x1.numel from numel1_S1x1 ▸ Nat.one_pos))

/-- One bias, loaded as a scalar. -/
def bias (arg5 : Memref sig .tc .smem S32 .f32) (harg5 : arg5.IsWhole) (x4 : Vec Ideal S32 .f32) (o : Fin 32) : EReal :=
  View.readAt (Elt Ideal) arg5.view (Rect.unit (s := S32) ![(o : ℕ)] S1.size (in32 o)).toLoadRect (harg5.unread x4) (Shape.Idx.first (show 0 < S1.numel from numel1_S1 ▸ Nat.one_pos))

theorem weight_at (arg4 : Memref sig .tc .smem S32x9 .f32) (harg4 : arg4.IsWhole) (x3 : Vec Ideal S32x9 .f32) (o : Fin 32) (k : Fin 9) :
    weight arg4 harg4 x3 o k = x3 (ix2 o k) := by
  unfold weight
  rw [View.readAt_eq_ld, Memref.IsWhole.read_unread]
  refine View.ld_unit_apply_of _ _ _ _ _ _ fun d => ?_
  fin_cases d <;> rfl

theorem bias_at (arg5 : Memref sig .tc .smem S32 .f32) (harg5 : arg5.IsWhole) (x4 : Vec Ideal S32 .f32) (o : Fin 32) : bias arg5 harg5 x4 o = x4 (ix1 o) := by
  unfold bias
  rw [View.readAt_eq_ld, Memref.IsWhole.read_unread]
  refine View.ld_unit_apply_of _ _ _ _ _ _ fun d => ?_
  fin_cases d
  rfl

variable (c : Dev nD) (arg1 : Memref sig .tc .vmem S1x1024x2 .f32) (harg1 : arg1.IsWhole) (arg2 : Memref sig .tc .vmem S1x2x1024 .f32) (harg2 : arg2.IsWhole)
    (arg3 : Memref sig .tc .vmem S1x180x330 .f32) (harg3 : arg3.IsWhole) (arg4 : Memref sig .tc .smem S32x9 .f32) (harg4 : arg4.IsWhole)
    (arg5 : Memref sig .tc .smem S32 .f32) (harg5 : arg5.IsWhole)
    (x0 : Vec Ideal S1x1024x2 .f32) (x1 : Vec Ideal S1x2x1024 .f32) (x2 : Vec Ideal S1x180x330 .f32) (x3 : Vec Ideal S32x9 .f32) (x4 : Vec Ideal S32 .f32)

/-- The picture of one image of the batch: its heatmap, from the points, and the image itself, mixed. -/
def scene (x0 : Vec Ideal S1x1024x2 .f32) (x1 : Vec Ideal S1x2x1024 .f32) (x2 : Vec Ideal S1x180x330 .f32) : ℕ → ℕ → Fin 1 → EReal :=
  fused (heat (fun t => x1 (ix3 (0 : Fin 1) (0 : Fin 2) t)) (fun t => x0 (ix3 (0 : Fin 1) t (1 : Fin 2))))
    (fun r c => if h : r < 180 ∧ c < 330 then x2 (ix3 (0 : Fin 1) (⟨r, h.1⟩ : Fin 180) (⟨c, h.2⟩ : Fin 330)) else 0)

/-- The bordered picture the body works on. -/
def bordered14 : FVec Ideal S182x332 .f32 :=
  k0_pay14 (F := Ideal) (kernelRun0_A.sl.r_2 c arg2 harg2 x1) (kernelRun0_A.sl.r_3 c arg1 harg1 x0) (kernelRun0_A.sl.r_4 c arg1 harg1 x0) kernelRun0_A.sl.cst_26
    (View.readAt (Elt Ideal) arg3.view (Rect.unit (s := S1x180x330) ![0, 0, 0] S1x180x330.size inb_S1x180x330_S1x180x330_0_0_0).toLoadRect (harg3.unread x2))

theorem bordered14_at (r : Fin 182) (q : Fin 332) :
    bordered14 c arg1 harg1 arg2 harg2 arg3 harg3 x0 x1 x2 (ix2 r q) = bordered 180 330 (scene x0 x1 x2) r q 0 := by
  have hz : (kernelRun0_A.sl.cst_26 (F := Ideal) : EReal) = 0 := Ideal.ofBits_zero_f32
  unfold bordered14
  rw [hz]
  refine picture_at _ _ _ _ _ _ _ (fun t => ?_) (fun t => ?_) (fun r q => ?_) r q
  · exact read3 arg2 harg2 x1 0 0 0 _ _ _ _ _ _ _ rfl rfl (Nat.zero_add _).symm
  · exact read3 arg1 harg1 x0 0 0 1 _ _ _ _ _ _ _ rfl (Nat.zero_add _).symm rfl
  · rw [dif_pos ⟨r.isLt, q.isLt⟩]
    exact read3 arg3 harg3 x2 0 0 0 _ _ _ _ _ _ _ rfl (Nat.zero_add _).symm (Nat.zero_add _).symm

theorem shift0_at (r : Fin 180) (q : Fin 330) :
    kernelRun0_A.sl.r_7 (F := Ideal) c arg1 harg1 arg2 harg2 arg3 harg3 x0 x1 x2 (ix2 r q) = bordered 180 330 (scene x0 x1 x2) (r + 0) (q + 0) 0 := by
  have hr := r.isLt
  have hq := q.isLt
  have e : kernelRun0_A.sl.r_7 (F := Ideal) c arg1 harg1 arg2 harg2 arg3 harg3 x0 x1 x2 = extractStridedSlice S180x330 ![0, 0] (bordered14 c arg1 harg1 arg2 harg2 arg3 harg3 x0 x1 x2) slices_S182x332_o0_0_S180x330 := rfl
  have h : ∀ (a : Fin 182) (b : Fin 332), a.val = r + 0 → b.val = q + 0 → bordered14 c arg1 harg1 arg2 harg2 arg3 harg3 x0 x1 x2 (ix2 a b) = bordered 180 330 (scene x0 x1 x2) (r + 0) (q + 0) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift1_at (r : Fin 180) (q : Fin 330) :
    kernelRun0_A.sl.r_8 (F := Ideal) c arg1 harg1 arg2 harg2 arg3 harg3 x0 x1 x2 (ix2 r q) = bordered 180 330 (scene x0 x1 x2) (r + 0) (q + 1) 0 := by
  have hr := r.isLt
  have hq := q.isLt
  have e : kernelRun0_A.sl.r_8 (F := Ideal) c arg1 harg1 arg2 harg2 arg3 harg3 x0 x1 x2 = extractStridedSlice S180x330 ![0, 1] (bordered14 c arg1 harg1 arg2 harg2 arg3 harg3 x0 x1 x2) slices_S182x332_o0_1_S180x330 := rfl
  have h : ∀ (a : Fin 182) (b : Fin 332), a.val = r + 0 → b.val = q + 1 → bordered14 c arg1 harg1 arg2 harg2 arg3 harg3 x0 x1 x2 (ix2 a b) = bordered 180 330 (scene x0 x1 x2) (r + 0) (q + 1) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift2_at (r : Fin 180) (q : Fin 330) :
    kernelRun0_A.sl.r_9 (F := Ideal) c arg1 harg1 arg2 harg2 arg3 harg3 x0 x1 x2 (ix2 r q) = bordered 180 330 (scene x0 x1 x2) (r + 0) (q + 2) 0 := by
  have hr := r.isLt
  have hq := q.isLt
  have e : kernelRun0_A.sl.r_9 (F := Ideal) c arg1 harg1 arg2 harg2 arg3 harg3 x0 x1 x2 = extractStridedSlice S180x330 ![0, 2] (bordered14 c arg1 harg1 arg2 harg2 arg3 harg3 x0 x1 x2) slices_S182x332_o0_2_S180x330 := rfl
  have h : ∀ (a : Fin 182) (b : Fin 332), a.val = r + 0 → b.val = q + 2 → bordered14 c arg1 harg1 arg2 harg2 arg3 harg3 x0 x1 x2 (ix2 a b) = bordered 180 330 (scene x0 x1 x2) (r + 0) (q + 2) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift3_at (r : Fin 180) (q : Fin 330) :
    kernelRun0_A.sl.r_10 (F := Ideal) c arg1 harg1 arg2 harg2 arg3 harg3 x0 x1 x2 (ix2 r q) = bordered 180 330 (scene x0 x1 x2) (r + 1) (q + 0) 0 := by
  have hr := r.isLt
  have hq := q.isLt
  have e : kernelRun0_A.sl.r_10 (F := Ideal) c arg1 harg1 arg2 harg2 arg3 harg3 x0 x1 x2 = extractStridedSlice S180x330 ![1, 0] (bordered14 c arg1 harg1 arg2 harg2 arg3 harg3 x0 x1 x2) slices_S182x332_o1_0_S180x330 := rfl
  have h : ∀ (a : Fin 182) (b : Fin 332), a.val = r + 1 → b.val = q + 0 → bordered14 c arg1 harg1 arg2 harg2 arg3 harg3 x0 x1 x2 (ix2 a b) = bordered 180 330 (scene x0 x1 x2) (r + 1) (q + 0) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift4_at (r : Fin 180) (q : Fin 330) :
    kernelRun0_A.sl.r_11 (F := Ideal) c arg1 harg1 arg2 harg2 arg3 harg3 x0 x1 x2 (ix2 r q) = bordered 180 330 (scene x0 x1 x2) (r + 1) (q + 1) 0 := by
  have hr := r.isLt
  have hq := q.isLt
  have e : kernelRun0_A.sl.r_11 (F := Ideal) c arg1 harg1 arg2 harg2 arg3 harg3 x0 x1 x2 = extractStridedSlice S180x330 ![1, 1] (bordered14 c arg1 harg1 arg2 harg2 arg3 harg3 x0 x1 x2) slices_S182x332_o1_1_S180x330 := rfl
  have h : ∀ (a : Fin 182) (b : Fin 332), a.val = r + 1 → b.val = q + 1 → bordered14 c arg1 harg1 arg2 harg2 arg3 harg3 x0 x1 x2 (ix2 a b) = bordered 180 330 (scene x0 x1 x2) (r + 1) (q + 1) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift5_at (r : Fin 180) (q : Fin 330) :
    kernelRun0_A.sl.r_12 (F := Ideal) c arg1 harg1 arg2 harg2 arg3 harg3 x0 x1 x2 (ix2 r q) = bordered 180 330 (scene x0 x1 x2) (r + 1) (q + 2) 0 := by
  have hr := r.isLt
  have hq := q.isLt
  have e : kernelRun0_A.sl.r_12 (F := Ideal) c arg1 harg1 arg2 harg2 arg3 harg3 x0 x1 x2 = extractStridedSlice S180x330 ![1, 2] (bordered14 c arg1 harg1 arg2 harg2 arg3 harg3 x0 x1 x2) slices_S182x332_o1_2_S180x330 := rfl
  have h : ∀ (a : Fin 182) (b : Fin 332), a.val = r + 1 → b.val = q + 2 → bordered14 c arg1 harg1 arg2 harg2 arg3 harg3 x0 x1 x2 (ix2 a b) = bordered 180 330 (scene x0 x1 x2) (r + 1) (q + 2) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift6_at (r : Fin 180) (q : Fin 330) :
    kernelRun0_A.sl.r_13 (F := Ideal) c arg1 harg1 arg2 harg2 arg3 harg3 x0 x1 x2 (ix2 r q) = bordered 180 330 (scene x0 x1 x2) (r + 2) (q + 0) 0 := by
  have hr := r.isLt
  have hq := q.isLt
  have e : kernelRun0_A.sl.r_13 (F := Ideal) c arg1 harg1 arg2 harg2 arg3 harg3 x0 x1 x2 = extractStridedSlice S180x330 ![2, 0] (bordered14 c arg1 harg1 arg2 harg2 arg3 harg3 x0 x1 x2) slices_S182x332_o2_0_S180x330 := rfl
  have h : ∀ (a : Fin 182) (b : Fin 332), a.val = r + 2 → b.val = q + 0 → bordered14 c arg1 harg1 arg2 harg2 arg3 harg3 x0 x1 x2 (ix2 a b) = bordered 180 330 (scene x0 x1 x2) (r + 2) (q + 0) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift7_at (r : Fin 180) (q : Fin 330) :
    kernelRun0_A.sl.r_14 (F := Ideal) c arg1 harg1 arg2 harg2 arg3 harg3 x0 x1 x2 (ix2 r q) = bordered 180 330 (scene x0 x1 x2) (r + 2) (q + 1) 0 := by
  have hr := r.isLt
  have hq := q.isLt
  have e : kernelRun0_A.sl.r_14 (F := Ideal) c arg1 harg1 arg2 harg2 arg3 harg3 x0 x1 x2 = extractStridedSlice S180x330 ![2, 1] (bordered14 c arg1 harg1 arg2 harg2 arg3 harg3 x0 x1 x2) slices_S182x332_o2_1_S180x330 := rfl
  have h : ∀ (a : Fin 182) (b : Fin 332), a.val = r + 2 → b.val = q + 1 → bordered14 c arg1 harg1 arg2 harg2 arg3 harg3 x0 x1 x2 (ix2 a b) = bordered 180 330 (scene x0 x1 x2) (r + 2) (q + 1) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

theorem shift8_at (r : Fin 180) (q : Fin 330) :
    kernelRun0_A.sl.r_15 (F := Ideal) c arg1 harg1 arg2 harg2 arg3 harg3 x0 x1 x2 (ix2 r q) = bordered 180 330 (scene x0 x1 x2) (r + 2) (q + 2) 0 := by
  have hr := r.isLt
  have hq := q.isLt
  have e : kernelRun0_A.sl.r_15 (F := Ideal) c arg1 harg1 arg2 harg2 arg3 harg3 x0 x1 x2 = extractStridedSlice S180x330 ![2, 2] (bordered14 c arg1 harg1 arg2 harg2 arg3 harg3 x0 x1 x2) slices_S182x332_o2_2_S180x330 := rfl
  have h : ∀ (a : Fin 182) (b : Fin 332), a.val = r + 2 → b.val = q + 2 → bordered14 c arg1 harg1 arg2 harg2 arg3 harg3 x0 x1 x2 (ix2 a b) = bordered 180 330 (scene x0 x1 x2) (r + 2) (q + 2) 0 := by
    intro a b ha hb
    rw [bordered14_at, ha, hb]
  rw [e]
  generalize bordered14 c arg1 harg1 arg2 harg2 arg3 harg3 x0 x1 x2 = y at h
  pointwise
  exact h _ _ (by simp only <;> omega) (by simp only <;> omega)

/-- One channel's rows, halved. -/
def rowsOfChannel (o : Fin 32) : FVec Ideal S1x90x330 .f32 :=
  halved (channel (kernelRun0_A.sl.r_7 (F := Ideal) c arg1 harg1 arg2 harg2 arg3 harg3 x0 x1 x2) (kernelRun0_A.sl.r_8 (F := Ideal) c arg1 harg1 arg2 harg2 arg3 harg3 x0 x1 x2) (kernelRun0_A.sl.r_9 (F := Ideal) c arg1 harg1 arg2 harg2 arg3 harg3 x0 x1 x2) (kernelRun0_A.sl.r_10 (F := Ideal) c arg1 harg1 arg2 harg2 arg3 harg3 x0 x1 x2) (kernelRun0_A.sl.r_11 (F := Ideal) c arg1 harg1 arg2 harg2 arg3 harg3 x0 x1 x2) (kernelRun0_A.sl.r_12 (F := Ideal) c arg1 harg1 arg2 harg2 arg3 harg3 x0 x1 x2) (kernelRun0_A.sl.r_13 (F := Ideal) c arg1 harg1 arg2 harg2 arg3 harg3 x0 x1 x2) (kernelRun0_A.sl.r_14 (F := Ideal) c arg1 harg1 arg2 harg2 arg3 harg3 x0 x1 x2) (kernelRun0_A.sl.r_15 (F := Ideal) c arg1 harg1 arg2 harg2 arg3 harg3 x0 x1 x2)
    (weight arg4 harg4 x3 o 0) (weight arg4 harg4 x3 o 1) (weight arg4 harg4 x3 o 2) (weight arg4 harg4 x3 o 3) (weight arg4 harg4 x3 o 4) (weight arg4 harg4 x3 o 5) (weight arg4 harg4 x3 o 6) (weight arg4 harg4 x3 o 7) (weight arg4 harg4 x3 o 8) (bias arg5 harg5 x4 o))

/-- A weight of a channel by tap. -/
def wts (x3 : Vec Ideal S32x9 .f32) (o : Fin 32) (t : ℕ) (k : Fin 1) : EReal := taps (fun t (k : Fin 1) o => x3 (ix2 o t)) t k o

theorem rowsOfChannel_at (o : Fin 32) (r : Fin 90) (q : Fin 330) :
    rowsOfChannel c arg1 harg1 arg2 harg2 arg3 harg3 arg4 harg4 arg5 harg5 x0 x1 x2 x3 x4 o (ix3 (0 : Fin 1) r q)
      = max (max (conv9 (bordered 180 330 (scene x0 x1 x2)) (wts x3 o) (2 * r) q + x4 (ix1 o)) 0)
          (max (conv9 (bordered 180 330 (scene x0 x1 x2)) (wts x3 o) (2 * r + 1) q + x4 (ix1 o)) 0) := by
  rw [← bias_at arg5 harg5 x4 o]
  exact halved_at _ (fun r q => max (conv9 (bordered 180 330 (scene x0 x1 x2)) (wts x3 o) r q + bias arg5 harg5 x4 o) 0) (fun r q =>
    channel_at _ _ _ _ _ _ _ _ _ _ _ _ _ _ _ _ _ _ _ (bordered 180 330 (scene x0 x1 x2)) (wts x3 o)
      (shift0_at c arg1 harg1 arg2 harg2 arg3 harg3 x0 x1 x2) (weight_at arg4 harg4 x3 o 0)
(shift1_at c arg1 harg1 arg2 harg2 arg3 harg3 x0 x1 x2) (weight_at arg4 harg4 x3 o 1)
(shift2_at c arg1 harg1 arg2 harg2 arg3 harg3 x0 x1 x2) (weight_at arg4 harg4 x3 o 2)
(shift3_at c arg1 harg1 arg2 harg2 arg3 harg3 x0 x1 x2) (weight_at arg4 harg4 x3 o 3)
(shift4_at c arg1 harg1 arg2 harg2 arg3 harg3 x0 x1 x2) (weight_at arg4 harg4 x3 o 4)
(shift5_at c arg1 harg1 arg2 harg2 arg3 harg3 x0 x1 x2) (weight_at arg4 harg4 x3 o 5)
(shift6_at c arg1 harg1 arg2 harg2 arg3 harg3 x0 x1 x2) (weight_at arg4 harg4 x3 o 6)
(shift7_at c arg1 harg1 arg2 harg2 arg3 harg3 x0 x1 x2) (weight_at arg4 harg4 x3 o 7)
(shift8_at c arg1 harg1 arg2 harg2 arg3 harg3 x0 x1 x2) (weight_at arg4 harg4 x3 o 8) r q) r q

end Cert.Stage1Ideal.First

end
-- ==== Proof.First.Planes.lean ====
/- The stack of channels the body builds is the stack of the channels' halved rows. -/
module

public import proofs.«01_k».proof.Proof.First.Channels

@[expose] public section

set_option maxRecDepth 16384

noncomputable section

namespace Cert.Stage1Ideal.First

open Idealize.ShloMosaic Idealize.ShloMosaic.TcCoe Idealize.SL.Sem
open Cert.Stage1Ideal Cert.Stage1Ideal.Gen Cert.First Cert.Trunk

variable (c : Dev nD) (arg1 : Memref sig .tc .vmem S1x1024x2 .f32) (harg1 : arg1.IsWhole) (arg2 : Memref sig .tc .vmem S1x2x1024 .f32) (harg2 : arg2.IsWhole)
    (arg3 : Memref sig .tc .vmem S1x180x330 .f32) (harg3 : arg3.IsWhole) (arg4 : Memref sig .tc .smem S32x9 .f32) (harg4 : arg4.IsWhole)
    (arg5 : Memref sig .tc .smem S32 .f32) (harg5 : arg5.IsWhole)
    (x0 : Vec Ideal S1x1024x2 .f32) (x1 : Vec Ideal S1x2x1024 .f32) (x2 : Vec Ideal S1x180x330 .f32) (x3 : Vec Ideal S32x9 .f32) (x4 : Vec Ideal S32 .f32)

theorem plane0 : kernelRun0_A.sl.r_27 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 0 := rfl

theorem plane1 : kernelRun0_A.sl.r_38 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 1 := rfl

theorem plane2 : kernelRun0_A.sl.r_60 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 2 := rfl

theorem plane3 : kernelRun0_A.sl.r_71 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 3 := rfl

theorem plane4 : kernelRun0_A.sl.r_82 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 4 := rfl

theorem plane5 : kernelRun0_A.sl.r_94 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 5 := rfl

theorem plane6 : kernelRun0_A.sl.r_106 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 6 := rfl

theorem plane7 : kernelRun0_A.sl.r_117 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 7 := rfl

theorem plane8 : kernelRun0_A.sl.r_129 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 8 := rfl

theorem plane9 : kernelRun0_A.sl.r_141 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 9 := rfl

theorem plane10 : kernelRun0_A.sl.r_152 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 10 := rfl

theorem plane11 : kernelRun0_A.sl.r_164 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 11 := rfl

theorem plane12 : kernelRun0_A.sl.r_176 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 12 := rfl

theorem plane13 : kernelRun0_A.sl.r_187 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 13 := rfl

theorem plane14 : kernelRun0_A.sl.r_199 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 14 := rfl

theorem plane15 : kernelRun0_A.sl.r_211 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 15 := rfl

theorem plane16 : kernelRun0_A.sl.r_222 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 16 := rfl

theorem plane17 : kernelRun0_A.sl.r_244 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 17 := rfl

theorem plane18 : kernelRun0_A.sl.r_255 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 18 := rfl

theorem plane19 : kernelRun0_A.sl.r_266 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 19 := rfl

theorem plane20 : kernelRun0_A.sl.r_278 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 20 := rfl

theorem plane21 : kernelRun0_A.sl.r_290 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 21 := rfl

theorem plane22 : kernelRun0_A.sl.r_301 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 22 := rfl

theorem plane23 : kernelRun0_A.sl.r_313 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 23 := rfl

theorem plane24 : kernelRun0_A.sl.r_325 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 24 := rfl

theorem plane25 : kernelRun0_A.sl.r_336 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 25 := rfl

theorem plane26 : kernelRun0_A.sl.r_348 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 26 := rfl

theorem plane27 : kernelRun0_A.sl.r_360 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 27 := rfl

theorem plane28 : kernelRun0_A.sl.r_371 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 28 := rfl

theorem plane29 : kernelRun0_A.sl.r_383 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 29 := rfl

theorem plane30 : kernelRun0_A.sl.r_395 (F := Ideal) c arg1 harg1 arg2 harg2 arg3 harg3 arg4 harg4 arg5 harg5 x0 x1 x2 x3 x4 = rowsOfChannel c arg1 harg1 arg2 harg2 arg3 harg3 arg4 harg4 arg5 harg5 x0 x1 x2 x3 x4 30 := rfl

theorem planes : kernelRun0_A.sl.r_406 (F := Ideal) c arg1 harg1 arg2 harg2 arg3 harg3 arg4 harg4 arg5 harg5 x0 x1 x2 x3 x4 = stack (rowsOfChannel c arg1 harg1 arg2 harg2 arg3 harg3 arg4 harg4 arg5 harg5 x0 x1 x2 x3 x4) := by
  unfold stack
  rw [← plane0 c arg1 harg1 arg2 harg2 arg3 harg3 arg4 harg4 arg5 harg5 x0 x1 x2 x3 x4, ← plane1 c arg1 harg1 arg2 harg2 arg3 harg3 arg4 harg4 arg5 harg5 x0 x1 x2 x3 x4, ← plane2 c arg1 harg1 arg2 harg2 arg3 harg3 arg4 harg4 arg5 harg5 x0 x1 x2 x3 x4, ← plane3 c arg1 harg1 arg2 harg2 arg3 harg3 arg4 harg4 arg5 harg5 x0 x1 x2 x3 x4, ← plane4 c arg1 harg1 arg2 harg2 arg3 harg3 arg4 harg4 arg5 harg5 x0 x1 x2 x3 x4, ← plane5 c arg1 harg1 arg2 harg2 arg3 harg3 arg4 harg4 arg5 harg5 x0 x1 x2 x3 x4, ← plane6 c arg1 harg1 arg2 harg2 arg3 harg3 arg4 harg4 arg5 harg5 x0 x1 x2 x3 x4, ← plane7 c arg1 harg1 arg2 harg2 arg3 harg3 arg4 harg4 arg5 harg5 x0 x1 x2 x3 x4, ← plane8 c arg1 harg1 arg2 harg2 arg3 harg3 arg4 harg4 arg5 harg5 x0 x1 x2 x3 x4, ← plane9 c arg1 harg1 arg2 harg2 arg3 harg3 arg4 harg4 arg5 harg5 x0 x1 x2 x3 x4, ← plane10 c arg1 harg1 arg2 harg2 arg3 harg3 arg4 harg4 arg5 harg5 x0 x1 x2 x3 x4, ← plane11 c arg1 harg1 arg2 harg2 arg3 harg3 arg4 harg4 arg5 harg5 x0 x1 x2 x3 x4, ← plane12 c arg1 harg1 arg2 harg2 arg3 harg3 arg4 harg4 arg5 harg5 x0 x1 x2 x3 x4, ← plane13 c arg1 harg1 arg2 harg2 arg3 harg3 arg4 harg4 arg5 harg5 x0 x1 x2 x3 x4, ← plane14 c arg1 harg1 arg2 harg2 arg3 harg3 arg4 harg4 arg5 harg5 x0 x1 x2 x3 x4, ← plane15 c arg1 harg1 arg2 harg2 arg3 harg3 arg4 harg4 arg5 harg5 x0 x1 x2 x3 x4, ← plane16 c arg1 harg1 arg2 harg2 arg3 harg3 arg4 harg4 arg5 harg5 x0 x1 x2 x3 x4, ← plane17 c arg1 harg1 arg2 harg2 arg3 harg3 arg4 harg4 arg5 harg5 x0 x1 x2 x3 x4, ← plane18 c arg1 harg1 arg2 harg2 arg3 harg3 arg4 harg4 arg5 harg5 x0 x1 x2 x3 x4, ← plane19 c arg1 harg1 arg2 harg2 arg3 harg3 arg4 harg4 arg5 harg5 x0 x1 x2 x3 x4, ← plane20 c arg1 harg1 arg2 harg2 arg3 harg3 arg4 harg4 arg5 harg5 x0 x1 x2 x3 x4, ← plane21 c arg1 harg1 arg2 harg2 arg3 harg3 arg4 harg4 arg5 harg5 x0 x1 x2 x3 x4, ← plane22 c arg1 harg1 arg2 harg2 arg3 harg3 arg4 harg4 arg5 harg5 x0 x1 x2 x3 x4, ← plane23 c arg1 harg1 arg2 harg2 arg3 harg3 arg4 harg4 arg5 harg5 x0 x1 x2 x3 x4, ← plane24 c arg1 harg1 arg2 harg2 arg3 harg3 arg4 harg4 arg5 harg5 x0 x1 x2 x3 x4, ← plane25 c arg1 harg1 arg2 harg2 arg3 harg3 arg4 harg4 arg5 harg5 x0 x1 x2 x3 x4, ← plane26 c arg1 harg1 arg2 harg2 arg3 harg3 arg4 harg4 arg5 harg5 x0 x1 x2 x3 x4, ← plane27 c arg1 harg1 arg2 harg2 arg3 harg3 arg4 harg4 arg5 harg5 x0 x1 x2 x3 x4, ← plane28 c arg1 harg1 arg2 harg2 arg3 harg3 arg4 harg4 arg5 harg5 x0 x1 x2 x3 x4, ← plane29 c arg1 harg1 arg2 harg2 arg3 harg3 arg4 harg4 arg5 harg5 x0 x1 x2 x3 x4, ← plane30 c arg1 harg1 arg2 harg2 arg3 harg3 arg4 harg4 arg5 harg5 x0 x1 x2 x3 x4]
  rfl

end Cert.Stage1Ideal.First

end
-- ==== Proof.First.Point.lean ====
/- What one run of the body leaves in its output block. -/
module

public import proofs.«01_k».proof.Proof.First.Planes
public import Idealize.ShloMosaic.Lib.Pipeline.ValueKit
public import Idealize.ShloMosaic.Lib.Pipeline.ReadBack

@[expose] public section

set_option maxRecDepth 16384

noncomputable section

namespace Cert.Stage1Ideal.First

open Idealize.ShloMosaic Idealize.ShloMosaic.TcCoe Idealize.SL.Sem
open Idealize.ShloMosaic.Pipeline (Dat)
open Cert.Stage1Ideal Cert.Stage1Ideal.Gen Cert.First Cert.Trunk

variable (c : Dev nD) (arg1 : Memref sig .tc .vmem S1x1024x2 .f32) (harg1 : arg1.IsWhole) (arg2 : Memref sig .tc .vmem S1x2x1024 .f32) (harg2 : arg2.IsWhole)
    (arg3 : Memref sig .tc .vmem S1x180x330 .f32) (harg3 : arg3.IsWhole) (arg4 : Memref sig .tc .smem S32x9 .f32) (harg4 : arg4.IsWhole)
    (arg5 : Memref sig .tc .smem S32 .f32) (harg5 : arg5.IsWhole)
    (x0 : Vec Ideal S1x1024x2 .f32) (x1 : Vec Ideal S1x2x1024 .f32) (x2 : Vec Ideal S1x180x330 .f32) (x3 : Vec Ideal S32x9 .f32) (x4 : Vec Ideal S32 .f32)
    (arg6 : Memref sig .tc .vmem S329x165 .f32) (harg6 : arg6.IsWhole) (arg7 : Memref sig .tc .vmem S1x2880x165 .f32) (harg7 : arg7.IsWhole)
    (x5 : Vec Ideal S329x165 .f32)

/-- The selection table, loaded whole. -/
theorem readSel (inb : ∀ d, (![0, 0] : Fin 2 → ℕ) d + S329x165.size d ≤ S329x165.size d) (k : Fin 329) (j : Fin 165) :
    View.readAt (Elt Ideal) arg6.view (Rect.unit (s := S329x165) ![0, 0] S329x165.size inb).toLoadRect (harg6.unread x5) (ix2 k j) = x5 (ix2 k j) := by
  rw [View.readAt_eq_ld, Memref.IsWhole.read_unread]
  refine View.ld_unit_apply_of _ _ _ _ _ _ fun d => ?_
  fin_cases d
  · exact (Nat.zero_add _).symm
  · exact (Nat.zero_add _).symm

/-- The stored block: convolution, bias, maximum with zero and 2×2 maximum of the picture. -/
theorem out_at (hs : ∀ (k : Fin 329) (j : Fin 165), x5 (ix2 k j) = if (k : ℕ) = 2 * j then 1 else 0)
    (inb : ∀ d, (![0, 0] : Fin 2 → ℕ) d + S329x165.size d ≤ S329x165.size d) (o : Fin 32) (r : Fin 90) (j : Fin 165) (i : Fin 2880) (hi : (i : ℕ) = o * 90 + r) :
    k0_pay1 (F := Ideal) (kernelRun0_A.sl.r_406 (F := Ideal) c arg1 harg1 arg2 harg2 arg3 harg3 arg4 harg4 arg5 harg5 x0 x1 x2 x3 x4)
      (View.readAt (Elt Ideal) arg6.view (Rect.unit (s := S329x165) ![0, 0] S329x165.size inb).toLoadRect (harg6.unread x5)) (ix3 (0 : Fin 1) i j)
      = poolLayer 180 330 (scene x0 x1 x2) (taps fun t (k : Fin 1) o => x3 (ix2 o t)) (fun o => x4 (ix1 o)) r j o := by
  have hj := j.isLt
  rw [planes]
  refine (stored_at _ _ (fun k j => (readSel arg6 harg6 x5 inb k j).trans (hs k j)) o r j i hi ⟨2 * (j : ℕ), by omega⟩ ⟨2 * (j : ℕ) + 1, by omega⟩ rfl rfl).trans ?_
  rw [stack_at, stack_at, rowsOfChannel_at, rowsOfChannel_at]
  rfl

/-- A store over the whole output block leaves exactly its payload. -/
theorem whole_store (p : Vec Ideal S1x2880x165 .f32) (inb : ∀ a, (![0, 0, 0] : Fin 3 → ℕ) a + (![1, 2880, 165] : Fin 3 → ℕ) a ≤ S1x2880x165.size a) (y : S1x2880x165.Idx) :
    View.canon (Val := Elt Ideal) (s := S1x2880x165) (e := .f32) [⟨Rect.unit (s := S1x2880x165) ![0, 0, 0] ![1, 2880, 165] inb, p⟩] y = p y := by
  have e : ∀ x, (Rect.unit (s := S1x2880x165) ![0, 0, 0] ![1, 2880, 165] inb).emb x = x := fun x => by
    funext a
    apply Fin.ext
    refine (Rect.idx_unit_val (s := S1x2880x165) ![0, 0, 0] ![1, 2880, 165] inb x a).trans ?_
    fin_cases a <;> exact Nat.zero_add _
  have hc := View.canon_append_of_piecesOf (Val := Elt Ideal) (s := S1x2880x165) (e := .f32) p [] [⟨Rect.unit (s := S1x2880x165) ![0, 0, 0] ![1, 2880, 165] inb, p⟩]
  rw [List.append_nil] at hc
  refine hc ?_ y ⟨_, List.mem_cons_self, ?_⟩
  · exact ⟨fun x => by rw [e], trivial⟩
  rw [Rect.mem_set_unit]
  intro a
  have h0 : (y 0).val < 1 := (y 0).isLt
  have h1 : (y 1).val < 2880 := (y 1).isLt
  have h2 : (y 2).val < 165 := (y 2).isLt
  fin_cases a
  · exact ⟨Nat.zero_le _, by show (y 0).val < 0 + 1; omega⟩
  · exact ⟨Nat.zero_le _, by show (y 1).val < 0 + 2880; omega⟩
  · exact ⟨Nat.zero_le _, by show (y 2).val < 0 + 165; omega⟩

theorem block_at (hs : ∀ (k : Fin 329) (j : Fin 165), x5 (ix2 k j) = if (k : ℕ) = 2 * j then 1 else 0)
    (v : View sig .tc .vmem S1x2880x165 .f32) (i0 : grid0.Coords) (o : Fin 32) (r : Fin 90) (j : Fin 165) (i : Fin 2880) (hi : (i : ℕ) = o * 90 + r) :
    View.read (Elt Ideal) v (v.writes (Elt Ideal) v.junk (kernelRun0_A (F := Ideal) c i0 arg1 harg1 arg2 harg2 arg3 harg3 arg4 harg4 arg5 harg5 arg6 harg6 arg7 harg7 x0 x1 x2 x3 x4 x5).1) (ix3 (0 : Fin 1) i j)
      = poolLayer 180 330 (scene x0 x1 x2) (taps fun t (k : Fin 1) o => x3 (ix2 o t)) (fun o => x4 (ix1 o)) r j o := by
  rw [View.read_writes_junk_apply_eq_canon]
  refine Eq.trans ?_ (out_at c arg1 harg1 arg2 harg2 arg3 harg3 arg4 harg4 arg5 harg5 x0 x1 x2 x3 x4 arg6 harg6 x5 hs inb_S329x165_S329x165_0_0 o r j i hi)
  exact whole_store _ _ _

end Cert.Stage1Ideal.First

end
-- ==== Proof.First.Result.lean ====
/- The kernel's result array after its run: at batch `n`, the first layer of that image with the folded weights. -/
module

public import proofs.«01_k».proof.Proof.First.Blocks
public import proofs.«01_k».proof.Proof.First.Point

@[expose] public section

set_option maxRecDepth 16384

noncomputable section

namespace Cert.Stage1Ideal.First

open Idealize.ShloMosaic Idealize.ShloMosaic.TcCoe Idealize.SL.Sem
open Idealize.ShloMosaic.Pipeline (Dat)
open Cert.Stage1Ideal Cert.Stage1Ideal.Gen Cert.First Cert.Trunk

/-- One image of a batch at row and column numbers. -/
def pixels (img : FVec Ideal S32x180x330 .f32) (n : Fin 32) (r c : ℕ) : EReal :=
  if h : r < 180 ∧ c < 330 then img (ix3 n (⟨r, h.1⟩ : Fin 180) (⟨c, h.2⟩ : Fin 330)) else 0

/-- The kernel's result on its arguments, at batch, output channel, pooled row and pooled column. -/
def layered (x : FVec Ideal S32x1024x2 .f32) (img : FVec Ideal S32x180x330 .f32) (w : FVec Ideal S32x1x3x3 .f32) (b g s : FVec Ideal S32 .f32)
    (n : Fin 32) (o : Fin 32) (r j : ℕ) : EReal :=
  poolLayer 180 330 (fused (heat (fun t => x (ix3 n t (0 : Fin 2))) (fun t => x (ix3 n t (1 : Fin 2)))) (pixels img n))
    (taps fun t (k : Fin 1) o => scaledW w g o t) (scaledB b g s) r j o

/-- The same by row of the stored block: the channels lie below one another, ninety rows each. -/
def result (x : FVec Ideal S32x1024x2 .f32) (img : FVec Ideal S32x180x330 .f32) (w : FVec Ideal S32x1x3x3 .f32) (b g s : FVec Ideal S32 .f32)
    (n : Fin 32) (i : Fin 2880) (j : Fin 165) : EReal :=
  layered x img w b g s n (⟨(i : ℕ) / 90, by have := i.isLt; omega⟩ : Fin 32) ((i : ℕ) % 90) j

/-- The layer of a grid point's blocks, when the blocks are the arguments' at image `n`. -/
theorem layered_eq (x0 : Vec Ideal S1x1024x2 .f32) (x1 : Vec Ideal S1x2x1024 .f32) (x2 : Vec Ideal S1x180x330 .f32) (x3 : Vec Ideal S32x9 .f32) (x4 : Vec Ideal S32 .f32)
    (x : FVec Ideal S32x1024x2 .f32) (img : FVec Ideal S32x180x330 .f32) (w : FVec Ideal S32x1x3x3 .f32) (b g s : FVec Ideal S32 .f32) (n : Fin 32)
    (h0 : ∀ p : Fin 1024, x0 (ix3 (0 : Fin 1) p (1 : Fin 2)) = x (ix3 n p (1 : Fin 2))) (h1 : ∀ p : Fin 1024, x1 (ix3 (0 : Fin 1) (0 : Fin 2) p) = x (ix3 n p (0 : Fin 2)))
    (h2 : ∀ (r : Fin 180) (q : Fin 330), x2 (ix3 (0 : Fin 1) r q) = img (ix3 n r q)) (h3 : ∀ (o : Fin 32) (u : Fin 9), x3 (ix2 o u) = scaledW w g o u)
    (h4 : ∀ o : Fin 32, x4 (ix1 o) = scaledB b g s o) (o : Fin 32) (r j : ℕ) :
    poolLayer 180 330 (scene x0 x1 x2) (taps fun t (k : Fin 1) o => x3 (ix2 o t)) (fun o => x4 (ix1 o)) r j o = layered x img w b g s n o r j := by
  unfold scene layered pixels
  simp only [h0, h1, h2, h3, h4]

variable (m : (ℓ : Loc nD τ sig) → Buf (Elt Ideal) ℓ) (ρ : Dev nD → PrngReg)

/-- What the body leaves in the output block at grid point `t`. -/
theorem point (c : Dev nD) (t : Fin cfg0.N) (i : Fin 2880) (j : Fin 165) :
    outsAt0 m c t (ix3 (0 : Fin 1) i j) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨t.val, (idx t).1⟩ : Fin 32) i j := by
  have hi := i.isLt
  refine (block_at c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (ms0_5 t) (hs0_5 t) (ms0_6 t) (hs0_6 t) (iblk m c 5 t)
    (sel_blk m c t) VO0_6 (grid0.coords t) (⟨(i : ℕ) / 90, by omega⟩ : Fin 32) (⟨(i : ℕ) % 90, by omega⟩ : Fin 90) j i (by simp only; omega)).trans ?_
  exact layered_eq _ _ _ _ _ _ _ _ _ _ _ _ (fun p => points_blk m c t p 1) (fun p => turned_blk m c t p 0) (picture_blk m c t) (weights_blk m c t) (biases_blk m c t) _ _ _

/-- The result array after the run. -/
theorem final (c : Dev nD) : (dats m 0 c).arrAt 6 cfg0.N
    = (fun y => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) (y 2) : FVec Ideal S32x2880x165 .f32) := by
  refine (dats m 0 c).arrAt_eq_of_covers 6 _ (by decide +kernel) fun t _ y => ?_
  have h0 : (((cfg0.win 6).blk t).view.emb y 0 : Fin 32) = (⟨t.val, (idx t).1⟩ : Fin 32) := by
    apply Fin.ext
    blk_simp [idx t]
  have h1 : (((cfg0.win 6).blk t).view.emb y 1 : Fin 2880) = y 1 := by
    apply Fin.ext
    blk_simp [idx t]
  have h2 : (((cfg0.win 6).blk t).view.emb y 2 : Fin 165) = y 2 := by
    apply Fin.ext
    blk_simp [idx t]
  blk_simp
  rw [after0_6]
  have hy : (y : S1x2880x165.Idx) = ix3 0 (y 1) (y 2) := by
    funext a
    match a with
    | 0 => exact Subsingleton.elim (α := Fin 1) _ _
    | 1 => rfl
    | 2 => rfl
  refine (congrArg (outsAt0 m c t) hy).trans ((point m c t (y 1) (y 2)).trans ?_)
  exact (congr (congr (congrArg (result _ _ _ _ _ _) h0) h1) h2).symm

end Cert.Stage1Ideal.First

end
-- ==== Proof.First.Scatter.lean ====
/- An accumulating scatter of scalars into a vector, read at one place: what was there and every update whose index is that place. -/
module

public import Idealize.ShloMosaic.Lib.Pointwise

@[expose] public section

set_option maxRecDepth 16384

noncomputable section

namespace Cert.First

open Idealize.ShloMosaic

/-- Update `i` lands at `x` exactly when its index, read as a signed number, is `x`. -/
theorem lands {N M : ℕ} (d : ScatterDims ⟨1, ![N]⟩ (⟨2, ![M, 1]⟩) (⟨1, ![M]⟩)) (hiw : d.insertedWindowDims = [0])
    (hsd : d.scatterDimsToOperandDims = [0]) (hivd : d.indexVectorDim = 1) (idx : IVec (⟨2, ![M, 1]⟩) 32) (i : Fin M) (x : Fin N) :
    d.resultIdx? (ix1 i) idx = some (ix1 x) ↔ (idx (ix2 i (0 : Fin 1))).toInt = (x.val : ℤ) := by
  have mem : (0 : Fin 1) ∈ d.scatterDimsToOperandDims := by rw [hsd]; exact List.mem_singleton.2 rfl
  have noWindow : d.window (ix1 i) 0 = 0 := by
    unfold ScatterDims.window
    refine dif_neg fun h => ?_
    have := of_decide_eq_true (List.mem_filter.1 h).2
    rw [hiw] at this
    exact this (List.mem_singleton.2 rfl)
  have at' : d.siIdx (ix1 i) ⟨d.scatterDimsToOperandDims.idxOf 0, List.idxOf_lt_length_iff.2 mem⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      have one : ∀ X : Fin 1, (ix1 i X).val = i.val := fun X => by
        rw [Subsingleton.elim X 0]
        rfl
      exact one _
    | ⟨1, _⟩ =>
      unfold ScatterDims.siIdx
      rw [dif_pos (by rw [hivd])]
      show List.idxOf (0 : Fin 1) d.scatterDimsToOperandDims = 0
      rw [hsd]; simp
  have start : d.start (ix1 i) idx 0 = (idx (ix2 i (0 : Fin 1))).toInt := by
    unfold ScatterDims.start
    rw [dif_pos mem, at']
  have hx := x.isLt
  unfold ScatterDims.resultIdx?
  split
  · next h =>
    have h0 := h 0
    change 0 ≤ d.start (ix1 i) idx 0 + (d.window (ix1 i) 0 : ℤ) ∧ d.start (ix1 i) idx 0 + (d.window (ix1 i) 0 : ℤ) < (N : ℤ) at h0
    rw [start, noWindow] at h0
    constructor
    · intro e
      have e0 := congrArg Fin.val (congrFun (Option.some.inj e) 0)
      change (d.start (ix1 i) idx 0 + (d.window (ix1 i) 0 : ℤ)).toNat = x.val at e0
      rw [start, noWindow] at e0
      omega
    · intro e
      refine congrArg some (funext fun a => Fin.ext ?_)
      match a with
      | ⟨0, _⟩ =>
        show (d.start (ix1 i) idx 0 + (d.window (ix1 i) 0 : ℤ)).toNat = x.val
        rw [start, noWindow]
        omega
  · next h =>
    constructor
    · intro e; cases e
    · intro e
      refine (h fun a => ?_).elim
      match a with
      | ⟨0, _⟩ =>
        show 0 ≤ d.start (ix1 i) idx 0 + (d.window (ix1 i) 0 : ℤ) ∧ d.start (ix1 i) idx 0 + (d.window (ix1 i) 0 : ℤ) < (N : ℤ)
        rw [start, noWindow]
        omega

/-- The scatter at one place. -/
theorem scattered {N M : ℕ} (d : ScatterDims ⟨1, ![N]⟩ (⟨2, ![M, 1]⟩) (⟨1, ![M]⟩)) (hiw : d.insertedWindowDims = [0])
    (hsd : d.scatterDimsToOperandDims = [0]) (hivd : d.indexVectorDim = 1) (z : (⟨1, ![N]⟩ : Shape).Idx → EReal) (idx : IVec (⟨2, ![M, 1]⟩) 32)
    (u : (⟨1, ![M]⟩ : Shape).Idx → EReal) (x : Fin N) :
    Ideal.hostScatterAdd d z idx u (ix1 x) = z (ix1 x) + ∑ i : Fin M, if (idx (ix2 i (0 : Fin 1))).toInt = (x.val : ℤ) then u (ix1 i) else 0 := by
  unfold Ideal.hostScatterAdd
  rw [Finset.sum_filter, sum_idx1]
  refine congrArg (z (ix1 x) + ·) (Finset.sum_congr rfl fun i _ => ?_)
  exact if_congr (lands d hiw hsd hivd idx i x) rfl rfl

/-- The scatter at one place, its updates and indices being reshaped tensors. -/
theorem scattered_reshaped {N M : ℕ} {s : Shape} (d : ScatterDims ⟨1, ![N]⟩ (⟨2, ![M, 1]⟩) (⟨1, ![M]⟩)) (hiw : d.insertedWindowDims = [0])
    (hsd : d.scatterDimsToOperandDims = [0]) (hivd : d.indexVectorDim = 1) (z : (⟨1, ![N]⟩ : Shape).Idx → EReal) (idx : IVec (⟨2, ![M, 1]⟩) 32)
    (U : s.Idx → EReal) (I : s.Idx → BitVec 32) (f : BitVec 32 → BitVec 32) (h : s.ShapeCasts (⟨1, ![M]⟩))
    (hidx : ∀ i : Fin M, idx (ix2 i (0 : Fin 1)) = f (shapeCast (⟨1, ![M]⟩) I h (ix1 i))) (x : Fin N) :
    Ideal.hostScatterAdd d z idx (shapeCast (⟨1, ![M]⟩) U h) (ix1 x)
      = z (ix1 x) + ∑ y : s.Idx, if (f (I y)).toInt = (x.val : ℤ) then U y else 0 := by
  rw [scattered d hiw hsd hivd]
  refine congrArg (z (ix1 x) + ·) ?_
  have e := sum_idx1 (fun j : (⟨1, ![M]⟩ : Shape).Idx => if (f (shapeCast (⟨1, ![M]⟩) I h j)).toInt = (x.val : ℤ) then shapeCast (⟨1, ![M]⟩) U h j else 0)
  refine Eq.trans (Finset.sum_congr rfl fun i _ => ?_) (e.symm.trans ?_)
  · rw [hidx]
  · exact Fintype.sum_equiv (Shape.reshapeEquiv h) _ _ fun _ => rfl

end Cert.First

end
-- ==== Proof.First.RefHeat.lean ====
/- The reference's heatmap, read at a pixel. -/
module

public import proofs.«01_k».proof.Proof.Gen.FirstMapIdeal.Run
public import proofs.«01_k».proof.Proof.First.Bell
public import proofs.«01_k».proof.Proof.First.Scatter

@[expose] public section

set_option maxRecDepth 16384

noncomputable section

namespace Cert.FirstMapIdeal.First

open Idealize.ShloMosaic Idealize.ShloMosaic.TcCoe Idealize.SL.Sem
open Cert.FirstMapIdeal Cert.FirstMapIdeal.Gen Cert.FirstMapIdeal.Value Cert.First

/-- The points a run starts from. -/
abbrev points (V : Valuation τ sig (Elt Ideal)) : FVec Ideal S32x1024x2 .f32 := V (Proc.devRef .tc main_arg0)

abbrev xs (V : Valuation τ sig (Elt Ideal)) (n : Fin 32) (t : Fin 1024) : EReal := points V (ix3 n t (0 : Fin 2))
abbrev ys (V : Valuation τ sig (Elt Ideal)) (n : Fin 32) (t : Fin 1024) : EReal := points V (ix3 n t (1 : Fin 2))

theorem rows_at (V : Valuation τ sig (Elt Ideal)) (n : Fin 32) (t : Fin 1024) : res_main_v8 V (ix2 n t) = rowOf (xs V n t) := by
  unfold res_main_v8
  pointwise
  rfl

theorem columns_at (V : Valuation τ sig (Elt Ideal)) (n : Fin 32) (t : Fin 1024) : res_main_v15 V (ix2 n t) = colOf (ys V n t) := by
  unfold res_main_v15
  pointwise
  rfl

theorem top_at (V : Valuation τ sig (Elt Ideal)) (n : Fin 32) (t : Fin 1024) : res_main_v41 V (ix2 n t) = clip 144 (rowOf (xs V n t) - 18#32) := by
  rw [← rows_at]
  unfold res_main_v41
  pointwise
  rfl

theorem left_at (V : Valuation τ sig (Elt Ideal)) (n : Fin 32) (t : Fin 1024) : res_main_v47 V (ix2 n t) = clip 294 (colOf (ys V n t) - 18#32) := by
  rw [← columns_at]
  unfold res_main_v47
  pointwise
  rfl

theorem bell_at (V : Valuation τ sig (Elt Ideal)) (r : Fin 37) : res_main_v31 V (ix1 r) = bell r := by
  unfold res_main_v31 res_main_v26
  pointwise
  have hr := r.isLt
  have h : FloatOps.sitofp (F := Ideal) FTy.f32 (BitVec.ofNat 32 (r : ℕ)) = (((r : ℕ) : ℝ) : EReal) := by
    show (((BitVec.ofNat 32 (r : ℕ)).toInt : ℝ) : EReal) = _
    rw [small_toInt _ (by omega)]
    norm_num
  rw [h, minus_eighteen, eighteen]
  exact bell_quotient r

theorem count_at (V : Valuation τ sig (Elt Ideal)) (r : Fin 37) : res_main_v51 V (ix1 r) = BitVec.ofNat 32 r := by
  unfold res_main_v51
  pointwise

/-- Where a point's patch adds its entries in the flat canvas. -/
def spot (V : Valuation τ sig (Elt Ideal)) : IVec S32x1024x37x37 32 :=
  addi (broadcastInDim S32x1024x37x37 ![0, 1, 2, 3] bcast_S32x1024x37x1_S32x1024x37x37_0_1_2_3 (muli (addi (broadcastInDim S32x1024x37x1 ![0, 1, 2, 3] bcast_S32x1x1x1_S32x1024x37x1_0_1_2_3 (muli (broadcastInDim S32x1x1x1 ![0] bcast_S32_S32x1x1x1_0 (iotaInDim S32 32 0)) (broadcastInDim S32x1x1x1 ![] bcast_S_S32x1x1x1 (constantI S_ 32 217#32)))) (addi (broadcastInDim S32x1024x37x1 ![0, 1, 2, 3] bcast_S32x1024x1x1_S32x1024x37x1_0_1_2_3 (broadcastInDim S32x1024x1x1 ![0, 1] bcast_S32x1024_S32x1024x1x1_0_1 (res_main_v41 V))) (broadcastInDim S32x1024x37x1 ![0, 1, 2, 3] bcast_S1x1x37x1_S32x1024x37x1_0_1_2_3 (broadcastInDim S1x1x37x1 ![2] bcast_S37_S1x1x37x1_2 (res_main_v51 V))))) (broadcastInDim S32x1024x37x1 ![] bcast_S_S32x1024x37x1 (constantI S_ 32 367#32)))) (broadcastInDim S32x1024x37x37 ![0, 1, 2, 3] bcast_S32x1024x1x37_S32x1024x37x37_0_1_2_3 (addi (broadcastInDim S32x1024x1x37 ![0, 1, 2, 3] bcast_S32x1024x1x1_S32x1024x1x37_0_1_2_3 (broadcastInDim S32x1024x1x1 ![0, 1] bcast_S32x1024_S32x1024x1x1_0_1 (res_main_v47 V))) (broadcastInDim S32x1024x1x37 ![0, 1, 2, 3] bcast_S1x1x1x37_S32x1024x1x37_0_1_2_3 (broadcastInDim S1x1x1x37 ![3] bcast_S37_S1x1x1x37_3 (res_main_v51 V)))))

/-- What each point's patch adds: the bell curve, cut where the patch is cut. -/
def patch (V : Valuation τ sig (Elt Ideal)) : FVec Ideal S32x1024x37x37 .f32 :=
  mulf (broadcastInDim S32x1024x37x37 ![0, 1, 2, 3] bcast_S1x1x37x37_S32x1024x37x37_0_1_2_3 (broadcastInDim S1x1x37x37 ![2, 3] bcast_S37x37_S1x1x37x37_2_3 (mulf (mulf (broadcastInDim S37x37 ![0, 1] bcast_S37x1_S37x37_0_1 (broadcastInDim S37x1 ![0] bcast_S37_S37x1_0 (res_main_v31 V))) (broadcastInDim S37x37 ![0, 1] bcast_S1x37_S37x37_0_1 (broadcastInDim S1x37 ![1] bcast_S37_S1x37_1 (res_main_v31 V)))) (broadcastInDim S37x37 ![] bcast_S_S37x37 (constant S_ .f32 0x3C90DDCA#32))))) (uitofp .f32 (andi (andi (broadcastInDim S32x1024x37x37 ![0, 1, 2, 3] bcast_S32x1024x37x1_S32x1024x37x37_0_1_2_3 (cmpi .slt (broadcastInDim S32x1024x37x1 ![0, 1, 2, 3] bcast_S1x1x37x1_S32x1024x37x1_0_1_2_3 (broadcastInDim S1x1x37x1 ![2] bcast_S37_S1x1x37x1_2 (res_main_v51 V))) (broadcastInDim S32x1024x37x1 ![0, 1, 2, 3] bcast_S32x1024x1x1_S32x1024x37x1_0_1_2_3 (broadcastInDim S32x1024x1x1 ![0, 1] bcast_S32x1024_S32x1024x1x1_0_1 (subi (minsi (broadcastInDim S32x1024 ![] bcast_S_S32x1024 (id (constantI S_ 32 180#32))) (maxsi (broadcastInDim S32x1024 ![] bcast_S_S32x1024 (id (constantI S_ 32 0#32))) (addi (res_main_v8 V) (broadcastInDim S32x1024 ![] bcast_S_S32x1024 (constantI S_ 32 18#32))))) (res_main_v41 V)))))) (broadcastInDim S32x1024x37x37 ![0, 1, 2, 3] bcast_S32x1024x1x37_S32x1024x37x37_0_1_2_3 (cmpi .slt (broadcastInDim S32x1024x1x37 ![0, 1, 2, 3] bcast_S1x1x1x37_S32x1024x1x37_0_1_2_3 (broadcastInDim S1x1x1x37 ![3] bcast_S37_S1x1x1x37_3 (res_main_v51 V))) (broadcastInDim S32x1024x1x37 ![0, 1, 2, 3] bcast_S32x1024x1x1_S32x1024x1x37_0_1_2_3 (broadcastInDim S32x1024x1x1 ![0, 1] bcast_S32x1024_S32x1024x1x1_0_1 (subi (minsi (broadcastInDim S32x1024 ![] bcast_S_S32x1024 (id (constantI S_ 32 330#32))) (maxsi (broadcastInDim S32x1024 ![] bcast_S_S32x1024 (id (constantI S_ 32 0#32))) (addi (res_main_v15 V) (broadcastInDim S32x1024 ![] bcast_S_S32x1024 (constantI S_ 32 18#32))))) (res_main_v47 V))))))) (broadcastInDim S32x1024x37x37 ![0, 1, 2, 3] bcast_S32x1024x1x1_S32x1024x37x37_0_1_2_3 (broadcastInDim S32x1024x1x1 ![0, 1] bcast_S32x1024_S32x1024x1x1_0_1 (noti (ori (cmpf .une (res_main_v17 V) (res_main_v17 V)) (cmpf .une (res_main_v20 V) (res_main_v20 V))))))))

/-- The patch's cut, as the integers compute it. -/
theorem cut (A B : ℕ) (hA : A < 900) (hB : B < 900) (p : BitVec 32) (r : ℕ) (hr : r < 900) :
    IntOp.cmpi CmpIPredicate.slt (BitVec.ofNat 32 r) (IntOp.subi (clip B (p + 18#32)) (clip A (p - 18#32)))
      = BitVec.ofBool (decide (lo A p + r < up B p)) := by
  have h1 := lo_le A (by omega) p
  have h2 := up_le B (by omega) p
  unfold lo at h1
  unfold up at h2
  have e1 := small_toInt r (by omega)
  have e2 := sub_toInt (clip B (p + 18#32)) (clip A (p - 18#32)) (by omega) (by omega)
  unfold IntOp.cmpi IntOp.subi lo up
  simp only [BitVec.slt, e1, e2]
  congr 1
  exact decide_eq_decide.2 (by omega)

theorem bit_real (c : Prop) [Decidable c] : FloatOps.uitofp (F := Ideal) FTy.f32 (BitVec.ofBool (decide c)) = if c then (1 : EReal) else 0 := by
  show (((BitVec.ofBool (decide c)).toNat : ℝ) : EReal) = _
  by_cases h : c <;> simp [h]

/-- A point's patch, added up at one pixel: the two bell curves there. -/
theorem patch_sum (p q : BitVec 32) (h w : ℕ) :
    (∑ r : Fin 37, ∑ c : Fin 37, if lo 144 p + r = h ∧ lo 294 q + c = w then
      bell r * bell c * norm * (if lo 144 p + r < up 180 p ∧ lo 294 q + c < up 330 q then (1 : EReal) else 0) else 0)
      = along 144 180 p h * norm * along 294 330 q w := by
  have u1 : up 180 p ≤ lo 144 p + 36 := up_lo 144 (by norm_num) p
  have u2 : up 330 q ≤ lo 294 q + 36 := up_lo 294 (by norm_num) q
  by_cases hr : lo 144 p ≤ h ∧ h < up 180 p
  · by_cases hc : lo 294 q ≤ w ∧ w < up 330 q
    · rw [Finset.sum_eq_single ⟨h - lo 144 p, by omega⟩, Finset.sum_eq_single ⟨w - lo 294 q, by omega⟩]
      · have a1 : lo 144 p + (h - lo 144 p) = h := by omega
        have a2 : lo 294 q + (w - lo 294 q) = w := by omega
        simp only [a1, a2]
        unfold along
        rw [if_pos ⟨trivial, trivial⟩, if_pos ⟨hr.2, hc.2⟩, if_pos hr, if_pos hc, mul_one, mul_right_comm]
      · intro b _ hb
        rw [if_neg]
        rintro ⟨-, hb'⟩
        exact hb (Fin.ext (by simp only; omega))
      · exact fun hh => absurd (Finset.mem_univ _) hh
      · intro b _ hb
        refine Finset.sum_eq_zero fun c _ => ?_
        rw [if_neg]
        rintro ⟨hb', -⟩
        exact hb (Fin.ext (by simp only; omega))
      · exact fun hh => absurd (Finset.mem_univ _) hh
    · have hz : along 294 330 q w = 0 := if_neg hc
      rw [hz, mul_zero]
      refine Finset.sum_eq_zero fun r _ => Finset.sum_eq_zero fun c _ => ?_
      split_ifs with h1 h2
      · exact absurd ⟨by omega, by omega⟩ hc
      · exact mul_zero _
      · rfl
  · have hz : along 144 180 p h = 0 := if_neg hr
    rw [hz, zero_mul, zero_mul]
    refine Finset.sum_eq_zero fun r _ => Finset.sum_eq_zero fun c _ => ?_
    split_ifs with h1 h2
    · exact absurd ⟨by omega, by omega⟩ hr
    · exact mul_zero _
    · rfl

theorem clip_lo (A : ℕ) (p : BitVec 32) : clip A (p - 18#32) = BitVec.ofNat 32 (lo A p) := by
  unfold lo
  rw [BitVec.ofNat_toNat, BitVec.setWidth_eq]

theorem spot_at (V : Valuation τ sig (Elt Ideal)) (n : Fin 32) (t : Fin 1024) (r c : Fin 37) :
    spot V (ix4 n t r c) = BitVec.ofNat 32 ((n * 217 + (lo 144 (rowOf (xs V n t)) + r)) * 367 + (lo 294 (colOf (ys V n t)) + c)) := by
  pointwise [spot]
  rw [top_at, left_at, count_at, count_at, clip_lo, clip_lo]
  unfold IntOp.addi IntOp.muli
  rw [BitVec.ofNat_add, BitVec.ofNat_mul, BitVec.ofNat_add, BitVec.ofNat_mul, BitVec.ofNat_add, BitVec.ofNat_add]

theorem patch_at (V : Valuation τ sig (Elt Ideal)) (n : Fin 32) (t : Fin 1024) (r c : Fin 37) :
    patch V (ix4 n t r c) = bell r * bell c * norm *
      (if lo 144 (rowOf (xs V n t)) + r < up 180 (rowOf (xs V n t)) ∧ lo 294 (colOf (ys V n t)) + c < up 330 (colOf (ys V n t)) then 1 else 0) := by
  pointwise [patch]
  rw [top_at, left_at, count_at, count_at, rows_at, columns_at, bell_at, bell_at]
  have hx : ~~~IntOp.ori (BitVec.ofBool (decide (res_main_v17 V (ix2 n t) ≠ res_main_v17 V (ix2 n t))))
      (BitVec.ofBool (decide (res_main_v20 V (ix2 n t) ≠ res_main_v20 V (ix2 n t)))) = 1#1 := by
    rw [show ∀ x : EReal, decide (x ≠ x) = false from fun x => decide_eq_false fun h => h rfl,
      show ∀ x : EReal, decide (x ≠ x) = false from fun x => decide_eq_false fun h => h rfl]
    decide
  have h1 := cut 144 180 (by norm_num) (by norm_num) (rowOf (xs V n t)) r (by omega)
  have h2 := cut 294 330 (by norm_num) (by norm_num) (colOf (ys V n t)) c (by omega)
  refine congrArg₂ (· * ·) rfl ?_
  refine (congrArg (FloatOps.uitofp (F := Ideal) FTy.f32) (congrArg₂ IntOp.andi (congrArg₂ IntOp.andi h1 h2) hx)).trans ?_
  rw [show ∀ b : BitVec 1, IntOp.andi b 1#1 = b by decide,
    show ∀ a b : Bool, IntOp.andi (BitVec.ofBool a) (BitVec.ofBool b) = BitVec.ofBool (a && b) by decide, ← Bool.decide_and]
  exact bit_real _

end Cert.FirstMapIdeal.First

end
-- ==== Proof.First.RefCanvas.lean ====
/- The reference's heatmap, read at a pixel: the scatter of every patch into a flat canvas. -/
module

public import proofs.«01_k».proof.Proof.First.RefHeat
public import proofs.«01_k».proof.Proof.First.Scatter

@[expose] public section

set_option maxRecDepth 16384

noncomputable section

namespace Cert.FirstMapIdeal.First

open Idealize.ShloMosaic Idealize.ShloMosaic.TcCoe Idealize.SL.Sem
open Cert.FirstMapIdeal Cert.FirstMapIdeal.Gen Cert.FirstMapIdeal.Value Cert.First

/-- A negative index would count from the end. -/
def wrap (b : BitVec 32) : BitVec 32 := Scalar.select (IntOp.cmpi CmpIPredicate.slt b 0#32) (IntOp.addi b 2548448#32) b

theorem wrap_small (k : ℕ) (hk : k < 1000000000) : (wrap (BitVec.ofNat 32 k)).toInt = k := by
  have h := small_toInt k hk
  have : IntOp.cmpi CmpIPredicate.slt (BitVec.ofNat 32 k) 0#32 = 0#1 := by
    unfold IntOp.cmpi
    simp only [BitVec.slt, h, show (0#32).toInt = 0 by decide]
    rw [decide_eq_false (by omega)]
    rfl
  unfold wrap
  rw [this]
  exact h

/-- The indices the scatter takes. -/
def places (V : Valuation τ sig (Elt Ideal)) : IVec S44859392x1 32 :=
  broadcastInDim S44859392x1 ![0] bcast_S44859392_S44859392x1_0 (select (cmpi .slt (res_main_v96 V) (broadcastInDim S44859392 ![] bcast_S_S44859392 (constantI S_ 32 0#32))) (addi (res_main_v96 V) (broadcastInDim S44859392 ![] bcast_S_S44859392 (constantI S_ 32 2548448#32))) (res_main_v96 V))

theorem places_at (V : Valuation τ sig (Elt Ideal)) (i : Fin 44859392) :
    places V (ix2 i (0 : Fin 1)) = wrap (shapeCast S44859392 (spot V) shapeCasts_S32x1024x37x37_S44859392 (ix1 i)) := by
  show _ = wrap (res_main_v96 V (ix1 i))
  generalize hq : res_main_v96 V = q
  unfold places
  rw [hq]
  pointwise
  rfl

/-- The flat canvas with every patch added. -/
def canvas (V : Valuation τ sig (Elt Ideal)) : FVec Ideal S2548448 .f32 :=
  Host.scatterAdd scatter_S2548448_S44859392x1_S44859392_n_0_0_1 (broadcastInDim S2548448 ![] bcast_S_S2548448 (constant S_ .f32 0x00000000#32)) (places V)
    (shapeCast _ (patch V) shapeCasts_S32x1024x37x37_S44859392)

/-- The scatter, with the canvas, the indices and the patches as variables. -/
theorem added (x : Fin 2548448) (z : FVec Ideal S2548448 .f32) (idx : IVec S44859392x1 32) (U : FVec Ideal S32x1024x37x37 .f32) (I : IVec S32x1024x37x37 32)
    (hp : ∀ i : Fin 44859392, idx (ix2 i (0 : Fin 1)) = wrap (shapeCast S44859392 I shapeCasts_S32x1024x37x37_S44859392 (ix1 i)))
    (d : ScatterDims S2548448 S44859392x1 S44859392) (h1 : d.insertedWindowDims = [0]) (h2 : d.scatterDimsToOperandDims = [0]) (h3 : d.indexVectorDim = 1)
    (hz : z (ix1 x) = 0) :
    Host.scatterAdd d z idx (shapeCast S44859392 U shapeCasts_S32x1024x37x37_S44859392) (ix1 x)
      = ∑ n : Fin 32, ∑ t : Fin 1024, ∑ r : Fin 37, ∑ c : Fin 37, if (wrap (I (ix4 n t r c))).toInt = (x.val : ℤ) then U (ix4 n t r c) else 0 := by
  have e : Host.scatterAdd d z idx (shapeCast S44859392 U shapeCasts_S32x1024x37x37_S44859392)
      = Ideal.hostScatterAdd d z idx (shapeCast S44859392 U shapeCasts_S32x1024x37x37_S44859392) := rfl
  rw [e, scattered_reshaped d h1 h2 h3 z idx U I wrap shapeCasts_S32x1024x37x37_S44859392 hp x, hz, zero_add]
  exact sum_idx4 fun y : S32x1024x37x37.Idx => if (wrap (I y)).toInt = (x.val : ℤ) then U y else 0

theorem blank (x : Fin 2548448) : (broadcastInDim S2548448 ![] bcast_S_S2548448 (constant (F := Ideal) S_ .f32 0x00000000#32)) (ix1 x) = (0 : EReal) := by
  pointwise

theorem canvas_at (V : Valuation τ sig (Elt Ideal)) (x : Fin 2548448) :
    canvas V (ix1 x) = ∑ n : Fin 32, ∑ t : Fin 1024, ∑ r : Fin 37, ∑ c : Fin 37,
      if (wrap (spot V (ix4 n t r c))).toInt = (x.val : ℤ) then patch V (ix4 n t r c) else 0 := by
  unfold canvas
  exact added x _ (places V) (patch V) (spot V) (places_at V) _ rfl rfl rfl (blank x)

theorem unflat (q : FVec Ideal S2548448 .f32) (n : Fin 32) (h : Fin 180) (w : Fin 330) (hk : ((n : ℕ) * 217 + h) * 367 + w < 2548448) :
    extractStridedSlice S32x180x330 ![0, 0, 0] (shapeCast S32x217x367 q shapeCasts_S2548448_S32x217x367) slices_S32x217x367_S32x180x330_0_0_0 (ix3 n h w)
      = q (ix1 ⟨((n : ℕ) * 217 + h) * 367 + w, hk⟩) := by
  pointwise
  refine congrArg q (congrArg ix1 (Fin.ext ?_))
  simp only
  ring

/-- The reference's heatmap is every point's patch added up. -/
theorem heat_at (V : Valuation τ sig (Elt Ideal)) (n : Fin 32) (h : Fin 180) (w : Fin 330) :
    (show EReal from res_main_v106 V (ix3 n h w)) = heat (xs V n) (ys V n) h w := by
  have hn := n.isLt
  have hh := h.isLt
  have hw := w.isLt
  have e : res_main_v106 V (ix3 n h w) = canvas V (ix1 ⟨((n : ℕ) * 217 + h) * 367 + w, by omega⟩) := by
    exact unflat (canvas V) n h w (by omega)
  refine e.trans ((canvas_at V _).trans ((Finset.sum_eq_single n ?_ ?_).trans ?_))
  rotate_left 2
  · unfold heat
    refine Finset.sum_congr rfl fun t _ => ?_
    rw [← patch_sum]
    refine Finset.sum_congr rfl fun r _ => Finset.sum_congr rfl fun c _ => ?_
    have h1 := lo_le 144 (by norm_num) (rowOf (xs V n t))
    have h2 := lo_le 294 (by norm_num) (colOf (ys V n t))
    have hr := r.isLt
    have hc := c.isLt
    rw [spot_at, patch_at, wrap_small _ (by omega)]
    generalize lo 144 (rowOf (xs V n t)) = a at *
    generalize lo 294 (colOf (ys V n t)) = b at *
    refine if_congr ?_ rfl rfl
    simp only
    constructor
    · intro hx
      have : ((n : ℕ) * 217 + (a + r)) * 367 + (b + c) = (n * 217 + h) * 367 + w := by exact_mod_cast hx
      omega
    · rintro ⟨hy, hz⟩
      rw [hy, hz]
  · intro n' _ hne
    refine Finset.sum_eq_zero fun t _ => Finset.sum_eq_zero fun r _ => Finset.sum_eq_zero fun c _ => ?_
    have h1 := lo_le 144 (by norm_num) (rowOf (xs V n' t))
    have h2 := lo_le 294 (by norm_num) (colOf (ys V n' t))
    have hr := r.isLt
    have hc := c.isLt
    have hn' := n'.isLt
    rw [spot_at, wrap_small _ (by omega)]
    generalize lo 144 (rowOf (xs V n' t)) = a at *
    generalize lo 294 (colOf (ys V n' t)) = b at *
    refine if_neg fun hx => hne (Fin.ext ?_)
    have : ((n' : ℕ) * 217 + (a + r)) * 367 + (b + c) = (n * 217 + h) * 367 + w := by exact_mod_cast hx
    omega
  · exact fun hh => absurd (Finset.mem_univ _) hh

end Cert.FirstMapIdeal.First

end
-- ==== Proof.First.RefConv.lean ====
/- The reference's fused picture, convolution and pooling, read at a position. -/
module

public import proofs.«01_k».proof.Proof.First.RefCanvas
public import proofs.«01_k».proof.Proof.First.Picture
public import proofs.«01_k».proof.Proof.Trunk.RefA

@[expose] public section

set_option maxRecDepth 16384

noncomputable section

namespace Cert.FirstMapIdeal.First

open Idealize.ShloMosaic Idealize.ShloMosaic.TcCoe Idealize.SL.Sem
open Cert.FirstMapIdeal Cert.FirstMapIdeal.Gen Cert.FirstMapIdeal.Value Cert.First Cert.Trunk
open Cert.ReferenceIdeal.Trunk (rawW plane conv9_at conv9_border window_at max4 sitofp_zero)

/-- The largest pixel of each heatmap. -/
def tops (h : FVec Ideal S32x180x330 .f32) : FVec Ideal S32 .f32 :=
  Host.reduce FloatOps.maximumf h (constant (F := Ideal) S_ .f32 0xFF800000#32) reducesTo_S32x180x330_S32_d1_2 h_S_

theorem tops_at (h : FVec Ideal S32x180x330 .f32) (n : Fin 32) : tops h (ix1 n) = ⨆ r : Fin 180, ⨆ c : Fin 330, h (ix3 n r c) := by
  have hbot : Ideal.ofBits FTy.f32 0xFF800000#32 = ⊥ := by simp [Ideal.ofBits, Ideal.ieee]
  pointwise [tops]
  exact (congrArg (fun b => Finset.fold max b _ _) hbot).trans ((fold_max_least _).trans (iSup_prod ..))

/-- The mixture of heatmap and image. -/
def mix (h : FVec Ideal S32x180x330 .f32) (m : FVec Ideal S32 .f32) (img : FVec Ideal S32x180x330 .f32) : FVec Ideal S32x180x330 .f32 :=
  addf (mulf (broadcastInDim S32x180x330 ![] bcast_S_S32x180x330 (constant (F := Ideal) S_ .f32 0x3F333333#32)) (Host.divf h (broadcastInDim S32x180x330 ![0, 1, 2] bcast_S32x1x1_S32x180x330_0_1_2 (addf (broadcastInDim S32x1x1 ![0] bcast_S32_S32x1x1_0 m) (broadcastInDim S32x1x1 ![] bcast_S_S32x1x1 (constant (F := Ideal) S_ .f32 0x2EDBE6FF#32)))))) (mulf (broadcastInDim S32x180x330 ![] bcast_S_S32x180x330 (constant (F := Ideal) S_ .f32 0x3E99999A#32)) img)

theorem mix_at (h : FVec Ideal S32x180x330 .f32) (m : FVec Ideal S32 .f32) (img : FVec Ideal S32x180x330 .f32) (n : Fin 32) (r : Fin 180) (c : Fin 330) :
    mix h m img (ix3 n r c) = Ideal.ofBits FTy.f32 0x3F333333#32 * Ideal.div (h (ix3 n r c)) (m (ix1 n) + Ideal.ofBits FTy.f32 0x2EDBE6FF#32)
      + Ideal.ofBits FTy.f32 0x3E99999A#32 * img (ix3 n r c) := by
  pointwise [mix]

/-- The mixture as a batch of one-channel pictures. -/
def lifted (x : FVec Ideal S32x180x330 .f32) : FVec Ideal S32x1x180x330 .f32 :=
  broadcastInDim S32x1x180x330 ![0, 2, 3] bcast_S32x180x330_S32x1x180x330_0_2_3 x

theorem lifted_at (x : FVec Ideal S32x180x330 .f32) (n : Fin 32) (k : Fin 1) (r : Fin 180) (c : Fin 330) : lifted x (ix4 n k r c) = x (ix3 n r c) := by
  pointwise [lifted]

/-- The nine products over a padded batch of 180 by 330 images, 1 channels to 32. -/
def convF (X : FVec Ideal S32x1x182x332 .f32) (w : FVec Ideal S32x1x3x3 .f32) : FVec Ideal S32x32x180x330 .f32 :=
  (addf (addf (addf (addf (addf (addf (addf (addf (transpose S32x32x180x330 [0, 3, 1, 2] (Host.dotGeneral (F := Ideal) dot_S32x1x180x330_S32x1_S32x180x330x32_1_1_023_0_n_n none (extractStridedSlice S32x1x180x330 ![0, 0, 0, 0] X slices_S32x1x182x332_S32x1x180x330_0_0_0_0) (shapeCast _ (extractStridedSlice S32x1x1x1 ![0, 0, 0, 0] w slices_S32x1x3x3_S32x1x1x1_0_0_0_0) shapeCasts_S32x1x1x1_S32x1)) transposes_S32x180x330x32_S32x32x180x330_0_3_1_2)
      (transpose S32x32x180x330 [0, 3, 1, 2] (Host.dotGeneral (F := Ideal) dot_S32x1x180x330_S32x1_S32x180x330x32_1_1_023_0_n_n none (extractStridedSlice S32x1x180x330 ![0, 0, 0, 1] X slices_S32x1x182x332_S32x1x180x330_0_0_0_1) (shapeCast _ (extractStridedSlice S32x1x1x1 ![0, 0, 0, 1] w slices_S32x1x3x3_S32x1x1x1_0_0_0_1) shapeCasts_S32x1x1x1_S32x1)) transposes_S32x180x330x32_S32x32x180x330_0_3_1_2))
      (transpose S32x32x180x330 [0, 3, 1, 2] (Host.dotGeneral (F := Ideal) dot_S32x1x180x330_S32x1_S32x180x330x32_1_1_023_0_n_n none (extractStridedSlice S32x1x180x330 ![0, 0, 0, 2] X slices_S32x1x182x332_S32x1x180x330_0_0_0_2) (shapeCast _ (extractStridedSlice S32x1x1x1 ![0, 0, 0, 2] w slices_S32x1x3x3_S32x1x1x1_0_0_0_2) shapeCasts_S32x1x1x1_S32x1)) transposes_S32x180x330x32_S32x32x180x330_0_3_1_2))
      (transpose S32x32x180x330 [0, 3, 1, 2] (Host.dotGeneral (F := Ideal) dot_S32x1x180x330_S32x1_S32x180x330x32_1_1_023_0_n_n none (extractStridedSlice S32x1x180x330 ![0, 0, 1, 0] X slices_S32x1x182x332_S32x1x180x330_0_0_1_0) (shapeCast _ (extractStridedSlice S32x1x1x1 ![0, 0, 1, 0] w slices_S32x1x3x3_S32x1x1x1_0_0_1_0) shapeCasts_S32x1x1x1_S32x1)) transposes_S32x180x330x32_S32x32x180x330_0_3_1_2))
      (transpose S32x32x180x330 [0, 3, 1, 2] (Host.dotGeneral (F := Ideal) dot_S32x1x180x330_S32x1_S32x180x330x32_1_1_023_0_n_n none (extractStridedSlice S32x1x180x330 ![0, 0, 1, 1] X slices_S32x1x182x332_S32x1x180x330_0_0_1_1) (shapeCast _ (extractStridedSlice S32x1x1x1 ![0, 0, 1, 1] w slices_S32x1x3x3_S32x1x1x1_0_0_1_1) shapeCasts_S32x1x1x1_S32x1)) transposes_S32x180x330x32_S32x32x180x330_0_3_1_2))
      (transpose S32x32x180x330 [0, 3, 1, 2] (Host.dotGeneral (F := Ideal) dot_S32x1x180x330_S32x1_S32x180x330x32_1_1_023_0_n_n none (extractStridedSlice S32x1x180x330 ![0, 0, 1, 2] X slices_S32x1x182x332_S32x1x180x330_0_0_1_2) (shapeCast _ (extractStridedSlice S32x1x1x1 ![0, 0, 1, 2] w slices_S32x1x3x3_S32x1x1x1_0_0_1_2) shapeCasts_S32x1x1x1_S32x1)) transposes_S32x180x330x32_S32x32x180x330_0_3_1_2))
      (transpose S32x32x180x330 [0, 3, 1, 2] (Host.dotGeneral (F := Ideal) dot_S32x1x180x330_S32x1_S32x180x330x32_1_1_023_0_n_n none (extractStridedSlice S32x1x180x330 ![0, 0, 2, 0] X slices_S32x1x182x332_S32x1x180x330_0_0_2_0) (shapeCast _ (extractStridedSlice S32x1x1x1 ![0, 0, 2, 0] w slices_S32x1x3x3_S32x1x1x1_0_0_2_0) shapeCasts_S32x1x1x1_S32x1)) transposes_S32x180x330x32_S32x32x180x330_0_3_1_2))
      (transpose S32x32x180x330 [0, 3, 1, 2] (Host.dotGeneral (F := Ideal) dot_S32x1x180x330_S32x1_S32x180x330x32_1_1_023_0_n_n none (extractStridedSlice S32x1x180x330 ![0, 0, 2, 1] X slices_S32x1x182x332_S32x1x180x330_0_0_2_1) (shapeCast _ (extractStridedSlice S32x1x1x1 ![0, 0, 2, 1] w slices_S32x1x3x3_S32x1x1x1_0_0_2_1) shapeCasts_S32x1x1x1_S32x1)) transposes_S32x180x330x32_S32x32x180x330_0_3_1_2))
      (transpose S32x32x180x330 [0, 3, 1, 2] (Host.dotGeneral (F := Ideal) dot_S32x1x180x330_S32x1_S32x180x330x32_1_1_023_0_n_n none (extractStridedSlice S32x1x180x330 ![0, 0, 2, 2] X slices_S32x1x182x332_S32x1x180x330_0_0_2_2) (shapeCast _ (extractStridedSlice S32x1x1x1 ![0, 0, 2, 2] w slices_S32x1x3x3_S32x1x1x1_0_0_2_2) shapeCasts_S32x1x1x1_S32x1)) transposes_S32x180x330x32_S32x32x180x330_0_3_1_2))

theorem convF_at (X : FVec Ideal S32x1x182x332 .f32) (w : FVec Ideal S32x1x3x3 .f32) (n : Fin 32) (o : Fin 32) (r : Fin 180) (c : Fin 330) :
    convF X w (ix4 n o r c) = conv9 (plane X n) (fun t k => taps (rawW w) t k o) r c := by
  unfold plane
  rw [conv9_at _ _ _ _ _ (by omega) (by omega)]
  unfold convF
  pointwise
  rfl

/-- A batch of 180 by 330 images of 1 channels inside a border of zeros. -/
def padF (X : FVec Ideal S32x1x180x330 .f32) : FVec Ideal S32x1x182x332 .f32 :=
  pad S32x1x182x332 ![0, 0, 1, 1] ![0, 0, 1, 1] ![0, 0, 0, 0] X (sitofp .f32 (constantI S_ 32 0#32)) pads_S32x1x180x330_S32x1x182x332_000_000_110_110 h_S_

theorem padF_at (X : FVec Ideal S32x1x180x330 .f32) (n : Fin 32) (k : Fin 1) (r : Fin 182) (c : Fin 332) :
    padF X (ix4 n k r c) = bordered 180 330 (plane X n) r c k := by
  unfold padF bordered plane image
  pointwise
  have hz : FloatOps.sitofp (F := Ideal) FTy.f32 0#32 = (0 : EReal) := sitofp_zero
  have hr := r.isLt
  have hc := c.isLt
  by_cases h : (1 ≤ r.val ∧ r.val - 1 < 180) ∧ 1 ≤ c.val ∧ c.val - 1 < 330
  · rw [dif_pos h, if_pos (by omega), dif_pos (by omega), Subsingleton.elim k 0]
  · rw [dif_neg h, if_neg (by omega)]
    exact hz

/-- A bias, a factor and a shift for each channel. -/
def bnF (C : FVec Ideal S32x32x180x330 .f32) (b g s : FVec Ideal S32 .f32) : FVec Ideal S32x32x180x330 .f32 :=
  addf (mulf (addf C (broadcastInDim S32x32x180x330 ![0, 1, 2, 3] bcast_S1x32x1x1_S32x32x180x330_0_1_2_3 (broadcastInDim S1x32x1x1 ![1] bcast_S32_S1x32x1x1_1 b))) (broadcastInDim S32x32x180x330 ![0, 1, 2, 3] bcast_S1x32x1x1_S32x32x180x330_0_1_2_3 (broadcastInDim S1x32x1x1 ![1] bcast_S32_S1x32x1x1_1 g))) (broadcastInDim S32x32x180x330 ![0, 1, 2, 3] bcast_S1x32x1x1_S32x32x180x330_0_1_2_3 (broadcastInDim S1x32x1x1 ![1] bcast_S32_S1x32x1x1_1 s))

theorem bnF_at (C : FVec Ideal S32x32x180x330 .f32) (b g s : FVec Ideal S32 .f32) (n : Fin 32) (o : Fin 32) (r : Fin 180) (c : Fin 330) :
    bnF C b g s (ix4 n o r c) = (C (ix4 n o r c) + b (ix1 o)) * g (ix1 o) + s (ix1 o) := by
  unfold bnF
  pointwise

/-- The maximum with zero. -/
def bnFRelu (C : FVec Ideal S32x32x180x330 .f32) : FVec Ideal S32x32x180x330 .f32 :=
  maximumf C (broadcastInDim S32x32x180x330 ![] bcast_S_S32x32x180x330 (constant S_ .f32 0x00000000#32))

theorem bnFRelu_at (C : FVec Ideal S32x32x180x330 .f32) (n : Fin 32) (o : Fin 32) (r : Fin 180) (c : Fin 330) :
    bnFRelu C (ix4 n o r c) = max (C (ix4 n o r c)) 0 := by
  unfold bnFRelu
  pointwise

/-- The layer of 1 channels to 32 on 180 by 330 images. -/
theorem layerF_plain (X : FVec Ideal S32x1x180x330 .f32) (w : FVec Ideal S32x1x3x3 .f32) (b g s : FVec Ideal S32 .f32) (n : Fin 32) (o : Fin 32) (r : Fin 180) (c : Fin 330) :
    bnF (convF (padF X) w) b g s (ix4 n o r c)
      = plain 180 330 (plane X n) (taps (rawW w)) (fun o => b (ix1 o)) (fun o => g (ix1 o)) (fun o => s (ix1 o)) r c o := by
  rw [bnF_at, convF_at]
  unfold plain plane
  rw [conv9_border (N := 32) (H := 180) (W := 330) _ (plane X n) _ r c r.isLt c.isLt fun r c k => padF_at X n k r c]
  rfl

/-- The 2×2 maximum of a batch of 180 by 330 images. -/
def poolF (X : FVec Ideal S32x32x180x330 .f32) : FVec Ideal S32x32x90x165 .f32 :=
  Host.reduceWindow FloatOps.maximumf ![1, 1, 2, 2] ![1, 1, 2, 2] ![0, 0, 0, 0] ![0, 0, 0, 0] X (broadcastInDim S_ ![] bcast_S_S_ (constant (F := Ideal) S_ .f32 0xFF800000#32)) reduceWindows_S32x32x180x330_S32x32x90x165_w1s1p0_0_w1s1p0_0_w2s2p0_0_w2s2p0_0 h_S_

theorem poolF_at (X : FVec Ideal S32x32x180x330 .f32) (n : Fin 32) (o : Fin 32) (r : Fin 90) (c : Fin 165) :
    poolF X (ix4 n o r c) = pool2 (fun r c => plane X n r c o) r c := by
  have hbot : (broadcastInDim S_ ![] bcast_S_S_ (constant (F := Ideal) S_ .f32 0xFF800000#32) : FVec Ideal S_ .f32) (Shape.Idx.first h_S_) = (⊥ : EReal) := by
    show Ideal.ofBits FTy.f32 0xFF800000#32 = ⊥
    simp [Ideal.ofBits, Ideal.ieee]
  have key : ∀ n' : Fin (Shape.numel ⟨4, ![1, 1, 2, 2]⟩), (if hin : ∀ a : Fin 4, (![0, 0, 0, 0] : Fin 4 → ℕ) a ≤ ((ix4 n o r c : S32x32x90x165.Idx) a).val * (![1, 1, 2, 2] : Fin 4 → ℕ) a + ((⟨4, ![1, 1, 2, 2]⟩ : Shape).rowMajor.symm n' a).val
        ∧ ((ix4 n o r c : S32x32x90x165.Idx) a).val * (![1, 1, 2, 2] : Fin 4 → ℕ) a + ((⟨4, ![1, 1, 2, 2]⟩ : Shape).rowMajor.symm n' a).val - (![0, 0, 0, 0] : Fin 4 → ℕ) a < S32x32x180x330.size a
      then X (fun a => ⟨_, (hin a).2⟩) else (⊥ : EReal)) = plane X n (2 * r + n'.val / 2) (2 * c + n'.val % 2) o := by
    intro n'
    have hn : n'.val < 4 := n'.isLt
    have hr := r.isLt
    have hc := c.isLt
    rw [dif_pos]
    · unfold plane image
      rw [dif_pos ⟨by omega, by omega⟩]
      congr 1
      funext a
      apply Fin.ext
      simp only [window_at]
      match a with
      | 0 => simp
      | 1 => simp
      | 2 => simp; ring
      | 3 => simp; ring
    · intro a
      simp only [window_at]
      match a with
      | 0 => simp
      | 1 => simp
      | 2 => simp; omega
      | 3 => simp; omega
  unfold poolF Host.reduceWindow
  simp only [hbot]
  refine (congrArg (fun f => List.foldl f (⊥ : EReal) (List.finRange (Shape.numel ⟨4, ![1, 1, 2, 2]⟩))) (funext fun a => funext fun k => congrArg (max a) (key k))).trans ?_
  show List.foldl (fun (a : EReal) (k : Fin 4) => max a (plane X n (2 * r + k.val / 2) (2 * c + k.val % 2) o)) ⊥ [0, 1, 2, 3] = _
  simp only [List.foldl, pool2]
  rw [max_eq_right bot_le]
  exact max4 _ _ _ _

/-- The pooled layer, its channels below one another. -/
def first (x : FVec Ideal S32x180x330 .f32) (w : FVec Ideal S32x1x3x3 .f32) (b g s : FVec Ideal S32 .f32) : FVec Ideal S32x2880x165 .f32 :=
  shapeCast S32x2880x165 (poolF (bnFRelu (bnF (convF (padF (lifted x)) w) b g s))) shapeCasts_S32x32x90x165_S32x2880x165

theorem flat_at (q : FVec Ideal S32x32x90x165 .f32) (n : Fin 32) (o : Fin 32) (r : Fin 90) (j : Fin 165) (i : Fin 2880) (hi : (i : ℕ) = o * 90 + r) :
    shapeCast S32x2880x165 q shapeCasts_S32x32x90x165_S32x2880x165 (ix3 n i j) = q (ix4 n o r j) := by
  have hr := r.isLt
  pointwise
  congr 1
  exact congrArg₂ (fun a b => ix4 n a b j) (Fin.ext (by simp only; omega)) (Fin.ext (by simp only; omega))

theorem first_at (x : FVec Ideal S32x180x330 .f32) (w : FVec Ideal S32x1x3x3 .f32) (b g s : FVec Ideal S32 .f32) (n : Fin 32) (o : Fin 32) (r : Fin 90)
    (j : Fin 165) (i : Fin 2880) (hi : (i : ℕ) = o * 90 + r) :
    first x w b g s (ix3 n i j)
      = poolPlain 180 330 (plane (lifted x) n) (taps (rawW w)) (fun o => b (ix1 o)) (fun o => g (ix1 o)) (fun o => s (ix1 o)) r j o := by
  have hr := r.isLt
  have hj := j.isLt
  have key : ∀ r c : ℕ, r < 180 → c < 330 → plane (bnFRelu (bnF (convF (padF (lifted x)) w) b g s)) n r c o
      = reluPlain 180 330 (plane (lifted x) n) (taps (rawW w)) (fun o => b (ix1 o)) (fun o => g (ix1 o)) (fun o => s (ix1 o)) r c o := by
    intro r c hr hc
    have e : ∀ Y : FVec Ideal S32x32x180x330 .f32, plane Y n r c o = Y (ix4 n o (⟨r, hr⟩ : Fin 180) (⟨c, hc⟩ : Fin 330)) := by
      intro Y
      unfold plane image
      rw [dif_pos ⟨hr, hc⟩]
    rw [e, bnFRelu_at, layerF_plain]
    rfl
  unfold first
  rw [flat_at _ n o r j i hi, poolF_at]
  unfold poolPlain pool2
  beta_reduce
  rw [key _ _ (by omega) (by omega), key _ _ (by omega) (by omega), key _ _ (by omega) (by omega), key _ _ (by omega) (by omega)]

end Cert.FirstMapIdeal.First

end
-- ==== Proof.First.Mixture.lean ====
/- The two ways of scaling the heatmap by its largest pixel agree. -/
module

public import proofs.«01_k».proof.Proof.First.Picture
public import proofs.«01_k».proof.Proof.Trunk.Plain

@[expose] public section

set_option maxRecDepth 16384

noncomputable section

namespace Cert.First

open Idealize.ShloMosaic Cert.Trunk

theorem share_real : IsReal (Ideal.ofBits FTy.f32 0x3F333333#32) := by
  refine ⟨11744051 / 16777216, ?_⟩
  simp [Ideal.ofBits, Ideal.ieee, -EReal.coe_mul]
  norm_num

theorem rest_real : IsReal (Ideal.ofBits FTy.f32 0x3E99999A#32) := by
  refine ⟨10066330 / 33554432, ?_⟩
  simp [Ideal.ofBits, Ideal.ieee, -EReal.coe_mul]
  norm_num

/-- The small constant beside the largest pixel is a positive real number. -/
theorem tiny_real : ∃ e : ℝ, Ideal.ofBits FTy.f32 0x2EDBE6FF#32 = (e : EReal) ∧ 0 < e := by
  refine ⟨14411519 * (2 ^ 57)⁻¹, ?_, by positivity⟩
  simp [Ideal.ofBits, Ideal.ieee, -EReal.coe_mul]

/-- The largest pixel of a heatmap of reals, none negative, is such a real. -/
theorem peak_real (H : ℕ → ℕ → EReal) (hH : ∀ h w, ∃ r : ℝ, H h w = (r : EReal) ∧ 0 ≤ r) : ∃ r : ℝ, peak H = (r : EReal) ∧ 0 ≤ r := by
  obtain ⟨h, eh⟩ := exists_eq_ciSup_of_finite (f := fun h : Fin 180 => ⨆ w : Fin 330, H h w)
  obtain ⟨w, ew⟩ := exists_eq_ciSup_of_finite (f := fun w : Fin 330 => H h w)
  obtain ⟨r, er, hr⟩ := hH h w
  exact ⟨r, eh.symm.trans (ew.symm.trans er), hr⟩

/-- The mixture, as a quotient by the largest pixel first. -/
theorem fused_at (H img : ℕ → ℕ → EReal) (hH : ∀ h w, ∃ r : ℝ, H h w = (r : EReal) ∧ 0 ≤ r) (r c : ℕ) (k : Fin 1) :
    fused H img r c k = Ideal.ofBits FTy.f32 0x3F333333#32 * Ideal.div (H r c) (peak H + Ideal.ofBits FTy.f32 0x2EDBE6FF#32)
      + Ideal.ofBits FTy.f32 0x3E99999A#32 * img r c := by
  obtain ⟨p, hp, hp0⟩ := peak_real H hH
  obtain ⟨e, he, he0⟩ := tiny_real
  have hne : p + e ≠ 0 := by positivity
  unfold fused
  rw [hp, he, ← EReal.coe_add, Ideal.div_coe hne, Ideal.div_coe hne, mul_assoc, mul_comm (((1 / (p + e) : ℝ) : EReal)) (H r c)]

/-- The mixture of reals is real. -/
theorem fused_real (H img : ℕ → ℕ → EReal) (hH : ∀ h w, ∃ r : ℝ, H h w = (r : EReal) ∧ 0 ≤ r) (hi : ∀ r c, IsReal (img r c)) (r c : ℕ) (k : Fin 1) :
    IsReal (fused H img r c k) := by
  obtain ⟨p, hp, hp0⟩ := peak_real H hH
  obtain ⟨e, he, he0⟩ := tiny_real
  obtain ⟨h, hh, _⟩ := hH r c
  have hne : p + e ≠ 0 := by positivity
  rw [fused_at H img hH, hp, he, ← EReal.coe_add, Ideal.div_coe hne]
  exact (share_real.mul (IsReal.mul ⟨h, hh⟩ ⟨_, rfl⟩)).add (rest_real.mul (hi r c))

end Cert.First

end
-- ==== Proof.First.Agree.lean ====
/- The reference's first layer is the kernel's, when image, weights, biases and normalisation constants are real numbers. -/
module

public import proofs.«01_k».proof.Proof.First.Result
public import proofs.«01_k».proof.Proof.First.RefConv
public import proofs.«01_k».proof.Proof.First.Mixture
public import proofs.«01_k».proof.Proof.Trunk.Agree

@[expose] public section

set_option maxRecDepth 16384

noncomputable section

namespace Cert.First

open Idealize.ShloMosaic Idealize.ShloMosaic.TcCoe Idealize.SL.Sem
open Cert.Trunk
open Cert.ReferenceIdeal.Trunk (rawW plane)
open Cert.FirstMapIdeal.First (first first_at mix mix_at tops tops_at lifted lifted_at)
open Cert.Stage1Ideal.First (pixels layered result scaledW scaledB)

/-- The largest pixels of a batch of heatmaps, one heatmap at a time. -/
theorem tops_peak (h : FVec Ideal ⟨3, ![32, 180, 330]⟩ .f32) (n : Fin 32) (H : ℕ → ℕ → EReal)
    (hh : ∀ (r : Fin 180) (c : Fin 330), (show EReal from h (ix3 n r c)) = H r c) : (show EReal from tops h (ix1 n)) = peak H :=
  (tops_at h n).trans (iSup_congr fun r => iSup_congr fun c => hh r c)

/-- The reference's mixture of one image is the kernel's, inside the picture. -/
theorem mix_fused (h img : FVec Ideal ⟨3, ![32, 180, 330]⟩ .f32) (n : Fin 32) (H : ℕ → ℕ → EReal) (hH : ∀ h w, ∃ r : ℝ, H h w = (r : EReal) ∧ 0 ≤ r)
    (hh : ∀ (r : Fin 180) (c : Fin 330), (show EReal from h (ix3 n r c)) = H r c) (r c : ℕ) (hr : r < 180) (hc : c < 330) (k : Fin 1) :
    plane (lifted (mix h (tops h) img)) n r c k = fused H (pixels img n) r c k := by
  have e : plane (lifted (mix h (tops h) img)) n r c k = lifted (mix h (tops h) img) (ix4 n k (⟨r, hr⟩ : Fin 180) (⟨c, hc⟩ : Fin 330)) := by
    unfold plane image
    rw [dif_pos ⟨hr, hc⟩]
  have p : pixels img n r c = img (ix3 n (⟨r, hr⟩ : Fin 180) (⟨c, hc⟩ : Fin 330)) := by
    unfold pixels
    rw [dif_pos ⟨hr, hc⟩]
  refine e.trans ((lifted_at _ n k _ _).trans ((mix_at h (tops h) img n _ _).trans ?_))
  refine Eq.trans ?_ (fused_at H (pixels img n) hH r c k).symm
  rw [p]
  exact congrArg (fun z => z + Ideal.ofBits FTy.f32 0x3E99999A#32 * (show EReal from img (ix3 n (⟨r, hr⟩ : Fin 180) (⟨c, hc⟩ : Fin 330))))
    (congrArg (fun z => Ideal.ofBits FTy.f32 0x3F333333#32 * z) (congrArg₂ (fun a b => Ideal.div a (b + Ideal.ofBits FTy.f32 0x2EDBE6FF#32)) (hh ⟨r, hr⟩ ⟨c, hc⟩) (tops_peak h n H hh)))

/-- Inside a border, only the picture's own positions count. -/
theorem bordered_inside (x y : ℕ → ℕ → Fin 1 → EReal) (h : ∀ r c k, r < 180 → c < 330 → x r c k = y r c k) : bordered 180 330 x = bordered 180 330 y := by
  funext r c k
  unfold bordered
  split
  · exact h _ _ _ (by omega) (by omega)
  · rfl

theorem poolLayer_inside {N : ℕ} (x y : ℕ → ℕ → Fin 1 → EReal) (h : ∀ r c k, r < 180 → c < 330 → x r c k = y r c k) (w : ℕ → Fin 1 → Fin N → EReal) (b : Fin N → EReal) :
    poolLayer 180 330 x w b = poolLayer 180 330 y w b := by
  have e := bordered_inside x y h
  funext r c o
  unfold poolLayer reluLayer layer
  rw [e]

theorem poolPlain_inside {N : ℕ} (x y : ℕ → ℕ → Fin 1 → EReal) (h : ∀ r c k, r < 180 → c < 330 → x r c k = y r c k) (w : ℕ → Fin 1 → Fin N → EReal) (b g s : Fin N → EReal) :
    poolPlain 180 330 x w b g s = poolPlain 180 330 y w b g s := by
  have e := bordered_inside x y h
  funext r c o
  unfold poolPlain reluPlain plain
  rw [e]

theorem taps_scaled (w : FVec Ideal ⟨4, ![32, 1, 3, 3]⟩ .f32) (g : FVec Ideal ⟨1, ![32]⟩ .f32) :
    (taps fun t (k : Fin 1) o => scaledW w g o t) = fun t k o => taps (rawW w) t k o * g (ix1 o) := by
  funext t k o
  unfold taps
  split
  · rw [Subsingleton.elim k 0]
    rfl
  · exact (zero_mul (M₀ := EReal) _).symm

/-- Reference and kernel, position by position. -/
theorem agree (x : FVec Ideal ⟨3, ![32, 1024, 2]⟩ .f32) (img : FVec Ideal ⟨3, ![32, 180, 330]⟩ .f32) (w : FVec Ideal ⟨4, ![32, 1, 3, 3]⟩ .f32) (b g s : FVec Ideal ⟨1, ![32]⟩ .f32)
    (hi : ∀ i, IsReal (img i)) (hw : ∀ i, IsReal (w i)) (hb : ∀ i, IsReal (b i)) (hg : ∀ i, IsReal (g i)) (hs : ∀ i, IsReal (s i))
    (h : FVec Ideal ⟨3, ![32, 180, 330]⟩ .f32)
    (hh : ∀ (n : Fin 32) (r : Fin 180) (c : Fin 330), (show EReal from h (ix3 n r c)) = heat (fun t => x (ix3 n t (0 : Fin 2))) (fun t => x (ix3 n t (1 : Fin 2))) r c)
    (n : Fin 32) (i : Fin 2880) (j : Fin 165) :
    first (mix h (tops h) img) w b g s (ix3 n i j) = result x img w b g s n i j := by
  have hb' := i.isLt
  have hpx : ∀ r c, IsReal (pixels img n r c) := by
    intro r c
    unfold pixels
    split
    · exact hi _
    · exact isReal_zero
  have hH := heat_real (fun t => x (ix3 n t (0 : Fin 2))) (fun t => x (ix3 n t (1 : Fin 2)))
  refine (first_at (mix h (tops h) img) w b g s n (⟨(i : ℕ) / 90, by omega⟩ : Fin 32) (⟨(i : ℕ) % 90, by omega⟩ : Fin 90) j i (by simp only; omega)).trans ?_
  rw [poolPlain_inside _ _ (fun r c k hr hc => mix_fused h img n _ hH (hh n) r c hr hc k)]
  rw [poolPlain_eq 180 330 _ _ _ _ _ (fused_real _ _ hH hpx) (taps_real w hw) (fun o => hb _) (fun o => hg _) (fun o => hs _)]
  unfold result layered
  rw [taps_scaled]
  rfl

end Cert.First

end
-- ==== Proof.First.RefRun.lean ====
/- The composed term of the reference's result is its first layer on the mixed pictures. -/
module

public import proofs.«01_k».proof.Proof.First.RefConv

@[expose] public section

set_option maxRecDepth 16384

noncomputable section

namespace Cert.FirstMapIdeal.First

open Idealize.ShloMosaic Idealize.ShloMosaic.TcCoe Idealize.SL.Sem Idealize.ShloMosaic.StableHlo
open Cert.FirstMapIdeal Cert.FirstMapIdeal.Gen Cert.FirstMapIdeal.Value Cert.First Cert.Trunk

variable (V : Valuation τ sig (Elt Ideal))

theorem t119 : res_main_v119 (F := Ideal) V = padF (lifted (mix (res_main_v106 V) (tops (res_main_v106 V)) (V (Proc.devRef .tc main_arg1)))) := rfl

/-- The composed term of the result. -/
theorem term_first :
    ((shapeCast _ (Host.reduceWindow FloatOps.maximumf ![1, 1, 2, 2] ![1, 1, 2, 2] ![0, 0, 0, 0] ![0, 0, 0, 0] (maximumf (addf (mulf (res_main_v175 V) (broadcastInDim S32x32x180x330 ![0, 1, 2, 3] bcast_S1x32x1x1_S32x32x180x330_0_1_2_3 (broadcastInDim S1x32x1x1 ![1] bcast_S32_S1x32x1x1_1 (V (Proc.devRef .tc main_arg4))))) (broadcastInDim S32x32x180x330 ![0, 1, 2, 3] bcast_S1x32x1x1_S32x32x180x330_0_1_2_3 (broadcastInDim S1x32x1x1 ![1] bcast_S32_S1x32x1x1_1 (V (Proc.devRef .tc main_arg5))))) (broadcastInDim S32x32x180x330 ![] bcast_S_S32x32x180x330 (constant S_ .f32 0x00000000#32))) (broadcastInDim S_ ![] bcast_S_S_ (constant S_ .f32 0xFF800000#32)) reduceWindows_S32x32x180x330_S32x32x90x165_w1s1p0_0_w1s1p0_0_w2s2p0_0_w2s2p0_0 h_S_) shapeCasts_S32x32x90x165_S32x2880x165) : FVec Ideal S32x2880x165 .f32)
      = first (mix (res_main_v106 V) (tops (res_main_v106 V)) (V (Proc.devRef .tc main_arg1))) (V (Proc.devRef .tc main_arg2)) (V (Proc.devRef .tc main_arg3)) (V (Proc.devRef .tc main_arg4)) (V (Proc.devRef .tc main_arg5)) := by
  refine Eq.trans (b := shapeCast S32x2880x165 (poolF (bnFRelu (bnF (convF (res_main_v119 V) (V (Proc.devRef .tc main_arg2))) (V (Proc.devRef .tc main_arg3)) (V (Proc.devRef .tc main_arg4)) (V (Proc.devRef .tc main_arg5))))) shapeCasts_S32x32x90x165_S32x2880x165) ?_ ?_
  · rfl
  · rw [t119]
    rfl

end Cert.FirstMapIdeal.First

end
-- ==== Proof.First.Finite.lean ====
/- What the precondition says: every element of image, weights, biases and normalisation constants is a real number. -/
module

public import proofs.«01_k».proof.Proof.Gen.Pre_finite_map
public import proofs.«01_k».proof.Proof.Trunk.Finite

@[expose] public section

set_option maxRecDepth 16384

noncomputable section

namespace Cert.Pre_finite_map.First

open Idealize.ShloMosaic Idealize.SL.Sem
open Cert.Pre_finite_map Cert.Pre_finite_map.Gen Cert.Trunk

open Cert.Pre_finite.Trunk (real_of_all andi_at)

theorem all_real (x0 : FVec Ideal S32x1024x2 .f32) (x1 : FVec Ideal S32x180x330 .f32) (x2 : FVec Ideal S32x1x3x3 .f32) (x3 x4 x5 : FVec Ideal S32 .f32)
    (h : fn x0 x1 x2 x3 x4 x5 = fun _ => 1#1) :
    (∀ i, IsReal (x1 i)) ∧ (∀ i, IsReal (x2 i)) ∧ (∀ i, IsReal (x3 i)) ∧ (∀ i, IsReal (x4 i)) ∧ (∀ i, IsReal (x5 i)) := by
  have e := congrFun h (fun k => k.elim0)
  simp only [fn, fn_part1] at e
  obtain ⟨e, e5⟩ := andi_at _ _ _ e
  obtain ⟨e, e4⟩ := andi_at _ _ _ e
  obtain ⟨e, e3⟩ := andi_at _ _ _ e
  obtain ⟨e, e2⟩ := andi_at _ _ _ e
  exact ⟨real_of_all _ _ _ _ _ e, real_of_all _ _ _ _ _ e2, real_of_all _ _ _ _ _ e3, real_of_all _ _ _ _ _ e4, real_of_all _ _ _ _ _ e5⟩

end Cert.Pre_finite_map.First

end
-- ==== Proof.First.Claims.lean ====
/- The claims about the first stage, one theorem each. -/
module

public import proofs.«01_k».proof.Defs
public import proofs.«01_k».proof.Proof.Gen.Stage1.Frame
public import proofs.«01_k».proof.Proof.Gen.Stage1Ideal.Value
public import proofs.«01_k».proof.Proof.Gen.FirstMapIdeal.Run
public import proofs.«01_k».proof.Proof.First.Agree
public import proofs.«01_k».proof.Proof.First.RefRun
public import proofs.«01_k».proof.Proof.First.Finite
public import Idealize.ShloMosaic.Adequacy
public import Idealize.ShloMosaic.Init

@[expose] public section

set_option maxRecDepth 16384

noncomputable section

namespace Cert.First

open Idealize.ShloMosaic Idealize.ShloMosaic.TcCoe Idealize.SL.Sem Idealize.ShloMosaic.StableHlo
open Cert.FirstMapIdeal.First (first mix tops)

theorem frame_kernel : Cert.quiescent_Stage1 := fun m g _ => Cert.Stage1.Gen.frame m g

theorem frame_ideal : Cert.quiescent_Stage1Ideal := fun m g _ => Cert.Stage1Ideal.Gen.frame m g

theorem frame_ideal_finite : Cert.quiescent_Stage1Ideal_pre_finite_map := fun m g _ => Cert.Stage1Ideal.Gen.frame m g

theorem frame_reference : Cert.quiescent_FirstMapIdeal := fun m g _ =>
  (θ_run Cert.FirstMapIdeal.defs _ _).mono (fun r h => ⟨fun c => (h c).2, sem_eq_zero_of_no_sems (by decide) r.2⟩)
    (Cert.FirstMapIdeal.Value.run (F := Ideal) m g)

theorem frame_reference_finite : Cert.quiescent_FirstMapIdeal_pre_finite_map := fun m g _ => frame_reference m g trivial

/-- The one named constant: one over eighteen, twice the square of the splat's width. -/
theorem preserves : Cert.preserves_Stage1_Stage1Ideal :=
  IdealRules.named_const.statement Cert.Stage1Ideal.κ "inv_two_sigma_sq" .f32 0x3D638E39#32 ((18⁻¹ : ℝ) : EReal) rfl

/-- The two results on one device's arguments. -/
theorem results (m : (ℓ : Loc Cert.Stage1Ideal.nD Cert.Stage1Ideal.τ Cert.Stage1Ideal.sig) → Buf (Elt Ideal) ℓ) (c : Dev Cert.Stage1Ideal.nD) (hp : Cert.Pre_Stage1Ideal_finite_map m)
    (h : FVec Ideal ⟨3, ![32, 180, 330]⟩ .f32)
    (hh : ∀ (n : Fin 32) (r : Fin 180) (q : Fin 330), (show EReal from h (ix3 n r q)) = heat (fun t => (m ((c.tc : Thread Cert.Stage1Ideal.nD Cert.Stage1Ideal.τ).loc Cert.Stage1Ideal.main_arg0)) (ix3 n t (0 : Fin 2))) (fun t => (m ((c.tc : Thread Cert.Stage1Ideal.nD Cert.Stage1Ideal.τ).loc Cert.Stage1Ideal.main_arg0)) (ix3 n t (1 : Fin 2))) r q) :
    (first (mix h (tops h) (m ((c.tc : Thread Cert.Stage1Ideal.nD Cert.Stage1Ideal.τ).loc Cert.Stage1Ideal.main_arg1))) (m ((c.tc : Thread Cert.Stage1Ideal.nD Cert.Stage1Ideal.τ).loc Cert.Stage1Ideal.main_arg2)) (m ((c.tc : Thread Cert.Stage1Ideal.nD Cert.Stage1Ideal.τ).loc Cert.Stage1Ideal.main_arg3)) (m ((c.tc : Thread Cert.Stage1Ideal.nD Cert.Stage1Ideal.τ).loc Cert.Stage1Ideal.main_arg4)) (m ((c.tc : Thread Cert.Stage1Ideal.nD Cert.Stage1Ideal.τ).loc Cert.Stage1Ideal.main_arg5)))
      = (Cert.Stage1Ideal.Gen.dats m 0 c).arrAt 6 Cert.Stage1Ideal.cfg0.N := by
  obtain ⟨h1, h2, h3, h4, h5⟩ := Cert.Pre_finite_map.First.all_real _ _ _ _ _ _ (hp c)
  refine Eq.trans ?_ (Cert.Stage1Ideal.First.final m c).symm
  funext y
  have hy : y = ix3 (y 0) (y 1) (y 2) := by
    funext a
    match a with
    | 0 => rfl
    | 1 => rfl
    | 2 => rfl
  exact (congrArg _ hy).trans (agree _ _ _ _ _ _ h1 h2 h3 h4 h5 h hh (y 0) (y 1) (y 2))

theorem algebraic : Cert.algebraic_Stage1Ideal_FirstMapIdeal_pre_finite_map := by
  intro m g m' g' hpre hagree
  refine ⟨fun c => (Cert.Stage1Ideal.Gen.dats m 0 c).arrAt 6 Cert.Stage1Ideal.cfg0.N, Cert.Stage1Ideal.Value.run_blocks m g, ?_⟩
  refine (θ_run Cert.FirstMapIdeal.defs _ _).mono (fun r h c => ⟨(h c).1.trans ?_, (h c).2⟩) (Cert.FirstMapIdeal.Value.run (F := Ideal) m' g')
  obtain ⟨e0, e1, e2, e3, e4, e5⟩ := hagree c
  have hh : ∀ (n : Fin 32) (r : Fin 180) (q : Fin 330), (show EReal from Cert.FirstMapIdeal.Value.res_main_v106 (F := Ideal) (launchContents m' c) (ix3 n r q))
      = heat (fun t => (m ((c.tc : Thread Cert.Stage1Ideal.nD Cert.Stage1Ideal.τ).loc Cert.Stage1Ideal.main_arg0)) (ix3 n t (0 : Fin 2))) (fun t => (m ((c.tc : Thread Cert.Stage1Ideal.nD Cert.Stage1Ideal.τ).loc Cert.Stage1Ideal.main_arg0)) (ix3 n t (1 : Fin 2))) r q := by
    intro n r q
    refine (Cert.FirstMapIdeal.First.heat_at (launchContents m' c) n r q).trans ?_
    rw [← e0]
  refine (Cert.FirstMapIdeal.First.term_first (launchContents m' c)).trans (Eq.trans ?_ (results m c hpre _ hh))
  generalize Cert.FirstMapIdeal.Value.res_main_v106 (F := Ideal) (launchContents m' c) = h
  show first (mix h (tops h) (m' ((c.tc : Thread Cert.FirstMapIdeal.nD Cert.FirstMapIdeal.τ).loc Cert.FirstMapIdeal.main_arg1))) (m' ((c.tc : Thread Cert.FirstMapIdeal.nD Cert.FirstMapIdeal.τ).loc Cert.FirstMapIdeal.main_arg2)) (m' ((c.tc : Thread Cert.FirstMapIdeal.nD Cert.FirstMapIdeal.τ).loc Cert.FirstMapIdeal.main_arg3)) (m' ((c.tc : Thread Cert.FirstMapIdeal.nD Cert.FirstMapIdeal.τ).loc Cert.FirstMapIdeal.main_arg4)) (m' ((c.tc : Thread Cert.FirstMapIdeal.nD Cert.FirstMapIdeal.τ).loc Cert.FirstMapIdeal.main_arg5)) = _
  rw [e1, e2, e3, e4, e5]

end Cert.First

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Stage1
public import proofs.«01_k».proof.Proof.Gen.Stage1.Skeleton
public import proofs.«01_k».proof.Proof.Gen.Stage1.Launch
public import proofs.«01_k».proof.Proof.Gen.Stage1.Points
public import proofs.«01_k».proof.Proof.Gen.Stage1.Frame
public import proofs.«01_k».proof.Proof.Gen.Stage1Ideal
public import proofs.«01_k».proof.Proof.Gen.Stage1Ideal.Skeleton
public import proofs.«01_k».proof.Proof.Gen.Stage1Ideal.Launch
public import proofs.«01_k».proof.Proof.Gen.Stage1Ideal.Points
public import proofs.«01_k».proof.Proof.Gen.Stage1Ideal.Frame
public import proofs.«01_k».proof.Proof.Gen.FirstMapIdeal
public import proofs.«01_k».proof.Proof.Gen.Pre_finite
public import proofs.«01_k».proof.Proof.Gen.Pre_finite_map
public import proofs.«01_k».proof.Proof.Gen.KernelIdeal.Value
public import proofs.«01_k».proof.Proof.Gen.Stage1Ideal.Value
public import proofs.«01_k».proof.Proof.Gen.FirstMapIdeal.Run
public import proofs.«01_k».proof.Proof.Gen.ReferenceIdeal.Run
public import proofs.«01_k».proof.Proof.Trunk.Claims
public import proofs.«01_k».proof.Proof.First.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Stage1.Gen.facts, Cert.Stage1Ideal.Gen.facts, Cert.FirstMapIdeal.Gen.facts, Cert.Pre_finite.Gen.facts, Cert.Pre_finite_map.Gen.facts,
  Cert.Trunk.frame_kernel, Cert.Trunk.frame_ideal, Cert.Trunk.frame_ideal_finite, Cert.Trunk.frame_reference, Cert.Trunk.frame_reference_finite,
  Cert.First.frame_kernel, Cert.First.frame_ideal, Cert.First.frame_ideal_finite, Cert.First.frame_reference, Cert.First.frame_reference_finite,
  Cert.Trunk.preserves, Cert.Trunk.algebraic, Cert.First.preserves, Cert.First.algebraic⟩

end Cert.Proof

end
